-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x128x128 : Shape := ⟨4, ![1, 2048, 128, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .f32) (main_arg1 : FVec F S1024x1024 .f32) (main_arg2 : FVec F S1x2048x128x128 .f32) (main_arg3 : FVec F S1x2048x128x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x128x128 .f32 := Host.absf main_arg2
  let main_cst_2 : FVec F S_ .f32 := constant S_ .f32 0x7F800000#32
  let main_v10 : FVec F S1x2048x128x128 .f32 := broadcastInDim S1x2048x128x128 ![] bcast_S_S1x2048x128x128 main_cst_2
  let main_v11 : IVec S1x2048x128x128 1 := cmpf .olt main_v9 main_v10
  let main_c_3 : IVec S_ 1 := constantI S_ 1 1#1
  let main_v12 : IVec S_ 1 := (fun x v => Host.reduce IntOp.andi x v reducesTo_S1x2048x128x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .f32) (main_arg1 : FVec F S1024x16384 .f32) (main_arg2 : FVec F S1x2048x128x128 .f32) (main_arg3 : FVec F S1x2048x128x128 .f32) (main_arg4 : FVec F S16384x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x2048x128x128 .f32 := Host.absf main_arg2
  let main_cst_2 : FVec F S_ .f32 := constant S_ .f32 0x7F800000#32
  let main_v10 : FVec F S1x2048x128x128 .f32 := broadcastInDim S1x2048x128x128 ![] bcast_S_S1x2048x128x128 main_cst_2
  let main_v11 : IVec S1x2048x128x128 1 := cmpf .olt main_v9 main_v10
  let main_c_3 : IVec S_ 1 := constantI S_ 1 1#1
  let main_v12 : IVec S_ 1 := (fun x v => Host.reduce IntOp.andi x v reducesTo_S1x2048x128x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x128x128 : Shape := ⟨4, ![1, 2048, 128, 128]⟩
abbrev S2048x1024 : Shape := ⟨2, ![2048, 1024]⟩
abbrev S2x2048x1x128 : Shape := ⟨4, ![2, 2048, 1, 128]⟩
abbrev S2 : Shape := ⟨1, ![2]⟩
abbrev S1 : Shape := ⟨1, ![1]⟩
abbrev S_ : Shape := ⟨0, ![]⟩
abbrev S1x2048x1x128 : Shape := ⟨4, ![1, 2048, 1, 128]⟩
abbrev S2048x1x128 : Shape := ⟨3, ![2048, 1, 128]⟩
abbrev S2048x128 : Shape := ⟨2, ![2048, 128]⟩
abbrev S128x1024 : Shape := ⟨2, ![128, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1024x128 : Shape := ⟨2, ![1024, 128]⟩
abbrev S1536x128 : Shape := ⟨2, ![1536, 128]⟩
abbrev S512x1536 : Shape := ⟨2, ![512, 1536]⟩
abbrev S512x2048 : Shape := ⟨2, ![512, 2048]⟩
abbrev S15x128x512 : Shape := ⟨3, ![15, 128, 512]⟩
abbrev S128x512 : Shape := ⟨2, ![128, 512]⟩
abbrev S2048x512 : Shape := ⟨2, ![2048, 512]⟩
abbrev S15 : Shape := ⟨1, ![15]⟩
abbrev S1x2048x512 : Shape := ⟨3, ![1, 2048, 512]⟩
abbrev S1x128x512 : Shape := ⟨3, ![1, 128, 512]⟩

abbrev nBuf : Space → Nat
  | .hbm => 7
  | .vmem => 19
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x128x128, .f32⟩
  | .hbm, ⟨3, _⟩ => ⟨S1x2048x128x128, .f32⟩
  | .hbm, ⟨4, _⟩ => ⟨S1024x1024, .f32⟩
  | .hbm, ⟨5, _⟩ => ⟨S1x2048x1024, .f32⟩
  | .hbm, ⟨6, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x1024, .f32⟩
  | .local _ .vmem, ⟨4, _⟩ => ⟨S2048x1024, .f32⟩
  | .local _ .vmem, ⟨5, _⟩ => ⟨S2x2048x1x128, .f32⟩
  | .local _ .vmem, ⟨6, _⟩ => ⟨S2x2048x1x128, .f32⟩
  | .local _ .vmem, ⟨7, _⟩ => ⟨S1x2048x1024, .f32⟩
  | .local _ .vmem, ⟨8, _⟩ => ⟨S1x2048x1024, .f32⟩
  | .local _ .vmem, ⟨9, _⟩ => ⟨S15x128x512, .bf16⟩
  | .local _ .vmem, ⟨10, _⟩ => ⟨S15x128x512, .bf16⟩
  | .local _ .vmem, ⟨11, _⟩ => ⟨S15x128x512, .bf16⟩
  | .local _ .vmem, ⟨12, _⟩ => ⟨S128x512, .bf16⟩
  | .local _ .vmem, ⟨13, _⟩ => ⟨S15x128x512, .bf16⟩
  | .local _ .vmem, ⟨14, _⟩ => ⟨S15x128x512, .bf16⟩
  | .local _ .vmem, ⟨15, _⟩ => ⟨S15x128x512, .bf16⟩
  | .local _ .vmem, ⟨16, _⟩ => ⟨S128x512, .bf16⟩
  | .local _ .vmem, ⟨17, _⟩ => ⟨S2048x512, .bf16⟩
  | .local _ .vmem, ⟨18, _⟩ => ⟨S2048x512, .bf16⟩
  | _, _ => ⟨S1x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc1_stg0_0 : Ref sig .tc := ⟨.vmem, 7, rfl⟩
abbrev cc1_stg1_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc1_scratch4 : Ref sig .tc := ⟨.vmem, 13, rfl⟩
abbrev cc1_scratch5 : Ref sig .tc := ⟨.vmem, 14, rfl⟩
abbrev cc1_scratch6 : Ref sig .tc := ⟨.vmem, 15, rfl⟩
abbrev cc1_scratch7 : Ref sig .tc := ⟨.vmem, 16, rfl⟩
abbrev cc1_scratch8 : Ref sig .tc := ⟨.vmem, 17, rfl⟩
abbrev cc1_scratch9 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 8
abbrev cc1_sem1_0 : DmaSem sig := 9
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 4 → Nat :=
  let c0_i32_10 : BitVec 32 := 0#32
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.muli v2 c8_i32
  let v14 : BitVec 32 := Scalar.addi v13 c0_i32
  let c0_i32_17 : BitVec 32 := 0#32
  ![0, 0, v14.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

def k1_dev1 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_78 : BitVec 32 := 1#32
  let v147 : BitVec 32 := Scalar.muli v92 c1_i32_78
  let v148 : BitVec 32 := Scalar.addi c0_i32_79 v147
  v148.toNat
def k1_dev2 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_81 : BitVec 32 := 1#32
  let v149 : BitVec 32 := Scalar.muli v145 c1_i32_81
  let v150 : BitVec 32 := Scalar.addi c0_i32_82 v149
  v150.toNat
def k1_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c128_i32 : BitVec 32 := 128#32
  let v163 : BitVec 32 := Scalar.muli v38 c128_i32
  let v164 : Index := Scalar.indexCast v163
  let c0_92 : Index := 0#32
  ![v164.toNat, 0]
def k1_dev3 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_105 : BitVec 32 := 1#32
  let v175 : BitVec 32 := Scalar.muli v145 c1_i32_105
  let v176 : BitVec 32 := Scalar.addi c0_i32_106 v175
  v176.toNat
def k1_dev4 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_115 : BitVec 32 := 1#32
  let v185 : BitVec 32 := Scalar.muli v92 c1_i32_115
  let v186 : BitVec 32 := Scalar.addi c0_i32_116 v185
  v186.toNat
def k1_off2 (d0 : Dev nD) (c0_i32_142 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c32_i32 : BitVec 32 := 32#32
  let v211 : BitVec 32 := Scalar.addi v38 c32_i32
  let c1_i32_141 : BitVec 32 := 1#32
  let v212 : BitVec 32 := Scalar.subi v211 c1_i32_141
  let v213 : BitVec 32 := Scalar.subi v212 c0_i32_142
  let c16_i32_143 : BitVec 32 := 16#32
  let c0_i32_144 : BitVec 32 := 0#32
  let v214 : BitVec 1 := Scalar.cmpi .eq c16_i32_143 c0_i32_144
  let c1_i32_145 : BitVec 32 := 1#32
  let v215 : BitVec 32 := Scalar.select v214 c1_i32_145 c16_i32_143
  let v216 : BitVec 32 := Scalar.remsi v213 v215
  let c0_i32_147 : BitVec 32 := 0#32
  let v218 : BitVec 1 := Scalar.cmpi .slt v216 c0_i32_147
  let c0_i32_148 : BitVec 32 := 0#32
  let v219 : BitVec 1 := Scalar.cmpi .slt v215 c0_i32_148
  let v220 : BitVec 1 := Scalar.xori v218 v219
  let c0_i32_146 : BitVec 32 := 0#32
  let v217 : BitVec 1 := Scalar.cmpi .ne v216 c0_i32_146
  let v221 : BitVec 1 := Scalar.andi v220 v217
  let v222 : BitVec 32 := Scalar.addi v216 v215
  let v223 : BitVec 32 := Scalar.select v221 v222 v216
  let c128_i32_160 : BitVec 32 := 128#32
  let v238 : BitVec 32 := Scalar.muli v223 c128_i32_160
  let v239 : Index := Scalar.indexCast v238
  let c0_161 : Index := 0#32
  ![v239.toNat, 0]
def k1_off3 (d0 : Dev nD) (c0_i32_150 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_149 : BitVec 32 := 1#32
  let v224 : BitVec 32 := Scalar.addi v38 c1_i32_149
  let v225 : BitVec 32 := Scalar.addi v224 c0_i32_150
  let c16_i32_151 : BitVec 32 := 16#32
  let c0_i32_152 : BitVec 32 := 0#32
  let v226 : BitVec 1 := Scalar.cmpi .eq c16_i32_151 c0_i32_152
  let c1_i32_153 : BitVec 32 := 1#32
  let v227 : BitVec 32 := Scalar.select v226 c1_i32_153 c16_i32_151
  let v228 : BitVec 32 := Scalar.remsi v225 v227
  let c0_i32_155 : BitVec 32 := 0#32
  let v230 : BitVec 1 := Scalar.cmpi .slt v228 c0_i32_155
  let c0_i32_156 : BitVec 32 := 0#32
  let v231 : BitVec 1 := Scalar.cmpi .slt v227 c0_i32_156
  let v232 : BitVec 1 := Scalar.xori v230 v231
  let c0_i32_154 : BitVec 32 := 0#32
  let v229 : BitVec 1 := Scalar.cmpi .ne v228 c0_i32_154
  let v233 : BitVec 1 := Scalar.andi v232 v229
  let v234 : BitVec 32 := Scalar.addi v228 v227
  let v235 : BitVec 32 := Scalar.select v233 v234 v228
  let c128_i32_167 : BitVec 32 := 128#32
  let v247 : BitVec 32 := Scalar.muli v235 c128_i32_167
  let v248 : Index := Scalar.indexCast v247
  let c0_168 : Index := 0#32
  ![v248.toNat, 0]
def k1_dev5 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_176 : BitVec 32 := 1#32
  let v254 : BitVec 32 := Scalar.muli v145 c1_i32_176
  let v255 : BitVec 32 := Scalar.addi c0_i32_177 v254
  v255.toNat
def k1_dev6 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_186 : BitVec 32 := 1#32
  let v264 : BitVec 32 := Scalar.muli v92 c1_i32_186
  let v265 : BitVec 32 := Scalar.addi c0_i32_187 v264
  v265.toNat
def k1_dev7 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_248 : BitVec 32 := 1#32
  let v333 : BitVec 32 := Scalar.muli v145 c1_i32_248
  let v334 : BitVec 32 := Scalar.addi c0_i32_249 v333
  v334.toNat
def k1_dev8 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_258 : BitVec 32 := 1#32
  let v343 : BitVec 32 := Scalar.muli v92 c1_i32_258
  let v344 : BitVec 32 := Scalar.addi c0_i32_259 v343
  v344.toNat
def k1_dev9 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_320 : BitVec 32 := 1#32
  let v412 : BitVec 32 := Scalar.muli v145 c1_i32_320
  let v413 : BitVec 32 := Scalar.addi c0_i32_321 v412
  v413.toNat
def k1_dev10 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_330 : BitVec 32 := 1#32
  let v422 : BitVec 32 := Scalar.muli v92 c1_i32_330
  let v423 : BitVec 32 := Scalar.addi c0_i32_331 v422
  v423.toNat
def k1_dev11 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_392 : BitVec 32 := 1#32
  let v491 : BitVec 32 := Scalar.muli v145 c1_i32_392
  let v492 : BitVec 32 := Scalar.addi c0_i32_393 v491
  v492.toNat
def k1_dev12 (d0 : Dev nD) : Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_402 : BitVec 32 := 1#32
  let v501 : BitVec 32 := Scalar.muli v92 c1_i32_402
  let v502 : BitVec 32 := Scalar.addi c0_i32_403 v501
  v502.toNat
def k1_dev13 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_463 : BitVec 32 := 1#32
  let v570 : BitVec 32 := Scalar.muli v145 c1_i32_463
  let v571 : BitVec 32 := Scalar.addi c0_i32_464 v570
  v571.toNat
def k1_dev14 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_473 : BitVec 32 := 1#32
  let v580 : BitVec 32 := Scalar.muli v92 c1_i32_473
  let v581 : BitVec 32 := Scalar.addi c0_i32_474 v580
  v581.toNat
def k1_dev15 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_534 : BitVec 32 := 1#32
  let v649 : BitVec 32 := Scalar.muli v145 c1_i32_534
  let v650 : BitVec 32 := Scalar.addi c0_i32_535 v649
  v650.toNat
def k1_dev16 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_544 : BitVec 32 := 1#32
  let v659 : BitVec 32 := Scalar.muli v92 c1_i32_544
  let v660 : BitVec 32 := Scalar.addi c0_i32_545 v659
  v660.toNat
def k1_dev17 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_606 : BitVec 32 := 1#32
  let v728 : BitVec 32 := Scalar.muli v145 c1_i32_606
  let v729 : BitVec 32 := Scalar.addi c0_i32_607 v728
  v729.toNat
def k1_dev18 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_616 : BitVec 32 := 1#32
  let v738 : BitVec 32 := Scalar.muli v92 c1_i32_616
  let v739 : BitVec 32 := Scalar.addi c0_i32_617 v738
  v739.toNat
def k1_dev19 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_678 : BitVec 32 := 1#32
  let v807 : BitVec 32 := Scalar.muli v145 c1_i32_678
  let v808 : BitVec 32 := Scalar.addi c0_i32_679 v807
  v808.toNat
def k1_dev20 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_688 : BitVec 32 := 1#32
  let v817 : BitVec 32 := Scalar.muli v92 c1_i32_688
  let v818 : BitVec 32 := Scalar.addi c0_i32_689 v817
  v818.toNat
def k1_dev21 (d0 : Dev nD) : Nat :=
  let c0_i32_750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_749 : BitVec 32 := 1#32
  let v886 : BitVec 32 := Scalar.muli v145 c1_i32_749
  let v887 : BitVec 32 := Scalar.addi c0_i32_750 v886
  v887.toNat
def k1_dev22 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_759 : BitVec 32 := 1#32
  let v896 : BitVec 32 := Scalar.muli v92 c1_i32_759
  let v897 : BitVec 32 := Scalar.addi c0_i32_760 v896
  v897.toNat
def k1_dev23 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_820 : BitVec 32 := 1#32
  let v965 : BitVec 32 := Scalar.muli v145 c1_i32_820
  let v966 : BitVec 32 := Scalar.addi c0_i32_821 v965
  v966.toNat
def k1_dev24 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_830 : BitVec 32 := 1#32
  let v975 : BitVec 32 := Scalar.muli v92 c1_i32_830
  let v976 : BitVec 32 := Scalar.addi c0_i32_831 v975
  v976.toNat
def k1_dev25 (d0 : Dev nD) : Nat :=
  let c0_i32_892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_891 : BitVec 32 := 1#32
  let v1044 : BitVec 32 := Scalar.muli v145 c1_i32_891
  let v1045 : BitVec 32 := Scalar.addi c0_i32_892 v1044
  v1045.toNat
def k1_dev26 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_901 : BitVec 32 := 1#32
  let v1054 : BitVec 32 := Scalar.muli v92 c1_i32_901
  let v1055 : BitVec 32 := Scalar.addi c0_i32_902 v1054
  v1055.toNat
def k1_dev27 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_962 : BitVec 32 := 1#32
  let v1123 : BitVec 32 := Scalar.muli v145 c1_i32_962
  let v1124 : BitVec 32 := Scalar.addi c0_i32_963 v1123
  v1124.toNat
def k1_dev28 (d0 : Dev nD) : Nat :=
  let c0_i32_973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_972 : BitVec 32 := 1#32
  let v1133 : BitVec 32 := Scalar.muli v92 c1_i32_972
  let v1134 : BitVec 32 := Scalar.addi c0_i32_973 v1133
  v1134.toNat
def k1_dev29 (d0 : Dev nD) : Nat :=
  let c0_i32_1034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1033 : BitVec 32 := 1#32
  let v1202 : BitVec 32 := Scalar.muli v145 c1_i32_1033
  let v1203 : BitVec 32 := Scalar.addi c0_i32_1034 v1202
  v1203.toNat
def k1_dev30 (d0 : Dev nD) : Nat :=
  let c0_i32_1044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1043 : BitVec 32 := 1#32
  let v1212 : BitVec 32 := Scalar.muli v92 c1_i32_1043
  let v1213 : BitVec 32 := Scalar.addi c0_i32_1044 v1212
  v1213.toNat
def k1_dev31 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1104 : BitVec 32 := 1#32
  let v1281 : BitVec 32 := Scalar.muli v145 c1_i32_1104
  let v1282 : BitVec 32 := Scalar.addi c0_i32_1105 v1281
  v1282.toNat
def k1_dev32 (d0 : Dev nD) : Nat :=
  let c0_i32_1115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1114 : BitVec 32 := 1#32
  let v1291 : BitVec 32 := Scalar.muli v92 c1_i32_1114
  let v1292 : BitVec 32 := Scalar.addi c0_i32_1115 v1291
  v1292.toNat
def k1_off4 (d0 : Dev nD) : Fin 3 → Nat :=
  let c0_1161 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c32_i32_1140 : BitVec 32 := 32#32
  let v1317 : BitVec 32 := Scalar.addi v38 c32_i32_1140
  let c1_i32_1141 : BitVec 32 := 1#32
  let v1318 : BitVec 32 := Scalar.subi v1317 c1_i32_1141
  let c14_i32_1142 : BitVec 32 := 14#32
  let v1319 : BitVec 32 := Scalar.subi v1318 c14_i32_1142
  let c16_i32_1143 : BitVec 32 := 16#32
  let c0_i32_1144 : BitVec 32 := 0#32
  let v1320 : BitVec 1 := Scalar.cmpi .eq c16_i32_1143 c0_i32_1144
  let c1_i32_1145 : BitVec 32 := 1#32
  let v1321 : BitVec 32 := Scalar.select v1320 c1_i32_1145 c16_i32_1143
  let v1322 : BitVec 32 := Scalar.remsi v1319 v1321
  let c0_i32_1147 : BitVec 32 := 0#32
  let v1324 : BitVec 1 := Scalar.cmpi .slt v1322 c0_i32_1147
  let c0_i32_1148 : BitVec 32 := 0#32
  let v1325 : BitVec 1 := Scalar.cmpi .slt v1321 c0_i32_1148
  let v1326 : BitVec 1 := Scalar.xori v1324 v1325
  let c0_i32_1146 : BitVec 32 := 0#32
  let v1323 : BitVec 1 := Scalar.cmpi .ne v1322 c0_i32_1146
  let v1327 : BitVec 1 := Scalar.andi v1326 v1323
  let v1328 : BitVec 32 := Scalar.addi v1322 v1321
  let v1329 : BitVec 32 := Scalar.select v1327 v1328 v1322
  let c128_i32_1160 : BitVec 32 := 128#32
  let v1345 : BitVec 32 := Scalar.muli v1329 c128_i32_1160
  let v1346 : Index := Scalar.indexCast v1345
  let c0_1162 : Index := 0#32
  ![0, v1346.toNat, 0]
def k1_off5 (d0 : Dev nD) : Fin 3 → Nat :=
  let c0_1167 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_1149 : BitVec 32 := 1#32
  let v1330 : BitVec 32 := Scalar.addi v38 c1_i32_1149
  let c14_i32_1150 : BitVec 32 := 14#32
  let v1331 : BitVec 32 := Scalar.addi v1330 c14_i32_1150
  let c16_i32_1151 : BitVec 32 := 16#32
  let c0_i32_1152 : BitVec 32 := 0#32
  let v1332 : BitVec 1 := Scalar.cmpi .eq c16_i32_1151 c0_i32_1152
  let c1_i32_1153 : BitVec 32 := 1#32
  let v1333 : BitVec 32 := Scalar.select v1332 c1_i32_1153 c16_i32_1151
  let v1334 : BitVec 32 := Scalar.remsi v1331 v1333
  let c0_i32_1155 : BitVec 32 := 0#32
  let v1336 : BitVec 1 := Scalar.cmpi .slt v1334 c0_i32_1155
  let c0_i32_1156 : BitVec 32 := 0#32
  let v1337 : BitVec 1 := Scalar.cmpi .slt v1333 c0_i32_1156
  let v1338 : BitVec 1 := Scalar.xori v1336 v1337
  let c0_i32_1154 : BitVec 32 := 0#32
  let v1335 : BitVec 1 := Scalar.cmpi .ne v1334 c0_i32_1154
  let v1339 : BitVec 1 := Scalar.andi v1338 v1335
  let v1340 : BitVec 32 := Scalar.addi v1334 v1333
  let v1341 : BitVec 32 := Scalar.select v1339 v1340 v1334
  let c128_i32_1166 : BitVec 32 := 128#32
  let v1353 : BitVec 32 := Scalar.muli v1341 c128_i32_1166
  let v1354 : Index := Scalar.indexCast v1353
  let c512_1168 : Index := 512#32
  ![0, v1354.toNat, 512]
def k1_dev33 (d0 : Dev nD) : Nat :=
  let c0_i32_1192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1191 : BitVec 32 := 1#32
  let v1389 : BitVec 32 := Scalar.muli v145 c1_i32_1191
  let v1390 : BitVec 32 := Scalar.addi c0_i32_1192 v1389
  v1390.toNat
def k1_dev34 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1198 : BitVec 32 := 1#32
  let v1397 : BitVec 32 := Scalar.muli v92 c1_i32_1198
  let v1398 : BitVec 32 := Scalar.addi c0_i32_1199 v1397
  v1398.toNat
def k1_dev35 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1205 : BitVec 32 := 1#32
  let v1405 : BitVec 32 := Scalar.muli v92 c1_i32_1205
  let v1406 : BitVec 32 := Scalar.addi c0_i32_1206 v1405
  v1406.toNat
def k1_dev36 (d0 : Dev nD) : Nat :=
  let c0_i32_1213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1212 : BitVec 32 := 1#32
  let v1413 : BitVec 32 := Scalar.muli v145 c1_i32_1212
  let v1414 : BitVec 32 := Scalar.addi c0_i32_1213 v1413
  v1414.toNat
def k1_off6 (d0 : Dev nD) : Fin 3 → Nat :=
  let c0_1217 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_1173 : BitVec 32 := 1#32
  let v1366 : BitVec 32 := Scalar.addi v38 c1_i32_1173
  let c16_i32_1174 : BitVec 32 := 16#32
  let c0_i32_1175 : BitVec 32 := 0#32
  let v1367 : BitVec 1 := Scalar.cmpi .eq c16_i32_1174 c0_i32_1175
  let c1_i32_1176 : BitVec 32 := 1#32
  let v1368 : BitVec 32 := Scalar.select v1367 c1_i32_1176 c16_i32_1174
  let v1369 : BitVec 32 := Scalar.remsi v1366 v1368
  let c0_i32_1178 : BitVec 32 := 0#32
  let v1371 : BitVec 1 := Scalar.cmpi .slt v1369 c0_i32_1178
  let c0_i32_1179 : BitVec 32 := 0#32
  let v1372 : BitVec 1 := Scalar.cmpi .slt v1368 c0_i32_1179
  let v1373 : BitVec 1 := Scalar.xori v1371 v1372
  let c0_i32_1177 : BitVec 32 := 0#32
  let v1370 : BitVec 1 := Scalar.cmpi .ne v1369 c0_i32_1177
  let v1374 : BitVec 1 := Scalar.andi v1373 v1370
  let v1375 : BitVec 32 := Scalar.addi v1369 v1368
  let v1376 : BitVec 32 := Scalar.select v1374 v1375 v1369
  let c128_i32_1216 : BitVec 32 := 128#32
  let v1421 : BitVec 32 := Scalar.muli v1376 c128_i32_1216
  let v1422 : Index := Scalar.indexCast v1421
  let c0_1218 : Index := 0#32
  ![0, v1422.toNat, 0]
def k1_off7 (d0 : Dev nD) : Fin 3 → Nat :=
  let c0_1220 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_1180 : BitVec 32 := 16#32
  let v1377 : BitVec 32 := Scalar.addi v38 c16_i32_1180
  let c1_i32_1181 : BitVec 32 := 1#32
  let v1378 : BitVec 32 := Scalar.subi v1377 c1_i32_1181
  let c16_i32_1182 : BitVec 32 := 16#32
  let c0_i32_1183 : BitVec 32 := 0#32
  let v1379 : BitVec 1 := Scalar.cmpi .eq c16_i32_1182 c0_i32_1183
  let c1_i32_1184 : BitVec 32 := 1#32
  let v1380 : BitVec 32 := Scalar.select v1379 c1_i32_1184 c16_i32_1182
  let v1381 : BitVec 32 := Scalar.remsi v1378 v1380
  let c0_i32_1186 : BitVec 32 := 0#32
  let v1383 : BitVec 1 := Scalar.cmpi .slt v1381 c0_i32_1186
  let c0_i32_1187 : BitVec 32 := 0#32
  let v1384 : BitVec 1 := Scalar.cmpi .slt v1380 c0_i32_1187
  let v1385 : BitVec 1 := Scalar.xori v1383 v1384
  let c0_i32_1185 : BitVec 32 := 0#32
  let v1382 : BitVec 1 := Scalar.cmpi .ne v1381 c0_i32_1185
  let v1386 : BitVec 1 := Scalar.andi v1385 v1382
  let v1387 : BitVec 32 := Scalar.addi v1381 v1380
  let v1388 : BitVec 32 := Scalar.select v1386 v1387 v1381
  let c128_i32_1219 : BitVec 32 := 128#32
  let v1426 : BitVec 32 := Scalar.muli v1388 c128_i32_1219
  let v1427 : Index := Scalar.indexCast v1426
  let c512_1221 : Index := 512#32
  ![0, v1427.toNat, 512]
def k1_off8 (d0 : Dev nD) (c0_i32_1251 : BitVec 32) : Fin 3 → Nat :=
  let c0_1269 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c32_i32_1250 : BitVec 32 := 32#32
  let v1455 : BitVec 32 := Scalar.addi v38 c32_i32_1250
  let v1456 : BitVec 32 := Scalar.subi v1455 c0_i32_1251
  let c16_i32_1252 : BitVec 32 := 16#32
  let c0_i32_1253 : BitVec 32 := 0#32
  let v1457 : BitVec 1 := Scalar.cmpi .eq c16_i32_1252 c0_i32_1253
  let c1_i32_1254 : BitVec 32 := 1#32
  let v1458 : BitVec 32 := Scalar.select v1457 c1_i32_1254 c16_i32_1252
  let v1459 : BitVec 32 := Scalar.remsi v1456 v1458
  let c0_i32_1256 : BitVec 32 := 0#32
  let v1461 : BitVec 1 := Scalar.cmpi .slt v1459 c0_i32_1256
  let c0_i32_1257 : BitVec 32 := 0#32
  let v1462 : BitVec 1 := Scalar.cmpi .slt v1458 c0_i32_1257
  let v1463 : BitVec 1 := Scalar.xori v1461 v1462
  let c0_i32_1255 : BitVec 32 := 0#32
  let v1460 : BitVec 1 := Scalar.cmpi .ne v1459 c0_i32_1255
  let v1464 : BitVec 1 := Scalar.andi v1463 v1460
  let v1465 : BitVec 32 := Scalar.addi v1459 v1458
  let v1466 : BitVec 32 := Scalar.select v1464 v1465 v1459
  let c128_i32_1268 : BitVec 32 := 128#32
  let v1481 : BitVec 32 := Scalar.muli v1466 c128_i32_1268
  let v1482 : Index := Scalar.indexCast v1481
  let c0_1270 : Index := 0#32
  ![0, v1482.toNat, 0]
def k1_off9 (d0 : Dev nD) (c0_i32_1258 : BitVec 32) : Fin 3 → Nat :=
  let c0_1275 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let v1467 : BitVec 32 := Scalar.addi v38 c0_i32_1258
  let c16_i32_1259 : BitVec 32 := 16#32
  let c0_i32_1260 : BitVec 32 := 0#32
  let v1468 : BitVec 1 := Scalar.cmpi .eq c16_i32_1259 c0_i32_1260
  let c1_i32_1261 : BitVec 32 := 1#32
  let v1469 : BitVec 32 := Scalar.select v1468 c1_i32_1261 c16_i32_1259
  let v1470 : BitVec 32 := Scalar.remsi v1467 v1469
  let c0_i32_1263 : BitVec 32 := 0#32
  let v1472 : BitVec 1 := Scalar.cmpi .slt v1470 c0_i32_1263
  let c0_i32_1264 : BitVec 32 := 0#32
  let v1473 : BitVec 1 := Scalar.cmpi .slt v1469 c0_i32_1264
  let v1474 : BitVec 1 := Scalar.xori v1472 v1473
  let c0_i32_1262 : BitVec 32 := 0#32
  let v1471 : BitVec 1 := Scalar.cmpi .ne v1470 c0_i32_1262
  let v1475 : BitVec 1 := Scalar.andi v1474 v1471
  let v1476 : BitVec 32 := Scalar.addi v1470 v1469
  let v1477 : BitVec 32 := Scalar.select v1475 v1476 v1470
  let c128_i32_1274 : BitVec 32 := 128#32
  let v1489 : BitVec 32 := Scalar.muli v1477 c128_i32_1274
  let v1490 : Index := Scalar.indexCast v1489
  let c512_1276 : Index := 512#32
  ![0, v1490.toNat, 512]
def k1_off10 (d0 : Dev nD) (c0_i32_1277 : BitVec 32) : Fin 3 → Nat :=
  let c0_1298 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let v1494 : BitVec 32 := Scalar.addi v38 c0_i32_1277
  let c2_i32_1278 : BitVec 32 := 2#32
  let v1495 : BitVec 32 := Scalar.addi v1494 c2_i32_1278
  let c16_i32_1279 : BitVec 32 := 16#32
  let c0_i32_1280 : BitVec 32 := 0#32
  let v1496 : BitVec 1 := Scalar.cmpi .eq c16_i32_1279 c0_i32_1280
  let c1_i32_1281 : BitVec 32 := 1#32
  let v1497 : BitVec 32 := Scalar.select v1496 c1_i32_1281 c16_i32_1279
  let v1498 : BitVec 32 := Scalar.remsi v1495 v1497
  let c0_i32_1283 : BitVec 32 := 0#32
  let v1500 : BitVec 1 := Scalar.cmpi .slt v1498 c0_i32_1283
  let c0_i32_1284 : BitVec 32 := 0#32
  let v1501 : BitVec 1 := Scalar.cmpi .slt v1497 c0_i32_1284
  let v1502 : BitVec 1 := Scalar.xori v1500 v1501
  let c0_i32_1282 : BitVec 32 := 0#32
  let v1499 : BitVec 1 := Scalar.cmpi .ne v1498 c0_i32_1282
  let v1503 : BitVec 1 := Scalar.andi v1502 v1499
  let v1504 : BitVec 32 := Scalar.addi v1498 v1497
  let v1505 : BitVec 32 := Scalar.select v1503 v1504 v1498
  let c128_i32_1297 : BitVec 32 := 128#32
  let v1522 : BitVec 32 := Scalar.muli v1505 c128_i32_1297
  let v1523 : Index := Scalar.indexCast v1522
  let c0_1299 : Index := 0#32
  ![0, v1523.toNat, 0]
def k1_off11 (d0 : Dev nD) (c0_i32_1286 : BitVec 32) : Fin 3 → Nat :=
  let c0_1304 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c32_i32_1285 : BitVec 32 := 32#32
  let v1506 : BitVec 32 := Scalar.addi v38 c32_i32_1285
  let v1507 : BitVec 32 := Scalar.subi v1506 c0_i32_1286
  let c2_i32_1287 : BitVec 32 := 2#32
  let v1508 : BitVec 32 := Scalar.subi v1507 c2_i32_1287
  let c16_i32_1288 : BitVec 32 := 16#32
  let c0_i32_1289 : BitVec 32 := 0#32
  let v1509 : BitVec 1 := Scalar.cmpi .eq c16_i32_1288 c0_i32_1289
  let c1_i32_1290 : BitVec 32 := 1#32
  let v1510 : BitVec 32 := Scalar.select v1509 c1_i32_1290 c16_i32_1288
  let v1511 : BitVec 32 := Scalar.remsi v1508 v1510
  let c0_i32_1292 : BitVec 32 := 0#32
  let v1513 : BitVec 1 := Scalar.cmpi .slt v1511 c0_i32_1292
  let c0_i32_1293 : BitVec 32 := 0#32
  let v1514 : BitVec 1 := Scalar.cmpi .slt v1510 c0_i32_1293
  let v1515 : BitVec 1 := Scalar.xori v1513 v1514
  let c0_i32_1291 : BitVec 32 := 0#32
  let v1512 : BitVec 1 := Scalar.cmpi .ne v1511 c0_i32_1291
  let v1516 : BitVec 1 := Scalar.andi v1515 v1512
  let v1517 : BitVec 32 := Scalar.addi v1511 v1510
  let v1518 : BitVec 32 := Scalar.select v1516 v1517 v1511
  let c128_i32_1303 : BitVec 32 := 128#32
  let v1530 : BitVec 32 := Scalar.muli v1518 c128_i32_1303
  let v1531 : Index := Scalar.indexCast v1530
  let c512_1305 : Index := 512#32
  ![0, v1531.toNat, 512]
def k1_dev37 (d0 : Dev nD) : Nat :=
  let c0_i32_1311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1310 : BitVec 32 := 1#32
  let v1535 : BitVec 32 := Scalar.muli v145 c1_i32_1310
  let v1536 : BitVec 32 := Scalar.addi c0_i32_1311 v1535
  v1536.toNat
def k1_dev38 (d0 : Dev nD) : Nat :=
  let c0_i32_1321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1320 : BitVec 32 := 1#32
  let v1545 : BitVec 32 := Scalar.muli v92 c1_i32_1320
  let v1546 : BitVec 32 := Scalar.addi c0_i32_1321 v1545
  v1546.toNat
def k1_dev39 (d0 : Dev nD) : Nat :=
  let c0_i32_1331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1330 : BitVec 32 := 1#32
  let v1555 : BitVec 32 := Scalar.muli v92 c1_i32_1330
  let v1556 : BitVec 32 := Scalar.addi c0_i32_1331 v1555
  v1556.toNat
def k1_dev40 (d0 : Dev nD) : Nat :=
  let c0_i32_1341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1340 : BitVec 32 := 1#32
  let v1565 : BitVec 32 := Scalar.muli v145 c1_i32_1340
  let v1566 : BitVec 32 := Scalar.addi c0_i32_1341 v1565
  v1566.toNat
def k1_dev41 (d0 : Dev nD) : Nat :=
  let c0_i32_1447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1446 : BitVec 32 := 1#32
  let v1687 : BitVec 32 := Scalar.muli v145 c1_i32_1446
  let v1688 : BitVec 32 := Scalar.addi c0_i32_1447 v1687
  v1688.toNat
def k1_dev42 (d0 : Dev nD) : Nat :=
  let c0_i32_1457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1456 : BitVec 32 := 1#32
  let v1697 : BitVec 32 := Scalar.muli v92 c1_i32_1456
  let v1698 : BitVec 32 := Scalar.addi c0_i32_1457 v1697
  v1698.toNat
def k1_dev43 (d0 : Dev nD) : Nat :=
  let c0_i32_1467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1466 : BitVec 32 := 1#32
  let v1707 : BitVec 32 := Scalar.muli v92 c1_i32_1466
  let v1708 : BitVec 32 := Scalar.addi c0_i32_1467 v1707
  v1708.toNat
def k1_dev44 (d0 : Dev nD) : Nat :=
  let c0_i32_1477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1476 : BitVec 32 := 1#32
  let v1717 : BitVec 32 := Scalar.muli v145 c1_i32_1476
  let v1718 : BitVec 32 := Scalar.addi c0_i32_1477 v1717
  v1718.toNat
def k1_dev45 (d0 : Dev nD) : Nat :=
  let c0_i32_1583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1582 : BitVec 32 := 1#32
  let v1839 : BitVec 32 := Scalar.muli v145 c1_i32_1582
  let v1840 : BitVec 32 := Scalar.addi c0_i32_1583 v1839
  v1840.toNat
def k1_dev46 (d0 : Dev nD) : Nat :=
  let c0_i32_1593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1592 : BitVec 32 := 1#32
  let v1849 : BitVec 32 := Scalar.muli v92 c1_i32_1592
  let v1850 : BitVec 32 := Scalar.addi c0_i32_1593 v1849
  v1850.toNat
def k1_dev47 (d0 : Dev nD) : Nat :=
  let c0_i32_1603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1602 : BitVec 32 := 1#32
  let v1859 : BitVec 32 := Scalar.muli v92 c1_i32_1602
  let v1860 : BitVec 32 := Scalar.addi c0_i32_1603 v1859
  v1860.toNat
def k1_dev48 (d0 : Dev nD) : Nat :=
  let c0_i32_1613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1612 : BitVec 32 := 1#32
  let v1869 : BitVec 32 := Scalar.muli v145 c1_i32_1612
  let v1870 : BitVec 32 := Scalar.addi c0_i32_1613 v1869
  v1870.toNat
def k1_dev49 (d0 : Dev nD) : Nat :=
  let c0_i32_1719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1718 : BitVec 32 := 1#32
  let v1991 : BitVec 32 := Scalar.muli v145 c1_i32_1718
  let v1992 : BitVec 32 := Scalar.addi c0_i32_1719 v1991
  v1992.toNat
def k1_dev50 (d0 : Dev nD) : Nat :=
  let c0_i32_1729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1728 : BitVec 32 := 1#32
  let v2001 : BitVec 32 := Scalar.muli v92 c1_i32_1728
  let v2002 : BitVec 32 := Scalar.addi c0_i32_1729 v2001
  v2002.toNat
def k1_dev51 (d0 : Dev nD) : Nat :=
  let c0_i32_1739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1738 : BitVec 32 := 1#32
  let v2011 : BitVec 32 := Scalar.muli v92 c1_i32_1738
  let v2012 : BitVec 32 := Scalar.addi c0_i32_1739 v2011
  v2012.toNat
def k1_dev52 (d0 : Dev nD) : Nat :=
  let c0_i32_1749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1748 : BitVec 32 := 1#32
  let v2021 : BitVec 32 := Scalar.muli v145 c1_i32_1748
  let v2022 : BitVec 32 := Scalar.addi c0_i32_1749 v2021
  v2022.toNat
def k1_dev53 (d0 : Dev nD) : Nat :=
  let c0_i32_1855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1854 : BitVec 32 := 1#32
  let v2143 : BitVec 32 := Scalar.muli v145 c1_i32_1854
  let v2144 : BitVec 32 := Scalar.addi c0_i32_1855 v2143
  v2144.toNat
def k1_dev54 (d0 : Dev nD) : Nat :=
  let c0_i32_1865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1864 : BitVec 32 := 1#32
  let v2153 : BitVec 32 := Scalar.muli v92 c1_i32_1864
  let v2154 : BitVec 32 := Scalar.addi c0_i32_1865 v2153
  v2154.toNat
def k1_dev55 (d0 : Dev nD) : Nat :=
  let c0_i32_1875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_1874 : BitVec 32 := 1#32
  let v2163 : BitVec 32 := Scalar.muli v92 c1_i32_1874
  let v2164 : BitVec 32 := Scalar.addi c0_i32_1875 v2163
  v2164.toNat
def k1_dev56 (d0 : Dev nD) : Nat :=
  let c0_i32_1885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1884 : BitVec 32 := 1#32
  let v2173 : BitVec 32 := Scalar.muli v145 c1_i32_1884
  let v2174 : BitVec 32 := Scalar.addi c0_i32_1885 v2173
  v2174.toNat
def k1_dev57 (d0 : Dev nD) : Nat :=
  let c0_i32_1991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_1990 : BitVec 32 := 1#32
  let v2295 : BitVec 32 := Scalar.muli v145 c1_i32_1990
  let v2296 : BitVec 32 := Scalar.addi c0_i32_1991 v2295
  v2296.toNat
def k1_dev58 (d0 : Dev nD) : Nat :=
  let c0_i32_2001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_2000 : BitVec 32 := 1#32
  let v2305 : BitVec 32 := Scalar.muli v92 c1_i32_2000
  let v2306 : BitVec 32 := Scalar.addi c0_i32_2001 v2305
  v2306.toNat
def k1_dev59 (d0 : Dev nD) : Nat :=
  let c0_i32_2011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_2010 : BitVec 32 := 1#32
  let v2315 : BitVec 32 := Scalar.muli v92 c1_i32_2010
  let v2316 : BitVec 32 := Scalar.addi c0_i32_2011 v2315
  v2316.toNat
def k1_dev60 (d0 : Dev nD) : Nat :=
  let c0_i32_2021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_2020 : BitVec 32 := 1#32
  let v2325 : BitVec 32 := Scalar.muli v145 c1_i32_2020
  let v2326 : BitVec 32 := Scalar.addi c0_i32_2021 v2325
  v2326.toNat
def k1_dev61 (d0 : Dev nD) : Nat :=
  let c0_i32_2127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_45 : BitVec 32 := 1#32
  let v93 : BitVec 32 := Scalar.addi v38 c1_i32_45
  let c16_i32_46 : BitVec 32 := 16#32
  let c0_i32_47 : BitVec 32 := 0#32
  let v94 : BitVec 1 := Scalar.cmpi .eq c16_i32_46 c0_i32_47
  let c1_i32_48 : BitVec 32 := 1#32
  let v95 : BitVec 32 := Scalar.select v94 c1_i32_48 c16_i32_46
  let v96 : BitVec 32 := Scalar.remsi v93 v95
  let c0_i32_50 : BitVec 32 := 0#32
  let v98 : BitVec 1 := Scalar.cmpi .slt v96 c0_i32_50
  let c0_i32_51 : BitVec 32 := 0#32
  let v99 : BitVec 1 := Scalar.cmpi .slt v95 c0_i32_51
  let v100 : BitVec 1 := Scalar.xori v98 v99
  let c0_i32_49 : BitVec 32 := 0#32
  let v97 : BitVec 1 := Scalar.cmpi .ne v96 c0_i32_49
  let v101 : BitVec 1 := Scalar.andi v100 v97
  let v102 : BitVec 32 := Scalar.addi v96 v95
  let v103 : BitVec 32 := Scalar.select v101 v102 v96
  let c0_i32_53 : BitVec 32 := 0#32
  let v105 : BitVec 1 := Scalar.cmpi .sgt v103 c0_i32_53
  let v106 : BitVec 32 := Scalar.extui v105
  let c0_i32_54 : BitVec 32 := 0#32
  let v107 : BitVec 1 := Scalar.cmpi .slt v103 c0_i32_54
  let v108 : BitVec 32 := Scalar.extui v107
  let v109 : BitVec 32 := Scalar.subi v106 v108
  let c4_i32_52 : BitVec 32 := 4#32
  let c0_i32_55 : BitVec 32 := 0#32
  let v110 : BitVec 1 := Scalar.cmpi .sgt c4_i32_52 c0_i32_55
  let v111 : BitVec 32 := Scalar.extui v110
  let c0_i32_56 : BitVec 32 := 0#32
  let v112 : BitVec 1 := Scalar.cmpi .slt c4_i32_52 c0_i32_56
  let v113 : BitVec 32 := Scalar.extui v112
  let v114 : BitVec 32 := Scalar.subi v111 v113
  let v115 : BitVec 1 := Scalar.cmpi .ne v109 v114
  let v116 : BitVec 32 := Scalar.remsi v103 c4_i32_52
  let c0_i32_57 : BitVec 32 := 0#32
  let v117 : BitVec 1 := Scalar.cmpi .ne v116 c0_i32_57
  let v118 : BitVec 1 := Scalar.andi v115 v117
  let v104 : BitVec 32 := Scalar.divsi v103 c4_i32_52
  let c1_i32_58 : BitVec 32 := 1#32
  let v119 : BitVec 32 := Scalar.subi v104 c1_i32_58
  let v120 : BitVec 32 := Scalar.select v118 v119 v104
  let c0_i32_65 : BitVec 32 := 0#32
  let v131 : BitVec 1 := Scalar.cmpi .eq v120 c0_i32_65
  let c4_i32_66 : BitVec 32 := 4#32
  let c4_i32_59 : BitVec 32 := 4#32
  let c0_i32_60 : BitVec 32 := 0#32
  let v121 : BitVec 1 := Scalar.cmpi .eq c4_i32_59 c0_i32_60
  let c1_i32_61 : BitVec 32 := 1#32
  let v122 : BitVec 32 := Scalar.select v121 c1_i32_61 c4_i32_59
  let v123 : BitVec 32 := Scalar.remsi v103 v122
  let c0_i32_63 : BitVec 32 := 0#32
  let v125 : BitVec 1 := Scalar.cmpi .slt v123 c0_i32_63
  let c0_i32_64 : BitVec 32 := 0#32
  let v126 : BitVec 1 := Scalar.cmpi .slt v122 c0_i32_64
  let v127 : BitVec 1 := Scalar.xori v125 v126
  let c0_i32_62 : BitVec 32 := 0#32
  let v124 : BitVec 1 := Scalar.cmpi .ne v123 c0_i32_62
  let v128 : BitVec 1 := Scalar.andi v127 v124
  let v129 : BitVec 32 := Scalar.addi v123 v122
  let v130 : BitVec 32 := Scalar.select v128 v129 v123
  let v132 : BitVec 32 := Scalar.muli c4_i32_66 v130
  let c1_i32_67 : BitVec 32 := 1#32
  let v133 : BitVec 1 := Scalar.cmpi .eq v120 c1_i32_67
  let c4_i32_69 : BitVec 32 := 4#32
  let c3_i32_68 : BitVec 32 := 3#32
  let v134 : BitVec 32 := Scalar.subi c3_i32_68 v130
  let v135 : BitVec 32 := Scalar.muli c4_i32_69 v134
  let c3_i32_70 : BitVec 32 := 3#32
  let v136 : BitVec 32 := Scalar.addi v135 c3_i32_70
  let c2_i32_71 : BitVec 32 := 2#32
  let v137 : BitVec 1 := Scalar.cmpi .eq v120 c2_i32_71
  let c4_i32_72 : BitVec 32 := 4#32
  let v138 : BitVec 32 := Scalar.muli c4_i32_72 v130
  let c2_i32_73 : BitVec 32 := 2#32
  let v139 : BitVec 32 := Scalar.addi v138 c2_i32_73
  let c4_i32_75 : BitVec 32 := 4#32
  let c3_i32_74 : BitVec 32 := 3#32
  let v140 : BitVec 32 := Scalar.subi c3_i32_74 v130
  let v141 : BitVec 32 := Scalar.muli c4_i32_75 v140
  let c1_i32_76 : BitVec 32 := 1#32
  let v142 : BitVec 32 := Scalar.addi v141 c1_i32_76
  let v143 : BitVec 32 := Scalar.select v137 v139 v142
  let v144 : BitVec 32 := Scalar.select v133 v136 v143
  let v145 : BitVec 32 := Scalar.select v131 v132 v144
  let c1_i32_2126 : BitVec 32 := 1#32
  let v2447 : BitVec 32 := Scalar.muli v145 c1_i32_2126
  let v2448 : BitVec 32 := Scalar.addi c0_i32_2127 v2447
  v2448.toNat
def k1_dev62 (d0 : Dev nD) : Nat :=
  let c0_i32_2137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v31 : BitVec 1 := Scalar.cmpi .eq v29 c3_i32
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c16_i32_12 : BitVec 32 := 16#32
  let v39 : BitVec 32 := Scalar.addi v38 c16_i32_12
  let c1_i32_13 : BitVec 32 := 1#32
  let v40 : BitVec 32 := Scalar.subi v39 c1_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v40 v42
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let c0_i32_17 : BitVec 32 := 0#32
  let v44 : BitVec 1 := Scalar.cmpi .ne v43 c0_i32_17
  let v48 : BitVec 1 := Scalar.andi v47 v44
  let v49 : BitVec 32 := Scalar.addi v43 v42
  let v50 : BitVec 32 := Scalar.select v48 v49 v43
  let c0_i32_21 : BitVec 32 := 0#32
  let v52 : BitVec 1 := Scalar.cmpi .sgt v50 c0_i32_21
  let v53 : BitVec 32 := Scalar.extui v52
  let c0_i32_22 : BitVec 32 := 0#32
  let v54 : BitVec 1 := Scalar.cmpi .slt v50 c0_i32_22
  let v55 : BitVec 32 := Scalar.extui v54
  let v56 : BitVec 32 := Scalar.subi v53 v55
  let c4_i32_20 : BitVec 32 := 4#32
  let c0_i32_23 : BitVec 32 := 0#32
  let v57 : BitVec 1 := Scalar.cmpi .sgt c4_i32_20 c0_i32_23
  let v58 : BitVec 32 := Scalar.extui v57
  let c0_i32_24 : BitVec 32 := 0#32
  let v59 : BitVec 1 := Scalar.cmpi .slt c4_i32_20 c0_i32_24
  let v60 : BitVec 32 := Scalar.extui v59
  let v61 : BitVec 32 := Scalar.subi v58 v60
  let v62 : BitVec 1 := Scalar.cmpi .ne v56 v61
  let v63 : BitVec 32 := Scalar.remsi v50 c4_i32_20
  let c0_i32_25 : BitVec 32 := 0#32
  let v64 : BitVec 1 := Scalar.cmpi .ne v63 c0_i32_25
  let v65 : BitVec 1 := Scalar.andi v62 v64
  let v51 : BitVec 32 := Scalar.divsi v50 c4_i32_20
  let c1_i32_26 : BitVec 32 := 1#32
  let v66 : BitVec 32 := Scalar.subi v51 c1_i32_26
  let v67 : BitVec 32 := Scalar.select v65 v66 v51
  let c0_i32_33 : BitVec 32 := 0#32
  let v78 : BitVec 1 := Scalar.cmpi .eq v67 c0_i32_33
  let c4_i32_34 : BitVec 32 := 4#32
  let c4_i32_27 : BitVec 32 := 4#32
  let c0_i32_28 : BitVec 32 := 0#32
  let v68 : BitVec 1 := Scalar.cmpi .eq c4_i32_27 c0_i32_28
  let c1_i32_29 : BitVec 32 := 1#32
  let v69 : BitVec 32 := Scalar.select v68 c1_i32_29 c4_i32_27
  let v70 : BitVec 32 := Scalar.remsi v50 v69
  let c0_i32_31 : BitVec 32 := 0#32
  let v72 : BitVec 1 := Scalar.cmpi .slt v70 c0_i32_31
  let c0_i32_32 : BitVec 32 := 0#32
  let v73 : BitVec 1 := Scalar.cmpi .slt v69 c0_i32_32
  let v74 : BitVec 1 := Scalar.xori v72 v73
  let c0_i32_30 : BitVec 32 := 0#32
  let v71 : BitVec 1 := Scalar.cmpi .ne v70 c0_i32_30
  let v75 : BitVec 1 := Scalar.andi v74 v71
  let v76 : BitVec 32 := Scalar.addi v70 v69
  let v77 : BitVec 32 := Scalar.select v75 v76 v70
  let v79 : BitVec 32 := Scalar.muli c4_i32_34 v77
  let c1_i32_35 : BitVec 32 := 1#32
  let v80 : BitVec 1 := Scalar.cmpi .eq v67 c1_i32_35
  let c4_i32_37 : BitVec 32 := 4#32
  let c3_i32_36 : BitVec 32 := 3#32
  let v81 : BitVec 32 := Scalar.subi c3_i32_36 v77
  let v82 : BitVec 32 := Scalar.muli c4_i32_37 v81
  let c3_i32_38 : BitVec 32 := 3#32
  let v83 : BitVec 32 := Scalar.addi v82 c3_i32_38
  let c2_i32_39 : BitVec 32 := 2#32
  let v84 : BitVec 1 := Scalar.cmpi .eq v67 c2_i32_39
  let c4_i32_40 : BitVec 32 := 4#32
  let v85 : BitVec 32 := Scalar.muli c4_i32_40 v77
  let c2_i32_41 : BitVec 32 := 2#32
  let v86 : BitVec 32 := Scalar.addi v85 c2_i32_41
  let c4_i32_43 : BitVec 32 := 4#32
  let c3_i32_42 : BitVec 32 := 3#32
  let v87 : BitVec 32 := Scalar.subi c3_i32_42 v77
  let v88 : BitVec 32 := Scalar.muli c4_i32_43 v87
  let c1_i32_44 : BitVec 32 := 1#32
  let v89 : BitVec 32 := Scalar.addi v88 c1_i32_44
  let v90 : BitVec 32 := Scalar.select v84 v86 v89
  let v91 : BitVec 32 := Scalar.select v80 v83 v90
  let v92 : BitVec 32 := Scalar.select v78 v79 v91
  let c1_i32_2136 : BitVec 32 := 1#32
  let v2457 : BitVec 32 := Scalar.muli v92 c1_i32_2136
  let v2458 : BitVec 32 := Scalar.addi c0_i32_2137 v2457
  v2458.toNat
abbrev stage1_0 : Fin 1 → Memref sig .tc .vmem S1x2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x2048x16384 : Shape := ⟨3, ![1, 2048, 16384]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x128x2048x2048 : Shape := ⟨4, ![1, 128, 2048, 2048]⟩
abbrev S1x1x2048x2048 : Shape := ⟨4, ![1, 1, 2048, 2048]⟩
abbrev S1x128x2048 : Shape := ⟨3, ![1, 128, 2048]⟩
abbrev S1x128x2048x1 : Shape := ⟨4, ![1, 128, 2048, 1]⟩
abbrev S1x1x2048x1 : Shape := ⟨4, ![1, 1, 2048, 1]⟩
abbrev S1x128x128x2048 : Shape := ⟨4, ![1, 128, 128, 2048]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x16384, .f32⟩
  | .hbm, ⟨2, _⟩ => ⟨S1x2048x128x128, .f32⟩
  | .hbm, ⟨3, _⟩ => ⟨S1x2048x128x128, .f32⟩
  | .hbm, ⟨4, _⟩ => ⟨S16384x1024, .f32⟩
  | .hbm, ⟨5, _⟩ => ⟨S1x2048x16384, .f32⟩
  | .hbm, ⟨6, _⟩ => ⟨S1x2048x128x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S1x128x2048x2048, .f32⟩
  | .hbm, ⟨51, _⟩ => ⟨S_, .f32⟩
  | .hbm, ⟨52, _⟩ => ⟨S1x128x2048x2048, .f32⟩
  | .hbm, ⟨53, _⟩ => ⟨S1x128x2048x2048, .f32⟩
  | .hbm, ⟨54, _⟩ => ⟨S1x1x2048x2048, .i1⟩
  | .hbm, ⟨55, _⟩ => ⟨S_, .f32⟩
  | .hbm, ⟨56, _⟩ => ⟨S_, .f32⟩
  | .hbm, ⟨57, _⟩ => ⟨S1x128x2048x2048, .i1⟩
  | .hbm, ⟨58, _⟩ => ⟨S1x128x2048x2048, .f32⟩
  | .hbm, ⟨59, _⟩ => ⟨S1x128x2048x2048, .f32⟩
  | .hbm, ⟨60, _⟩ => ⟨S_, .f32⟩
  | .hbm, ⟨61, _⟩ => ⟨S1x128x2048, .f32⟩
  | .hbm, ⟨62, _⟩ => ⟨S1x128x2048x1, .f32⟩
  | .hbm, ⟨63, _⟩ => ⟨S1x128x2048x2048, .f32⟩
  | .hbm, ⟨64, _⟩ => ⟨S1x128x2048x2048, .f32⟩
  | .hbm, ⟨65, _⟩ => ⟨S1x128x2048x2048, .f32⟩
  | .hbm, ⟨66, _⟩ => ⟨S_, .i1⟩
  | .hbm, ⟨67, _⟩ => ⟨S2048, .i1⟩
  | .hbm, ⟨68, _⟩ => ⟨S1x1x2048x1, .i1⟩
  | .hbm, ⟨69, _⟩ => ⟨S_, .f32⟩
  | .hbm, ⟨70, _⟩ => ⟨S1x128x2048, .f32⟩
  | .hbm, ⟨71, _⟩ => ⟨S1x128x2048x1, .f32⟩
  | .hbm, ⟨72, _⟩ => ⟨S_, .f32⟩
  | .hbm, ⟨73, _⟩ => ⟨S_, .f32⟩
  | .hbm, ⟨74, _⟩ => ⟨S1x128x2048x1, .i1⟩
  | .hbm, ⟨75, _⟩ => ⟨S1x128x2048x1, .f32⟩
  | .hbm, ⟨76, _⟩ => ⟨S1x128x2048x1, .f32⟩
  | .hbm, ⟨77, _⟩ => ⟨S1x128x2048x2048, .f32⟩
  | .hbm, ⟨78, _⟩ => ⟨S1x128x2048x2048, .f32⟩
  | .hbm, ⟨79, _⟩ => ⟨S1x1x2048x1, .i1⟩
  | .hbm, ⟨80, _⟩ => ⟨S_, .f32⟩
  | .hbm, ⟨81, _⟩ => ⟨S_, .f32⟩
  | .hbm, ⟨82, _⟩ => ⟨S1x128x2048x2048, .i1⟩
  | .hbm, ⟨83, _⟩ => ⟨S1x128x2048x2048, .f32⟩
  | .hbm, ⟨84, _⟩ => ⟨S1x128x2048x2048, .f32⟩
  | .hbm, ⟨85, _⟩ => ⟨S1x128x128x2048, .f32⟩
  | .hbm, ⟨86, _⟩ => ⟨S1x2048x128x128, .f32⟩
  | .hbm, ⟨87, _⟩ => ⟨S1x2048x16384, .f32⟩
  | .hbm, ⟨88, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Ring.Model.lean ====
/-
The all-reduce kernel body, written over its steps.

The printed body is one straight run of a few hundred operations. Here the same run is written as what it is:
fifteen reduce-scatter steps and eight all-gather steps, each for the two directions of the ring, and the equation
of the two is checked by unfolding. A direction is a `Bool`: `true` sends the left half of the columns to the next
device of the ring, `false` the right half to the previous one. A transfer is named by its direction, its phase
(`false` for the reduce-scatter, `true` for the all-gather) and its slot.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F] [Named F]

/-- A kernel program of a TensorCore. -/
abbrev KProg (α : Type) := Prog (TpuEff nD τ sig (Elt F) Λ₀ .tc) α

/-! ## The devices each printed transfer names -/

/-- The device a transfer goes to, as printed. -/
def devOf (c : Dev nD) : Bool → Bool → Fin 15 → Dev nD
  | true, false, ⟨0, _⟩ => ⟨k1_dev3 c, k1_dev3_lt c⟩ | true, false, ⟨1, _⟩ => ⟨k1_dev5 c, k1_dev5_lt c⟩
  | true, false, ⟨2, _⟩ => ⟨k1_dev7 c, k1_dev7_lt c⟩ | true, false, ⟨3, _⟩ => ⟨k1_dev9 c, k1_dev9_lt c⟩
  | true, false, ⟨4, _⟩ => ⟨k1_dev11 c, k1_dev11_lt c⟩ | true, false, ⟨5, _⟩ => ⟨k1_dev13 c, k1_dev13_lt c⟩
  | true, false, ⟨6, _⟩ => ⟨k1_dev15 c, k1_dev15_lt c⟩ | true, false, ⟨7, _⟩ => ⟨k1_dev17 c, k1_dev17_lt c⟩
  | true, false, ⟨8, _⟩ => ⟨k1_dev19 c, k1_dev19_lt c⟩ | true, false, ⟨9, _⟩ => ⟨k1_dev21 c, k1_dev21_lt c⟩
  | true, false, ⟨10, _⟩ => ⟨k1_dev23 c, k1_dev23_lt c⟩ | true, false, ⟨11, _⟩ => ⟨k1_dev25 c, k1_dev25_lt c⟩
  | true, false, ⟨12, _⟩ => ⟨k1_dev27 c, k1_dev27_lt c⟩ | true, false, ⟨13, _⟩ => ⟨k1_dev29 c, k1_dev29_lt c⟩
  | true, false, ⟨14, _⟩ => ⟨k1_dev31 c, k1_dev31_lt c⟩
  | true, true, ⟨0, _⟩ => ⟨k1_dev33 c, k1_dev33_lt c⟩ | true, true, ⟨1, _⟩ => ⟨k1_dev37 c, k1_dev37_lt c⟩
  | true, true, ⟨2, _⟩ => ⟨k1_dev41 c, k1_dev41_lt c⟩ | true, true, ⟨3, _⟩ => ⟨k1_dev45 c, k1_dev45_lt c⟩
  | true, true, ⟨4, _⟩ => ⟨k1_dev49 c, k1_dev49_lt c⟩ | true, true, ⟨5, _⟩ => ⟨k1_dev53 c, k1_dev53_lt c⟩
  | true, true, ⟨6, _⟩ => ⟨k1_dev57 c, k1_dev57_lt c⟩ | true, true, ⟨7, _⟩ => ⟨k1_dev61 c, k1_dev61_lt c⟩
  | true, true, ⟨8, _⟩ => ⟨k1_dev35 c, k1_dev35_lt c⟩ | true, true, ⟨9, _⟩ => ⟨k1_dev39 c, k1_dev39_lt c⟩
  | true, true, ⟨10, _⟩ => ⟨k1_dev43 c, k1_dev43_lt c⟩ | true, true, ⟨11, _⟩ => ⟨k1_dev47 c, k1_dev47_lt c⟩
  | true, true, ⟨12, _⟩ => ⟨k1_dev51 c, k1_dev51_lt c⟩ | true, true, ⟨13, _⟩ => ⟨k1_dev55 c, k1_dev55_lt c⟩
  | true, true, ⟨14, _⟩ => ⟨k1_dev59 c, k1_dev59_lt c⟩
  | false, false, ⟨0, _⟩ => ⟨k1_dev4 c, k1_dev4_lt c⟩ | false, false, ⟨1, _⟩ => ⟨k1_dev6 c, k1_dev6_lt c⟩
  | false, false, ⟨2, _⟩ => ⟨k1_dev8 c, k1_dev8_lt c⟩ | false, false, ⟨3, _⟩ => ⟨k1_dev10 c, k1_dev10_lt c⟩
  | false, false, ⟨4, _⟩ => ⟨k1_dev12 c, k1_dev12_lt c⟩ | false, false, ⟨5, _⟩ => ⟨k1_dev14 c, k1_dev14_lt c⟩
  | false, false, ⟨6, _⟩ => ⟨k1_dev16 c, k1_dev16_lt c⟩ | false, false, ⟨7, _⟩ => ⟨k1_dev18 c, k1_dev18_lt c⟩
  | false, false, ⟨8, _⟩ => ⟨k1_dev20 c, k1_dev20_lt c⟩ | false, false, ⟨9, _⟩ => ⟨k1_dev22 c, k1_dev22_lt c⟩
  | false, false, ⟨10, _⟩ => ⟨k1_dev24 c, k1_dev24_lt c⟩ | false, false, ⟨11, _⟩ => ⟨k1_dev26 c, k1_dev26_lt c⟩
  | false, false, ⟨12, _⟩ => ⟨k1_dev28 c, k1_dev28_lt c⟩ | false, false, ⟨13, _⟩ => ⟨k1_dev30 c, k1_dev30_lt c⟩
  | false, false, ⟨14, _⟩ => ⟨k1_dev32 c, k1_dev32_lt c⟩
  | false, true, ⟨0, _⟩ => ⟨k1_dev34 c, k1_dev34_lt c⟩ | false, true, ⟨1, _⟩ => ⟨k1_dev38 c, k1_dev38_lt c⟩
  | false, true, ⟨2, _⟩ => ⟨k1_dev42 c, k1_dev42_lt c⟩ | false, true, ⟨3, _⟩ => ⟨k1_dev46 c, k1_dev46_lt c⟩
  | false, true, ⟨4, _⟩ => ⟨k1_dev50 c, k1_dev50_lt c⟩ | false, true, ⟨5, _⟩ => ⟨k1_dev54 c, k1_dev54_lt c⟩
  | false, true, ⟨6, _⟩ => ⟨k1_dev58 c, k1_dev58_lt c⟩ | false, true, ⟨7, _⟩ => ⟨k1_dev62 c, k1_dev62_lt c⟩
  | false, true, ⟨8, _⟩ => ⟨k1_dev36 c, k1_dev36_lt c⟩ | false, true, ⟨9, _⟩ => ⟨k1_dev40 c, k1_dev40_lt c⟩
  | false, true, ⟨10, _⟩ => ⟨k1_dev44 c, k1_dev44_lt c⟩ | false, true, ⟨11, _⟩ => ⟨k1_dev48 c, k1_dev48_lt c⟩
  | false, true, ⟨12, _⟩ => ⟨k1_dev52 c, k1_dev52_lt c⟩ | false, true, ⟨13, _⟩ => ⟨k1_dev56 c, k1_dev56_lt c⟩
  | false, true, ⟨14, _⟩ => ⟨k1_dev60 c, k1_dev60_lt c⟩

/-! ## Buffers, slots and semaphores -/

/-- The reduce-scatter landing slots. -/
def rsB : Bool → Memref sig .tc .vmem S15x128x512 .bf16
  | true => Memref.whole cc1_scratch0
  | false => Memref.whole cc1_scratch4
/-- The reduce-scatter source slots. -/
def sdB : Bool → Memref sig .tc .vmem S15x128x512 .bf16
  | true => Memref.whole cc1_scratch1
  | false => Memref.whole cc1_scratch5
/-- The all-gather landing slots. -/
def agB : Bool → Memref sig .tc .vmem S15x128x512 .bf16
  | true => Memref.whole cc1_scratch2
  | false => Memref.whole cc1_scratch6
/-- The reduced chunk. -/
def rdB : Bool → Memref sig .tc .vmem S128x512 .bf16
  | true => Memref.whole cc1_scratch3
  | false => Memref.whole cc1_scratch7
/-- The rounded half of the device's own partial product. -/
def pbB : Bool → Memref sig .tc .vmem S2048x512 .bf16
  | true => Memref.whole cc1_scratch8
  | false => Memref.whole cc1_scratch9
abbrev pM : Memref sig .tc .vmem S1x2048x1024 .f32 := Memref.whole cc1_stg0_0
abbrev oM : Memref sig .tc .vmem S1x2048x1024 .f32 := Memref.whole cc1_stg1_0

theorem rsB_whole : ∀ s, (rsB s).IsWhole := fun | true => Memref.isWhole_whole _ | false => Memref.isWhole_whole _
theorem sdB_whole : ∀ s, (sdB s).IsWhole := fun | true => Memref.isWhole_whole _ | false => Memref.isWhole_whole _
theorem agB_whole : ∀ s, (agB s).IsWhole := fun | true => Memref.isWhole_whole _ | false => Memref.isWhole_whole _
theorem rdB_whole : ∀ s, (rdB s).IsWhole := fun | true => Memref.isWhole_whole _ | false => Memref.isWhole_whole _
theorem pbB_whole : ∀ s, (pbB s).IsWhole := fun | true => Memref.isWhole_whole _ | false => Memref.isWhole_whole _

/-- The semaphore arrays, by direction, phase and end (`false` for the sending one, `true` for the receiving one). -/
def semArr : Bool → Bool → Bool → DmaSems sig S15
  | true, false, false => cc1_scratch10
  | true, false, true => cc1_scratch11
  | true, true, false => cc1_scratch12
  | true, true, true => cc1_scratch13
  | false, false, false => cc1_scratch14
  | false, false, true => cc1_scratch15
  | false, true, false => cc1_scratch16
  | false, true, true => cc1_scratch17

theorem inbSlot (h : Fin 15) : ∀ a, (![h.val, 0, 0] : Fin 3 → Nat) a + S1x128x512.size a ≤ S15x128x512.size a := by
  revert h; decide
theorem inbSem (h : Fin 15) : ∀ a, (![h.val] : Fin 1 → Nat) a + S1.size a ≤ S15.size a := by revert h; decide

/-- Slot `h` of a buffer of fifteen, as a rectangle of it. -/
abbrev slotR (h : Fin 15) : Rect S15x128x512 :=
  Rect.unit (s := S15x128x512) ![h.val, 0, 0] S1x128x512.size (inbSlot h)

theorem wordsSlot : ∀ h : Fin 15, (slotR h).WholeWords (EltTy.packing .bf16)
  | ⟨0, _⟩ => wordsbf16_S15x128x512_S1x128x512_0_0_0 | ⟨1, _⟩ => wordsbf16_S15x128x512_S1x128x512_1_0_0
  | ⟨2, _⟩ => wordsbf16_S15x128x512_S1x128x512_2_0_0 | ⟨3, _⟩ => wordsbf16_S15x128x512_S1x128x512_3_0_0
  | ⟨4, _⟩ => wordsbf16_S15x128x512_S1x128x512_4_0_0 | ⟨5, _⟩ => wordsbf16_S15x128x512_S1x128x512_5_0_0
  | ⟨6, _⟩ => wordsbf16_S15x128x512_S1x128x512_6_0_0 | ⟨7, _⟩ => wordsbf16_S15x128x512_S1x128x512_7_0_0
  | ⟨8, _⟩ => wordsbf16_S15x128x512_S1x128x512_8_0_0 | ⟨9, _⟩ => wordsbf16_S15x128x512_S1x128x512_9_0_0
  | ⟨10, _⟩ => wordsbf16_S15x128x512_S1x128x512_10_0_0 | ⟨11, _⟩ => wordsbf16_S15x128x512_S1x128x512_11_0_0
  | ⟨12, _⟩ => wordsbf16_S15x128x512_S1x128x512_12_0_0 | ⟨13, _⟩ => wordsbf16_S15x128x512_S1x128x512_13_0_0
  | ⟨14, _⟩ => wordsbf16_S15x128x512_S1x128x512_14_0_0
theorem packedSlot : ∀ h : Fin 15, (slotR h).PackedRows (EltTy.packing .bf16)
  | ⟨0, _⟩ => packedbf16_S15x128x512_S1x128x512_0_0_0 | ⟨1, _⟩ => packedbf16_S15x128x512_S1x128x512_1_0_0
  | ⟨2, _⟩ => packedbf16_S15x128x512_S1x128x512_2_0_0 | ⟨3, _⟩ => packedbf16_S15x128x512_S1x128x512_3_0_0
  | ⟨4, _⟩ => packedbf16_S15x128x512_S1x128x512_4_0_0 | ⟨5, _⟩ => packedbf16_S15x128x512_S1x128x512_5_0_0
  | ⟨6, _⟩ => packedbf16_S15x128x512_S1x128x512_6_0_0 | ⟨7, _⟩ => packedbf16_S15x128x512_S1x128x512_7_0_0
  | ⟨8, _⟩ => packedbf16_S15x128x512_S1x128x512_8_0_0 | ⟨9, _⟩ => packedbf16_S15x128x512_S1x128x512_9_0_0
  | ⟨10, _⟩ => packedbf16_S15x128x512_S1x128x512_10_0_0 | ⟨11, _⟩ => packedbf16_S15x128x512_S1x128x512_11_0_0
  | ⟨12, _⟩ => packedbf16_S15x128x512_S1x128x512_12_0_0 | ⟨13, _⟩ => packedbf16_S15x128x512_S1x128x512_13_0_0
  | ⟨14, _⟩ => packedbf16_S15x128x512_S1x128x512_14_0_0

/-- Slot `h` of a buffer of fifteen. -/
def slot (m : Memref sig .tc .vmem S15x128x512 .bf16) (h : Fin 15) : Memref sig .tc .vmem S128x512 .bf16 :=
  (m.slice (slotR h) (fun _ => rfl)).squeeze S128x512 squeezes_S1x128x512_S128x512

theorem slot_words {m : Memref sig .tc .vmem S15x128x512 .bf16} (hm : m.IsWhole) (h : Fin 15) : (slot m h).view.WordExact :=
  (hm.wordExact_slice rfl _ (wordsSlot h)).reshape _ _

/-- The semaphore of a transfer's end. -/
def sm (s p v : Bool) (h : Fin 15) : DmaSem sig :=
  (((semArr s p v).slice (Rect.unit (s := S15) ![h.val] S1.size (inbSem h))).squeeze S_ squeezes_S1_S_).sem

/-- The slot before; used from slots one to seven and nine to fourteen. -/
def before (h : Fin 15) : Fin 15 := ⟨h.val - 1, by omega⟩

/-- Where the transfer lands. -/
def dslot : Bool → Bool → Fin 15 → Memref sig .tc .vmem S128x512 .bf16
  | s, false, h => slot (rsB s) h
  | s, true, h => slot (agB s) h
/-- What the transfer reads. -/
def sslot : Bool → Bool → Fin 15 → Memref sig .tc .vmem S128x512 .bf16
  | s, false, h => slot (sdB s) h
  | s, true, h => if h.val = 0 ∨ h.val = 8 then rdB s else slot (agB s) (before h)

theorem sslot_words_ag (h : Fin 15) (s : Bool) : (sslot s true h).view.WordExact := by
  show (if h.val = 0 ∨ h.val = 8 then rdB s else slot (agB s) (before h)).view.WordExact
  split
  · exact (rdB_whole s).wordExact
  · exact slot_words (agB_whole s) _
theorem dslot_words : ∀ (s p : Bool) (h : Fin 15), (dslot s p h).view.WordExact
  | s, false, h => slot_words (rsB_whole s) h
  | s, true, h => slot_words (agB_whole s) h
theorem sslot_words : ∀ (s p : Bool) (h : Fin 15), (sslot s p h).view.WordExact
  | s, false, h => slot_words (sdB_whole s) h
  | s, true, h => sslot_words_ag h s

/-! ## The operations -/

/-- One transfer, to device `n`. -/
def sendP (n : Dev nD) (s p : Bool) (h : Fin 15) : KProg (F := F) PUnit :=
  Prog.lift (.enqueueDma (sslot s p h) (.remote (Dev.tc n) (dslot s p h) (.dma (sm s p false h))) (.dma (sm s p true h))
    (sslot_words s p h) (dslot_words s p h) ⟨⟨rfl, Or.inl rfl⟩, trivial⟩)
/-- The wait for what lands here. -/
def recvP (s p : Bool) (h : Fin 15) : KProg (F := F) PUnit :=
  Prog.lift (.waitDma2 (sm s p true h) (sslot s p h) (dslot s p h) (sslot_words s p h) (dslot_words s p h))
/-- The wait for what was sent from here. -/
def drainP (s p : Bool) (h : Fin 15) : KProg (F := F) PUnit :=
  Prog.lift (.waitDma2 (sm s p false h) (dslot s p h) (sslot s p h) (dslot_words s p h) (sslot_words s p h))

/-- The load of a slot. -/
def ldSlot (m : Memref sig .tc .vmem S15x128x512 .bf16) (h : Fin 15) : KProg (F := F) (Vec F S1x128x512 .bf16) :=
  Prog.lift (.load m (slotR h).toLoadRect (View.loadsAt_vmem h_S1x128x512))
/-- The store of a slot, the dead load before it included. -/
def stSlot (m : Memref sig .tc .vmem S15x128x512 .bf16) (hm : m.IsWhole) (h : Fin 15) (v : FVec F S1x128x512 .bf16) :
    KProg (F := F) PUnit := do
  let _ ← ldSlot m h
  Prog.lift (.store m (slotR h) v Finset.univ
    (View.stores_vmem h_S1x128x512 (hm.storeExact_slice rfl _ (packedSlot h)) (fun _ => rfl)) (.inl rfl))

/-- The load of a chunk of rows of the rounded half. -/
def ldPb (s : Bool) (off : Fin 2 → Nat) (hoff : ∀ a, off a + S128x512.size a ≤ S2048x512.size a) :
    KProg (F := F) (Vec F S128x512 .bf16) :=
  Prog.lift (.load (pbB s) (Rect.unit (s := S2048x512) off S128x512.size hoff).toLoadRect (View.loadsAt_vmem h_S128x512))

/-- The load of a block of the partial product or the result. -/
def ldBlk (m : Memref sig .tc .vmem S1x2048x1024 .f32) (off : Fin 3 → Nat)
    (hoff : ∀ a, off a + S1x128x512.size a ≤ S1x2048x1024.size a) : KProg (F := F) (Vec F S1x128x512 .f32) :=
  Prog.lift (.load m (Rect.unit (s := S1x2048x1024) off S1x128x512.size hoff).toLoadRect (View.loadsAt_vmem h_S1x128x512))
/-- The store of a block of the result, the dead load before it included. -/
def stBlk (off : Fin 3 → Nat) (hoff : ∀ a, off a + S1x128x512.size a ≤ S1x2048x1024.size a) (v : FVec F S1x128x512 .f32) :
    KProg (F := F) PUnit := do
  let _ ← ldBlk oM off hoff
  Prog.lift (.store oM (Rect.unit (s := S1x2048x1024) off S1x128x512.size hoff) v Finset.univ
    (View.stores_vmem_bits_univ h_S1x128x512 rfl) (.inl rfl))

/-- The stores of the rounded halves. -/
def stPb (s : Bool) (v : FVec F S2048x512 .bf16) : KProg (F := F) PUnit := do
  let _ ← Prog.lift (.load (pbB s) (Rect.unit (s := S2048x512) ![0, 0] S2048x512.size inb_S2048x512_S2048x512_0_0).toLoadRect
    (View.loadsAt_vmem h_S2048x512))
  Prog.lift (.store (pbB s) (Rect.unit (s := S2048x512) ![0, 0] S2048x512.size inb_S2048x512_S2048x512_0_0) v Finset.univ
    (View.stores_vmem h_S2048x512 ((pbB_whole s).storeExact_slice rfl _ packedbf16_S2048x512_S2048x512_0_0) (fun _ => rfl)) (.inl rfl))
/-- The store of the reduced chunk. -/
def stRd (s : Bool) (v : FVec F S128x512 .bf16) : KProg (F := F) PUnit := do
  let _ ← Prog.lift (.load (rdB s) (Rect.unit (s := S128x512) ![0, 0] S128x512.size inb_S128x512_S128x512_0_0).toLoadRect
    (View.loadsAt_vmem h_S128x512))
  Prog.lift (.store (rdB s) (Rect.unit (s := S128x512) ![0, 0] S128x512.size inb_S128x512_S128x512_0_0) v Finset.univ
    (View.stores_vmem h_S128x512 ((rdB_whole s).storeExact_slice rfl _ packedbf16_S128x512_S128x512_0_0) (fun _ => rfl)) (.inl rfl))

/-- The column at which a direction's half begins. -/
def colOff : Bool → Fin 3 → Nat
  | true => ![0, 0, 0]
  | false => ![0, 0, 512]
theorem colOff_inb : ∀ s a, colOff s a + S1x2048x512.size a ≤ S1x2048x1024.size a
  | true => inb_S1x2048x1024_S1x2048x512_0_0_0
  | false => inb_S1x2048x1024_S1x2048x512_0_0_512

/-- The chunk added at reduce-scatter step `h`. -/
def rsOff (c : Dev nD) : Bool → Fin 14 → Fin 2 → Nat
  | true, h => k1_off2 c (BitVec.ofNat 32 h.val)
  | false, h => k1_off3 c (BitVec.ofNat 32 h.val)
theorem rsOff_inb (c : Dev nD) : ∀ s h a, rsOff c s h a + S128x512.size a ≤ S2048x512.size a
  | true, h => k1_off2_inb c h
  | false, h => k1_off3_inb c h
/-- The block of the partial product added last. -/
def accOff (c : Dev nD) : Bool → Fin 3 → Nat
  | true => k1_off4 c
  | false => k1_off5 c
theorem accOff_inb (c : Dev nD) : ∀ s a, accOff c s a + S1x128x512.size a ≤ S1x2048x1024.size a
  | true => k1_off4_inb c
  | false => k1_off5_inb c
/-- The block of the result that is the device's own. -/
def ownOff (c : Dev nD) : Bool → Fin 3 → Nat
  | true => k1_off6 c
  | false => k1_off7 c
theorem ownOff_inb (c : Dev nD) : ∀ s a, ownOff c s a + S1x128x512.size a ≤ S1x2048x1024.size a
  | true => k1_off6_inb c
  | false => k1_off7_inb c
/-- The block of the result that a gathered slot below eight is. -/
def gaOff (c : Dev nD) : Bool → Fin 8 → Fin 3 → Nat
  | true, h => k1_off8 c (BitVec.ofNat 32 h.val)
  | false, h => k1_off9 c (BitVec.ofNat 32 h.val)
theorem gaOff_inb (c : Dev nD) : ∀ s h a, gaOff c s h a + S1x128x512.size a ≤ S1x2048x1024.size a
  | true, h => k1_off8_inb c h
  | false, h => k1_off9_inb c h
/-- The block of the result that a gathered slot from eight on is. -/
def gbOff (c : Dev nD) : Bool → Fin 7 → Fin 3 → Nat
  | true, h => k1_off10 c (BitVec.ofNat 32 h.val)
  | false, h => k1_off11 c (BitVec.ofNat 32 h.val)
theorem gbOff_inb (c : Dev nD) : ∀ s h a, gbOff c s h a + S1x128x512.size a ≤ S1x2048x1024.size a
  | true, h => k1_off10_inb c h
  | false, h => k1_off11_inb c h

/-! ## The run -/

/-- A run of `n` steps. -/
def loop : (n : ℕ) → (Fin n → KProg (F := F) PUnit) → KProg (F := F) PUnit
  | 0, _ => pure ⟨⟩
  | n + 1, f => do f 0; loop n (fun i => f i.succ)

/-- The rounded half of the partial product, and its chunk sent first. -/
def pbP (s : Bool) : KProg (F := F) PUnit := do
  let v ← Prog.lift (.load pM (Rect.unit (s := S1x2048x1024) (colOff s) S1x2048x512.size (colOff_inb s)).toLoadRect
    (View.loadsAt_vmem h_S1x2048x512))
  stPb s (k1_pay1 v)
def firstP (c : Dev nD) (s : Bool) : KProg (F := F) PUnit := do
  let v ← ldPb s (k1_off1 c) (k1_off1_inb c)
  stSlot (sdB s) (sdB_whole s) 0 (k1_pay3 v)

/-- The sum prepared at reduce-scatter step `h`. -/
def addP (c : Dev nD) (s : Bool) (h : Fin 14) : KProg (F := F) PUnit := do
  let v ← ldSlot (rsB s) h.castSucc
  let w ← ldPb s (rsOff c s h) (rsOff_inb c s h)
  stSlot (sdB s) (sdB_whole s) h.succ (k1_pay5 v w)

def rsStep (c : Dev nD) (h : Fin 14) : KProg (F := F) PUnit := do
  recvP true false h.castSucc
  recvP false false h.castSucc
  addP c true h
  addP c false h
  sendP (devOf c true false h.succ) true false h.succ
  sendP (devOf c false false h.succ) false false h.succ

/-- The finished sum of the device's own chunk, and its rounding. -/
def accP (c : Dev nD) (s : Bool) : KProg (F := F) (FVec F S128x512 .f32 × FVec F S128x512 .bf16) := do
  let v ← ldSlot (rsB s) 14
  let w ← ldBlk pM (accOff c s) (accOff_inb c s)
  pure (k1_pay40 v w, k1_pay42 v w)

/-- The transfers of an all-gather step below eight, and of its other half. -/
def low (t : Fin 8) : Fin 15 := t.castLE (by decide)
def high (t : Fin 7) : Fin 15 := t.natAdd 8

def sendsP (c : Dev nD) (h : Fin 15) : KProg (F := F) PUnit := do
  sendP (devOf c true true h) true true h
  sendP (devOf c false true h) false true h
def recvsP (p : Bool) (h : Fin 15) : KProg (F := F) PUnit := do
  recvP true p h
  recvP false p h
def drainsP (p : Bool) (h : Fin 15) : KProg (F := F) PUnit := do
  drainP true p h
  drainP false p h

/-- A gathered slot written to its block of the result. -/
def putA (c : Dev nD) (s : Bool) (t : Fin 8) : KProg (F := F) PUnit := do
  let v ← ldSlot (agB s) (low t)
  stBlk (gaOff c s t) (gaOff_inb c s t) (k1_pay45 v)
def putB (c : Dev nD) (s : Bool) (t : Fin 7) : KProg (F := F) PUnit := do
  let v ← ldSlot (agB s) (high t)
  stBlk (gbOff c s t) (gbOff_inb c s t) (k1_pay45 v)

def agRecv (c : Dev nD) (t : Fin 7) : KProg (F := F) PUnit := do
  recvsP true (low t.castSucc)
  recvsP true (high t)
  putA c true t.castSucc
  putA c false t.castSucc
  putB c true t
  putB c false t
def agSend (c : Dev nD) (t : Fin 7) : KProg (F := F) PUnit := do
  sendsP c (low t.castSucc)
  sendsP c (high t)
def agStep (c : Dev nD) (t : Fin 6) : KProg (F := F) PUnit := do
  agSend c t.succ
  agRecv c t.succ

/-- The barrier semaphore of the kernel. -/
def barS : Sem sig := (SemArray.scalar (sig.barrier 0 rfl) : Sems sig S_).sem

/-- The printed body at the buffers of the launch. -/
abbrev at₂₀ {α : Type 1} (f : (m0 : Memref sig .tc .vmem S1x2048x1024 .f32) → m0.IsWhole →
      (m1 : Memref sig .tc .vmem S1x2048x1024 .f32) → m1.IsWhole →
      (m2 : Memref sig .tc .vmem S15x128x512 .bf16) → m2.IsWhole →
      (m3 : Memref sig .tc .vmem S15x128x512 .bf16) → m3.IsWhole →
      (m4 : Memref sig .tc .vmem S15x128x512 .bf16) → m4.IsWhole →
      (m5 : Memref sig .tc .vmem S128x512 .bf16) → m5.IsWhole →
      (m6 : Memref sig .tc .vmem S15x128x512 .bf16) → m6.IsWhole →
      (m7 : Memref sig .tc .vmem S15x128x512 .bf16) → m7.IsWhole →
      (m8 : Memref sig .tc .vmem S15x128x512 .bf16) → m8.IsWhole →
      (m9 : Memref sig .tc .vmem S128x512 .bf16) → m9.IsWhole →
      (m10 : Memref sig .tc .vmem S2048x512 .bf16) → m10.IsWhole →
      (m11 : Memref sig .tc .vmem S2048x512 .bf16) → m11.IsWhole →
      DmaSems sig S15 → DmaSems sig S15 → DmaSems sig S15 → DmaSems sig S15 →
      DmaSems sig S15 → DmaSems sig S15 → DmaSems sig S15 → DmaSems sig S15 → α) : α :=
  f pM (Memref.isWhole_whole _) oM (Memref.isWhole_whole _)
      (Memref.whole cc1_scratch0) (Memref.isWhole_whole _) (Memref.whole cc1_scratch1) (Memref.isWhole_whole _)
      (Memref.whole cc1_scratch2) (Memref.isWhole_whole _) (Memref.whole cc1_scratch3) (Memref.isWhole_whole _)
      (Memref.whole cc1_scratch4) (Memref.isWhole_whole _) (Memref.whole cc1_scratch5) (Memref.isWhole_whole _)
      (Memref.whole cc1_scratch6) (Memref.isWhole_whole _) (Memref.whole cc1_scratch7) (Memref.isWhole_whole _)
      (Memref.whole cc1_scratch8) (Memref.isWhole_whole _) (Memref.whole cc1_scratch9) (Memref.isWhole_whole _)
      cc1_scratch10 cc1_scratch11 cc1_scratch12 cc1_scratch13 cc1_scratch14 cc1_scratch15 cc1_scratch16 cc1_scratch17

/-- The whole run on device `c`. -/
def run (c : Dev nD) : KProg (F := F) PUnit := do
  semSignalWord (⟨k1_dev1 c, k1_dev1_lt c⟩ : Dev nD) barS 1#32
  semSignalWord (⟨k1_dev2 c, k1_dev2_lt c⟩ : Dev nD) barS 1#32
  semWaitWord barS 2#32
  pbP true
  pbP false
  firstP c true
  firstP c false
  sendP (devOf c true false 0) true false 0
  sendP (devOf c false false 0) false false 0
  loop 14 (rsStep c)
  recvsP false 14
  let aR ← accP c true
  let aL ← accP c false
  stRd true aR.2
  stRd false aL.2
  agSend c 0
  stBlk (ownOff c true) (ownOff_inb c true) (k1_pay43 aR.1)
  stBlk (ownOff c false) (ownOff_inb c false) (k1_pay43 aL.1)
  agRecv c 0
  loop 6 (agStep c)
  sendsP c 7
  recvsP true 7
  putA c true 7
  putA c false 7
  loop 15 (drainsP false)
  loop 7 (fun t => do drainsP true (low t.castSucc); drainsP true (high t))
  drainsP true 7

/-- The printed body is the run. -/
theorem body_eq_run : at₂₀ (cc1_ar_body (F := F)) = Prog.op (.deviceId) (fun c => run c) := by
  chain_rfl

end Cert.KernelIdeal.Ring

end
-- ==== Proof.Ring.Dev.lean ====
/-
The ring of the sixteen devices: the place of each, its neighbours, the device each transfer goes to and comes from,
and the device whose sum a gathered slot holds. Everything here is a finite table.
-/
module

public import proofs.«01_k».proof.Proof.Ring.Model

@[expose] public section

noncomputable section

namespace Cert.KernelIdeal.Ring

open Cert.KernelIdeal Cert.KernelIdeal.Gen
open Idealize.ShloMosaic Idealize.ShloMosaic.TcCoe Idealize.SL.Sem

/-- A transfer: its direction, its phase, its slot. -/
abbrev Key := Bool × Bool × Fin 15

/-- The place of a device in the ring, and the device at a place. -/
def posN (n : ℕ) : ℕ :=
  match n % 4 with
  | 0 => n / 4
  | 1 => 15 - n / 4
  | 2 => 8 + n / 4
  | _ => 7 - n / 4
def devN (k : ℕ) : ℕ :=
  match k / 4 with
  | 0 => 4 * k
  | 1 => 4 * (7 - k) + 3
  | 2 => 4 * (k - 8) + 2
  | _ => 4 * (15 - k) + 1
theorem posN_lt (c : Dev nD) : posN c.val < 16 := by revert c; decide
theorem devN_lt (k : Fin 16) : devN k.val < 16 := by revert k; decide
def pos (c : Dev nD) : Fin 16 := ⟨posN c.val, posN_lt c⟩
def devAt (k : Fin 16) : Dev nD := ⟨devN k.val, devN_lt k⟩
theorem pos_devAt (k : Fin 16) : pos (devAt k) = k := by revert k; decide
theorem devAt_pos (c : Dev nD) : devAt (pos c) = c := by revert c; decide

/-- The neighbour in a direction: `true` the next, `false` the previous. -/
def nb (s : Bool) (c : Dev nD) : Dev nD := devAt (if s then pos c + 1 else pos c - 1)
theorem nb_nb (s : Bool) (c : Dev nD) : nb (!s) (nb s c) = c := by revert s c; decide +kernel
theorem nb_nb' (s : Bool) (c : Dev nD) : nb s (nb (!s) c) = c := by revert s c; decide +kernel
def ring (s : Bool) : Dev nD ≃ Dev nD := ⟨nb s, nb (!s), nb_nb s, nb_nb' s⟩

/-- The direction a transfer travels: the all-gather's slots from eight on travel the other way round. -/
def via (k : Key) : Bool := if k.2.1 ∧ 8 ≤ k.2.2.val then !k.1 else k.1
def dst (k : Key) (c : Dev nD) : Dev nD := nb (via k) c
def src (k : Key) (c : Dev nD) : Dev nD := nb (!via k) c
theorem src_dst (k : Key) (c : Dev nD) : src k (dst k c) = c := nb_nb _ c
theorem dst_src (k : Key) (c : Dev nD) : dst k (src k c) = c := nb_nb' _ c

set_option maxRecDepth 100000 in
theorem devOf_eq : ∀ (s p : Bool) (h : Fin 15) (c : Dev nD), devOf c s p h = dst (s, p, h) c := by decide +kernel
theorem dev1_eq : ∀ c : Dev nD, (⟨k1_dev1 c, k1_dev1_lt c⟩ : Dev nD) = nb false c := by decide +kernel
theorem dev2_eq : ∀ c : Dev nD, (⟨k1_dev2 c, k1_dev2_lt c⟩ : Dev nD) = nb true c := by decide +kernel

/-- The chunk of rows a device reduces, in a direction's half of the columns; the device that reduces a chunk. -/
def own (s : Bool) (c : Dev nD) : Fin 16 := if s then pos c + 1 else pos c - 1
def owner (s : Bool) (k : Fin 16) : Dev nD := devAt (if s then k - 1 else k + 1)
theorem owner_own (s : Bool) (c : Dev nD) : owner s (own s c) = c := by revert s c; decide +kernel
theorem own_owner (s : Bool) (k : Fin 16) : own s (owner s k) = k := by revert s k; decide +kernel

/-- The chunk of rows a device prepares for its reduce-scatter transfer `h`. -/
def chk (s : Bool) (h : Fin 16) (c : Dev nD) : Fin 16 := if s then pos c - h else pos c + h

/-- The device whose reduced chunk transfer `h` of the all-gather carries, sent by `c`. -/
def org (s : Bool) (h : Fin 15) (c : Dev nD) : Dev nD :=
  let far : Fin 16 := if h.val < 8 then ⟨h.val, by omega⟩ else ⟨h.val - 8, by omega⟩
  devAt (if (s = true) ↔ h.val < 8 then pos c - far else pos c + far)
/-- The device whose reduced chunk has landed in gather slot `h` of `c`. -/
def got (s : Bool) (h : Fin 15) (c : Dev nD) : Dev nD := org s h (src (s, true, h) c)

theorem org_zero : ∀ (s : Bool) (c : Dev nD), org s 0 c = c ∧ org s 8 c = c := by decide +kernel
theorem org_low : ∀ (s : Bool) (t : Fin 7) (c : Dev nD), org s (low t.succ) c = got s (low t.castSucc) c := by decide +kernel
theorem org_high : ∀ (s : Bool) (t : Fin 6) (c : Dev nD), org s (high t.succ) c = got s (high t.castSucc) c := by decide +kernel
theorem got_ne : ∀ (s : Bool) (h : Fin 15) (c : Dev nD), got s h c ≠ c := by decide +kernel

/-! ## The offsets -/

/-- The first entry of a block of the result: chunk `k` of rows, a direction's half of the columns. -/
def blkOff (s : Bool) (k : Fin 16) : Fin 3 → Nat := ![0, 128 * k.val, if s then 0 else 512]
/-- The first entry of chunk `k` of rows of a half. -/
def rowOff (k : Fin 16) : Fin 2 → Nat := ![128 * k.val, 0]

theorem blkOff_inb : ∀ s k a, blkOff s k a + S1x128x512.size a ≤ S1x2048x1024.size a := by decide +kernel
theorem rowOff_inb : ∀ k a, rowOff k a + S128x512.size a ≤ S2048x512.size a := by decide +kernel

theorem off1_eq : ∀ (s : Bool) (c : Dev nD), k1_off1 c = rowOff (chk s 0 c) := by decide +kernel
theorem rsOff_eq : ∀ (s : Bool) (h : Fin 14) (c : Dev nD), rsOff c s h = rowOff (chk s h.succ.castSucc c) := by decide +kernel
theorem accOff_eq : ∀ (s : Bool) (c : Dev nD), accOff c s = blkOff s (own s c) := by decide +kernel
theorem ownOff_eq : ∀ (s : Bool) (c : Dev nD), ownOff c s = blkOff s (own s c) := by decide +kernel
theorem gaOff_eq : ∀ (s : Bool) (t : Fin 8) (c : Dev nD), gaOff c s t = blkOff s (own s (got s (low t) c)) := by decide +kernel
theorem gbOff_eq : ∀ (s : Bool) (t : Fin 7) (c : Dev nD), gbOff c s t = blkOff s (own s (got s (high t) c)) := by decide +kernel

/-- The chunk prepared for a transfer is the one its predecessor prepared for the transfer before. -/
theorem chk_src : ∀ (s : Bool) (h : Fin 15) (c : Dev nD), chk s h.castSucc (nb (!s) c) = chk s h.succ c := by decide +kernel
theorem chk_own : ∀ (s : Bool) (c : Dev nD), chk s 15 c = own s c := by decide +kernel

end Cert.KernelIdeal.Ring
-- ==== Proof.Ring.Proto.lean ====
/-
The protocol of the all-reduce: what each semaphore cell hands over, and what each device owes.

There is one barrier cell per device and, for each transfer, a sending cell and a receiving cell. Every cell has one
round. A device's signal to a neighbour's barrier cell hands that neighbour the slots it will write into; a transfer's
receiving cell hands over the slot with the value sent; its sending cell gives the source back.
-/
module

public import proofs.«01_k».proof.Proof.Ring.Dev
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds of the all-reduce: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The values -/

section Values

-- the partial product of each device
variable (P : Dev nD → FVec F S1x2048x1024 .f32)

/-- A half of a device's partial product, rounded. -/
def pbV (s : Bool) (c : Dev nD) : FVec F S2048x512 .bf16 :=
  k1_pay1 fun i => P c ((Rect.unit (s := S1x2048x1024) (colOff s) S1x2048x512.size (colOff_inb s)).toLoadRect.idx i)
/-- A chunk of rows of it. -/
def chunk (s : Bool) (c : Dev nD) (k : Fin 16) : FVec F S128x512 .bf16 :=
  fun i => pbV P s c ((Rect.unit (s := S2048x512) (rowOff k) S128x512.size (rowOff_inb k)).toLoadRect.idx i)
/-- A block of a device's partial product. -/
def pBlk (s : Bool) (c : Dev nD) (k : Fin 16) : FVec F S1x128x512 .f32 :=
  fun i => P c ((Rect.unit (s := S1x2048x1024) (blkOff s k) S1x128x512.size (blkOff_inb s k)).toLoadRect.idx i)

/-- What device `c` sends in reduce-scatter transfer `h`: what the one before it sent in the transfer before, plus its own chunk. -/
def sumV (s : Bool) : (h : ℕ) → h < 15 → Dev nD → FVec F S128x512 .bf16
  | 0, _, c => chunk P s c (chk s 0 c)
  | h + 1, hh, c => addf (sumV s h (by omega) (nb (!s) c)) (chunk P s c (chk s ⟨h + 1, by omega⟩ c))

/-- The finished sum of a device's own chunk, and its rounding. -/
def accV (s : Bool) (c : Dev nD) : FVec F S128x512 .f32 :=
  k1_pay40 (k1_pay3 (sumV P s 14 (by decide) (nb (!s) c))) (pBlk P s c (own s c))
def redV (s : Bool) (c : Dev nD) : FVec F S128x512 .bf16 :=
  k1_pay42 (k1_pay3 (sumV P s 14 (by decide) (nb (!s) c))) (pBlk P s c (own s c))

/-- The value transfer `k` of device `c` carries. -/
def tV (k : Key) (c : Dev nD) : FVec F S128x512 .bf16 :=
  if k.2.1 then redV P k.1 (org k.1 k.2.2 c) else sumV P k.1 k.2.2.val k.2.2.isLt c

/-- The block of the result of device `c`: its own sum unrounded, the others as gathered. -/
def outBlk (c : Dev nD) (s : Bool) (k : Fin 16) : FVec F S1x128x512 .f32 :=
  if owner s k = c then k1_pay43 (accV P s c) else k1_pay45 (k1_pay3 (redV P s (owner s k)))

end Values

/-! ## The cells -/

abbrev dK (k : Key) := dslot k.1 k.2.1 k.2.2
abbrev sK (k : Key) := sslot k.1 k.2.1 k.2.2
abbrev smK (v : Bool) (k : Key) : DmaSem sig := sm k.1 k.2.1 v k.2.2

abbrev barCell (c : Dev nD) : GSem nD τ sig := ((c : Thread nD τ), .reg barS)
abbrev xCell (v : Bool) (k : Key) (c : Dev nD) : GSem nD τ sig := ((c : Thread nD τ), .dma (smK v k))

/-- The end and the transfer a semaphore belongs to. -/
def dec (q : DmaSem sig) : Bool × Key :=
  let n := q.val - 10
  (decide (n / 15 % 2 = 1), decide (n / 60 = 0), decide (n / 30 % 2 = 1), ⟨n % 15, Nat.mod_lt _ (by decide)⟩)
theorem dec_sm : ∀ (v s p : Bool) (h : Fin 15), dec (sm s p v h) = (v, s, p, h) := by decide +kernel
theorem sm_ten_le : ∀ (v s p : Bool) (h : Fin 15), 10 ≤ (sm s p v h).val := by decide +kernel
theorem dec_smK (v : Bool) (k : Key) : dec (smK v k) = (v, k) := dec_sm v k.1 k.2.1 k.2.2
theorem smK_ten_le (v : Bool) (k : Key) : 10 ≤ (smK v k).val := sm_ten_le v k.1 k.2.1 k.2.2
theorem smK_inj {v v' : Bool} {k k' : Key} (h : smK v k = smK v' k') : v = v' ∧ k = k' := by
  have := congrArg dec h; rw [dec_smK, dec_smK] at this; exact Prod.mk.inj this

def N : ℕ := (dslot true false 0).view.dmaCredit
theorem N_pos : 0 < N := View.dmaCredit_pos _ (by decide)
theorem N_eq (k : Key) : (dK k).view.dmaCredit = N := by
  obtain ⟨s, p, h⟩ := k; cases s <;> cases p <;> rfl
theorem N_eq' (k : Key) : (sK k).view.dmaCredit = N := by
  revert k; decide +kernel

/-- The share of its source a transfer reads: the two first transfers of the all-gather read the same chunk. -/
def shr (k : Key) : PosShare TreeShare :=
  if k.2.1 ∧ k.2.2.val = 0 then fullShare.left else if k.2.1 ∧ k.2.2.val = 8 then fullShare.right else fullShare

/-! ## The schedule -/

variable (P : Dev nD → FVec F S1x2048x1024 .f32)

/-- A slot at any contents. -/
def anyAt (c : Dev nD) (M : Memref sig .tc .vmem S128x512 .bf16) : sProp 𝕄 :=
  iprop(∃ f, M.view.loc (c : Thread nD τ) ↦[M.view.set]{fullShare} f)

/-- The transfers that travel in a direction. -/
def along (s : Bool) : Finset Key := Finset.univ.filter fun k => via k = s

/-- A slot at device `c` that its neighbour may write, the receiving cell being open. -/
def landRes (c : Dev nD) (k : Key) : sProp 𝕄 := iprop(anyAt c (dK k) ∗ reached ER (xCell true k c) 0)
/-- The slots at device `c` that its neighbour against direction `s` writes. -/
def landAt (s : Bool) (c : Dev nD) : sProp 𝕄 := bigSep (along s) (landRes c)

/-- What the two ends of a transfer hand over. -/
def xPay (c : Dev nD) : Bool → Key → sProp 𝕄
  | true, k => owns (c : Thread nD τ) (dK k) fullShare (tV P k (src k c))
  | false, k => owns (c : Thread nD τ) (sK k) (shr k) (tV P k c)

omit [FloatOps F] [Named F] in
instance anyAt_storable (c : Dev nD) (M) : BI.Storable (upEmb : UEmb _ 𝕄) (anyAt (F := F) c M) := by
  unfold anyAt; infer_instance
omit [FloatOps F] [Named F] in
instance landRes_storable (c : Dev nD) (k : Key) : BI.Storable (upEmb : UEmb _ 𝕄) (landRes (F := F) c k) := by
  unfold landRes; infer_instance
omit [FloatOps F] [Named F] in
instance landAt_storable (s : Bool) (c : Dev nD) : BI.Storable (upEmb : UEmb _ 𝕄) (landAt (F := F) s c) := by
  unfold landAt; infer_instance
instance xPay_storable (c : Dev nD) (v : Bool) (k : Key) : BI.Storable (upEmb : UEmb _ 𝕄) (xPay P c v k) := by
  cases v <;> (unfold xPay; infer_instance)

def cellPay (g : GSem nD τ sig) (d : Bool) : sProp 𝕄 :=
  match g.2 with
  | .reg _ => landAt d (nb d g.1.1)
  | .dma q => xPay P g.1.1 (dec q).1 (dec q).2
instance cellPay_storable (g : GSem nD τ sig) (d : Bool) : BI.Storable (upEmb : UEmb _ 𝕄) (cellPay P g d) := by
  unfold cellPay; split <;> infer_instance

abbrev IsBar (g : GSem nD τ sig) : Prop := g.1.2 = .tc ∧ g.2 = .reg barS
def isX : SemLoc sig → Bool
  | .reg _ => false
  | .dma q => decide (10 ≤ q.val)

/-- One round: a barrier cell has one duty from each neighbour, of one unit; the end of a transfer has one duty, of the slot's credit. -/
def Rd : Rounds.Schedule (GSem nD τ sig) Bool 𝕄 where
  duties g r := if r = 0 ∧ IsBar g then Finset.univ else if r = 0 ∧ g.1.2 = .tc ∧ isX g.2 = true then {false} else ∅
  unitless _ := False
  amount g _ _ := if g.2 = .reg barS then 1 else N
  payload g _ d := cellPay P g d
  amount_pos g _ _ _ := by
    by_cases h : g.2 = .reg barS
    · rw [if_pos h]; exact Nat.one_pos
    · rw [if_neg h]; exact N_pos

instance Rd_payload_storable (g : GSem nD τ sig) (r : ℕ) (d : Bool) :
    BI.Storable (upEmb : UEmb _ 𝕄) ((Rd P).payload g r d) := cellPay_storable P g d

section Sched
variable (c : Dev nD) (v : Bool) (k : Key)

theorem x_ne_bar (q : DmaSem sig) : (SemLoc.dma q : SemLoc sig) ≠ .reg barS := fun h => by cases h

theorem duties_bar : (Rd P).duties (barCell c) 0 = Finset.univ := by dsimp only [Rd]; exact if_pos ⟨rfl, rfl, rfl⟩
theorem duties_x : (Rd P).duties (xCell v k c) 0 = {false} := by
  dsimp only [Rd]
  rw [if_neg (fun h => x_ne_bar _ h.2.2)]
  exact if_pos ⟨rfl, rfl, decide_eq_true (smK_ten_le v k)⟩
theorem duties_later (g : GSem nD τ sig) : ∀ r, 1 ≤ r → (Rd P).duties g r = ∅ :=
  fun r hr => by dsimp only [Rd]; rw [if_neg fun h => by omega, if_neg fun h => by omega]
theorem amount_bar (d : Bool) : (Rd P).amount (barCell c) 0 d = 1 := by dsimp only [Rd]; exact if_pos rfl
theorem amount_x (d : Bool) : (Rd P).amount (xCell v k c) 0 d = N := by dsimp only [Rd]; exact if_neg (x_ne_bar (smK v k))
theorem expect_bar : (Rd P).expect (barCell c) 0 = 2 := by
  unfold Schedule.expect Schedule.amountOf
  rw [duties_bar, Finset.sum_congr rfl fun d _ => amount_bar P c d, Finset.sum_const, Finset.card_univ, Fintype.card_bool, smul_eq_mul]
theorem expect_x : (Rd P).expect (xCell v k c) 0 = N := by
  unfold Schedule.expect Schedule.amountOf; rw [duties_x, Finset.sum_singleton, amount_x]
theorem payload_bar (d : Bool) : (Rd P).payload (barCell c) 0 d = landAt d (nb d c) := rfl
theorem payload_x (d : Bool) : (Rd P).payload (xCell v k c) 0 d = xPay P c v k := by
  show xPay P c (dec (smK v k)).1 (dec (smK v k)).2 = _
  rw [dec_smK]
theorem rest_bar : bigSep ((Rd P).duties (barCell c) 0 \ ∅) (fun d => (Rd P).payload (barCell c) 0 d)
    = iprop(landAt true (nb true c) ∗ landAt false (nb false c)) := by
  rw [Finset.sdiff_empty, duties_bar, bigSep_univ_eq_bigSepL [true, false] (by decide) (by decide), bigSepL_cons_cons, bigSepL_singleton]
  rfl
theorem rest_x : bigSep ((Rd P).duties (xCell v k c) 0 \ ∅) (fun d => (Rd P).payload (xCell v k c) 0 d) = xPay P c v k := by
  rw [Finset.sdiff_empty, duties_x, bigSep_singleton, payload_x]

end Sched

/-! ## What each device owes; the levels -/

/-- The order of the transfers. -/
def stp (k : Key) : ℕ := if k.2.1 then 15 + k.2.2.val % 8 else k.2.2.val

/-- The credit owed for a set of transfers of device `c`. -/
def owe (c : Dev nD) (S : Finset Key) : CellTallies nD τ sig Unit := ∑ k ∈ S, tallyAt (xCell true k (dst k c)) () N
def O₁ (c : Dev nD) : CellTallies nD τ sig Unit := owe c Finset.univ + tallyAt (barCell (nb true c)) () 1
def O₀ (c : Dev nD) : CellTallies nD τ sig Unit := O₁ c + tallyAt (barCell (nb false c)) () 1

theorem owe_erase (c : Dev nD) {S : Finset Key} {k : Key} (h : k ∈ S) :
    owe c S = owe c (S.erase k) + tallyAt (xCell true k (dst k c)) () N := (Finset.sum_erase_add S _ h).symm
theorem owe_empty (c : Dev nD) : owe c ∅ = 0 := Finset.sum_empty

def L (g : GSem nD τ sig) : Finset Unit := if g.1.2 = .tc then {()} else ∅
def lv (g : GSem nD τ sig) (_ : Unit) : ℕ :=
  match g.2 with
  | .reg _ => 1
  | .dma q => if 10 ≤ q.val ∧ (dec q).1 = true then 2 + stp (dec q).2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Key) (c : Dev nD) (u : Unit) : lv (xCell true k c) u = 2 + stp k := by
  show (if 10 ≤ (smK true k).val ∧ (dec (smK true k)).1 = true then 2 + stp (dec (smK true k)).2 else 0) = _
  rw [dec_smK]; exact if_pos ⟨smK_ten_le true k, rfl⟩
theorem lv_send (k : Key) (c : Dev nD) (u : Unit) : lv (xCell false k c) u = 0 := by
  show (if 10 ≤ (smK false k).val ∧ (dec (smK false k)).1 = true then 2 + stp (dec (smK false k)).2 else 0) = _
  rw [dec_smK]; exact if_neg fun h => Bool.false_ne_true h.2

theorem owe_pos {c : Dev nD} {S : Finset Key} {g : GSem nD τ sig} {u : Unit} (h : 0 < owe c S g u) :
    ∃ k ∈ S, g = xCell true k (dst k c) := by
  by_contra hn
  have hz : ∀ S' : Finset Key, S' ⊆ S → owe c S' g u = 0 := by
    intro S'
    induction S' using Finset.induction_on with
    | empty => intro _; rw [owe_empty]; rfl
    | @insert k T hk ih =>
      intro hT
      have hkS := hT (Finset.mem_insert_self k T)
      unfold owe at ih ⊢
      rw [Finset.sum_insert hk, Pi.add_apply, Finsupp.add_apply, ih fun x hx => hT (Finset.mem_insert_of_mem hx), tallyAt_apply,
        if_neg fun hg => hn ⟨k, hkS, hg.1⟩]
  rw [hz S (Finset.Subset.refl S)] at h
  exact Nat.lt_irrefl 0 h

theorem O₀_apply (c : Dev nD) (g : GSem nD τ sig) (u : Unit) :
    O₀ c g u = owe c Finset.univ g u + tallyAt (barCell (nb true c)) () 1 g u + tallyAt (barCell (nb false c)) () 1 g u := by
  unfold O₀ O₁
  generalize owe c Finset.univ = X
  rw [Pi.add_apply, Finsupp.add_apply, Pi.add_apply, Finsupp.add_apply]

theorem tally_zero {g g' : GSem nD τ sig} {u : Unit} {n : ℕ} (h : g' ≠ g) : tallyAt g () n g' u = 0 := by
  rw [tallyAt_apply]; exact if_neg fun h' => h h'.1

theorem O₀_pos {c : Dev nD} {g : GSem nD τ sig} {u : Unit} (h : 0 < O₀ c g u) :
    (∃ k, g = xCell true k (dst k c)) ∨ (∃ d, g = barCell d) := by
  by_cases hb : ∃ d, g = barCell d
  · exact Or.inr hb
  · have h1 : g ≠ barCell (nb true c) := fun e => hb ⟨_, e⟩
    have h2 : g ≠ barCell (nb false c) := fun e => hb ⟨_, e⟩
    rw [O₀_apply, tally_zero h1, tally_zero h2] at h
    simp only [Nat.add_zero] at h
    exact Or.inl ((owe_pos h).imp fun _ hk => hk.2)

omit [FloatOps F] [Named F] in
/-- A device may wait at a cell of a level below those of the transfers it still owes. -/
theorem mayWait_owe (c : Dev nD) (q : SemLoc sig) (n : ℕ) (hq : lv ((c : Thread nD τ), q) () ≤ n) (S : Finset Key)
    (hS : ∀ k ∈ S, n < 2 + stp k) : (levAts L lv : sProp 𝕄) ⊢ MayWait (c : Thread nD τ) q () (owe c S) :=
  MayOwe.of_cut (L := L) (lev := lv) n (fun p hp => by rw [Finset.mem_singleton.mp hp, L_tc]; exact Finset.mem_singleton_self _)
    (fun g u hg => by obtain ⟨k, _, rfl⟩ := owe_pos hg; rw [L_tc]; exact Finset.mem_singleton_self _)
    (fun p hp => by rw [Finset.mem_singleton.mp hp]; exact hq)
    (fun g u hg => by obtain ⟨k, hk, rfl⟩ := owe_pos hg; rw [lv_recv]; exact hS k hk)

omit [FloatOps F] [Named F] in
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> exact Finset.mem_singleton_self _)
      (fun p hp => by
        rw [Finset.mem_singleton.mp hp]
        exact le_of_eq (if_neg fun h => absurd h.1 (by omega)))
      (fun g u hg => by
        rcases O₀_pos hg with ⟨k, rfl⟩ | ⟨d, rfl⟩
        · rw [lv_recv]; omega
        · exact Nat.one_pos)
  · rw [MayWait_zero]; iintro -; iempintro

end Cert.KernelIdeal.Ring
-- ==== Proof.Ring.Steps.lean ====
/-
The steps of the run, each proved once: a transfer, the two waits, the loads and stores of slots and blocks.

A step's statement `Spec p A v B` reads: from the protocol's records and `A`, the program `p` runs, returns `v`, and leaves `B`.
-/
module

public import proofs.«01_k».proof.Proof.Ring.Proto

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-! ## The protocol's records -/

abbrev kcell (x : Dev nD × Option (Bool × Key)) : GSem nD τ sig :=
  match x.2 with
  | none => barCell x.1
  | some vk => xCell vk.1 vk.2 x.1

variable (P : Dev nD → FVec F S1x2048x1024 .f32) (K : Dev nD × Option (Bool × Key) → ℕ)

/-- Every cell's invariant, and that every barrier cell has reached its round. -/
def cellRecs : sProp 𝕄 :=
  iprop((bigSep Finset.univ fun x => cellInv ER (Rd P) (K x) (kcell x)) ∗ bigSep Finset.univ fun d : Dev nD => reached ER (barCell d) 0)
/-- That the transfers' cells of device `c` have reached their round. -/
def opened (c : Dev nD) : sProp 𝕄 := bigSep Finset.univ fun vk : Bool × Key => reached ER (xCell vk.1 vk.2 c) 0
/-- What device `c` may consult: these, and the levels. -/
def recs (c : Dev nD) : sProp 𝕄 := iprop(cellRecs P K ∗ opened c ∗ levAts L lv)

instance cellRecs_persistent : BI.Persistent (cellRecs P K) := by unfold cellRecs; infer_instance
omit [FloatOps F] [Named F] in
instance opened_persistent (c : Dev nD) : BI.Persistent (opened (F := F) c) := by unfold opened; infer_instance
instance recs_persistent (c : Dev nD) : BI.Persistent (recs P K c) := by unfold recs; infer_instance

theorem cellRecs_at (x : Dev nD × Option (Bool × Key)) : cellRecs P K ⊢ cellInv ER (Rd P) (K x) (kcell x) := by
  unfold cellRecs
  exact sep_elim_left.trans (bigSep_elim (Φ := fun x => cellInv ER (Rd P) (K x) (kcell x)) (Finset.mem_univ x))
theorem recs_inv (c : Dev nD) (x : Dev nD × Option (Bool × Key)) : recs P K c ⊢ cellInv ER (Rd P) (K x) (kcell x) := by
  unfold recs
  exact sep_elim_left.trans (cellRecs_at P K x)
theorem recs_lev (c : Dev nD) : recs P K c ⊢ (levAts L lv : sProp 𝕄) := by
  unfold recs
  iintro ⟨-, -, H⟩
  iexact H
theorem recs_x (c : Dev nD) (v : Bool) (k : Key) :
    recs P K c ⊢ iprop(cellInv ER (Rd P) (K (c, some (v, k))) (xCell v k c) ∗ reached ER (xCell v k c) 0) := by
  have h1 := recs_inv P K c (c, some (v, k))
  have h2 : recs P K c ⊢ (reached ER (xCell v k c) 0 : sProp 𝕄) := by
    have h3 : (opened c : sProp 𝕄) ⊢ reached ER (xCell v k c) 0 :=
      bigSep_elim (Φ := fun vk : Bool × Key => (reached ER (xCell vk.1 vk.2 c) 0 : sProp 𝕄)) (Finset.mem_univ (v, k))
    unfold recs
    iintro ⟨-, H, -⟩
    iapply h3
    iexact H
  iintro #HR
  isplitr
  · iapply h1; iexact HR
  · iapply h2; iexact HR
theorem recs_bar (c d : Dev nD) :
    recs P K c ⊢ iprop(cellInv ER (Rd P) (K (d, none)) (barCell d) ∗ reached ER (barCell d) 0) := by
  have h1 := recs_inv P K c (d, none)
  have h2 : recs P K c ⊢ (reached ER (barCell d) 0 : sProp 𝕄) := by
    have h3 : (bigSep Finset.univ fun d : Dev nD => (reached ER (barCell d) 0 : sProp 𝕄)) ⊢ reached ER (barCell d) 0 :=
      bigSep_elim (Φ := fun d : Dev nD => (reached ER (barCell d) 0 : sProp 𝕄)) (Finset.mem_univ d)
    unfold recs cellRecs
    iintro ⟨⟨-, H⟩, -⟩
    iapply h3
    iexact H
  iintro #HR
  isplitr
  · iapply h1; iexact HR
  · iapply h2; iexact HR

/-! ## A step's statement -/

abbrev Wp (c : Dev nD) {α : Type} (p : KProg (F := F) α) (Q : α → sProp 𝕄) : sProp 𝕄 :=
  wp frame (wpE (defs₀ (F := F)) 𝒱₀ (c : Thread nD τ) none) Set.univ p Q

def Spec (c : Dev nD) {α : Type} (p : KProg (F := F) α) (A : sProp 𝕄) (v : α) (B : sProp 𝕄) : Prop :=
  ∀ Q : α → sProp 𝕄, iprop(recs P K c ∗ A ∗ (B -∗ Q v)) ⊢ Wp c p Q

section Rules
variable {P K} {c : Dev nD} {α β : Type}

theorem Wp_bind (p : KProg (F := F) α) (k : α → KProg (F := F) β) (Q : β → sProp 𝕄) :
    Wp c (p >>= k) Q = Wp c p (fun a => Wp c (k a) Q) := wp_bind _ _ _ p k Q

theorem Spec.wand {p : KProg (F := F) α} {A B : sProp 𝕄} {v : α} (h : Spec P K c p A v B) (k : α → KProg (F := F) β) (Q : β → sProp 𝕄) :
    iprop(recs P K c ∗ A) ⊢ iprop((B -∗ Wp c (k v) Q) -∗ Wp c (p >>= k) Q) := by
  iintro ⟨HR, HA⟩ HK
  rw [Wp_bind]
  iapply (h fun a => Wp c (k a) Q)
  iframe HR HA HK

theorem Wp_ret (v : α) (Q : α → sProp 𝕄) : Q v ⊢ Wp c (.ret v) Q := by
  rw [show Wp c (.ret v) Q = iprop(|={Set.univ}[Idealize.ShloMosaic.frame]=> Q v) from wp_ret _ _ _ v Q]
  iintro H; imodintro; iexact H

theorem Spec.pure (v : α) (A : sProp 𝕄) : Spec P K c (Pure.pure v) A v A := by
  intro Q
  iintro ⟨-, HA, HK⟩
  rw [show Wp c (Pure.pure v) Q = iprop(|={Set.univ}[Idealize.ShloMosaic.frame]=> Q v) from wp_pure _ _ _ v Q]
  imodintro
  iapply HK; iexact HA

theorem Spec.bind {p : KProg (F := F) α} {k : α → KProg (F := F) β} {A B D : sProp 𝕄} {v : α} {w : β}
    (h : Spec P K c p A v B) (h' : Spec P K c (k v) B w D) : Spec P K c (p >>= k) A w D := by
  intro Q
  iintro ⟨#HR, HA, HK⟩
  iapply (h.wand k Q) $$ [HA]
  · iframe HR HA
  iintro HB
  iapply (h' Q)
  iframe HR HB HK

theorem Spec.mono {p : KProg (F := F) α} {A B A' B' : sProp 𝕄} {v : α} (h : Spec P K c p A v B) (ha : A' ⊢ A) (hb : B ⊢ B') :
    Spec P K c p A' v B' := by
  intro Q
  iintro ⟨HR, HA, HK⟩
  iapply (h Q)
  iframe HR
  isplitl [HA]
  · iapply ha; iexact HA
  · iintro HB; iapply HK; iapply hb; iexact HB

theorem Spec.frame {p : KProg (F := F) α} {A B : sProp 𝕄} {v : α} (h : Spec P K c p A v B) (X : sProp 𝕄) :
    Spec P K c p iprop(A ∗ X) v iprop(B ∗ X) := by
  intro Q
  iintro ⟨HR, ⟨HA, HX⟩, HK⟩
  iapply (h Q)
  iframe HR HA
  iintro HB; iapply HK; iframe HB HX

/-- A step, the rest of what is held carried past it. -/
theorem Spec.seq {p : KProg (F := F) α} {k : α → KProg (F := F) β} {A B A' D : sProp 𝕄} {v : α} {w : β} (X : sProp 𝕄)
    (h : Spec P K c p A v B) (ha : A' ⊢ iprop(A ∗ X)) (h' : Spec P K c (k v) iprop(B ∗ X) w D) : Spec P K c (p >>= k) A' w D :=
  ((h.frame X).mono ha .rfl).bind h'

end Rules

/-! ## Big conjunctions over the slots -/

section Big
variable {M : Type} [URA M]

theorem bigSep_fin_add {m n : ℕ} (Φ : Fin (m + n) → sProp M) :
    bigSep Finset.univ Φ = iprop(bigSep Finset.univ (fun i : Fin m => Φ (i.castAdd n)) ∗ bigSep Finset.univ (fun i : Fin n => Φ (i.natAdd m))) := by
  rw [bigSep_univ_equiv finSumFinEquiv Φ, bigSep_univ_sum]
  simp only [finSumFinEquiv_apply_left, finSumFinEquiv_apply_right]
  rfl
theorem bigSep_fin_one (Φ : Fin 1 → sProp M) : bigSep Finset.univ Φ = Φ 0 := bigSep_univ_of_subsingleton 0
theorem bigSep_fin_head {n : ℕ} (Φ : Fin (n + 1) → sProp M) :
    bigSep Finset.univ Φ = iprop(Φ 0 ∗ bigSep Finset.univ (fun i : Fin n => Φ i.succ)) := by
  rw [Fin.univ_succ, Finset.cons_eq_insert, bigSep_insert (by simp [Fin.succ_ne_zero]), bigSep_map]
  rfl

end Big

/-! ## Transfers -/

/-- What is still owed, whatever has been waited for. -/
def ow (c : Dev nD) (S : Finset Key) : sProp 𝕄 := iprop(∃ W, owes (c : Thread nD τ) (owe c S) W)

/-- What a transfer is paid with, its source and its credit aside. -/
def sendRes (k : Key) (c : Dev nD) : sProp 𝕄 :=
  iprop(dutyTok ER (xCell false k c) 0 false ∗ dutyTok ER (xCell true k (dst k c)) 0 false ∗ landRes (dst k c) k)
/-- What the wait for what lands here takes. -/
abbrev recvRes (k : Key) (c : Dev nD) : sProp 𝕄 :=
  iprop(atPos ER (xCell true k c) 0 ∅ 0 ∗ cred (tallyAt (xCell true k c) () N))
/-- What the wait for what was sent from here takes. -/
abbrev drainRes (k : Key) (c : Dev nD) : sProp 𝕄 :=
  iprop(atPos ER (xCell false k c) 0 ∅ 0 ∗ cred (tallyAt (xCell false k c) () N))
/-- What has landed, its cell closed. -/
abbrev landed (k : Key) (c : Dev nD) : sProp 𝕄 :=
  iprop(owns (c : Thread nD τ) (dK k) fullShare (tV P k (src k c)) ∗ semVal (xCell true k c) 0)
/-- What was sent, its source back and its cell closed. -/
abbrev drained (k : Key) (c : Dev nD) : sProp 𝕄 :=
  iprop(owns (c : Thread nD τ) (sK k) (shr k) (tV P k c) ∗ semVal (xCell false k c) 0)

/-- The transfer of the library at this protocol's cells, addressed to `n`, the transfer's destination. -/
theorem wp_send (c n : Dev nD) (k : Key) (hn : n = dst k c) {hsc : (dK k).view.ref.isScScratch = false}
    {hsrc : (sK k).view.WordExact} {hdst : (dK k).view.WordExact}
    {hsem : DmaTarget.Typed .vmem (.dma (smK true k)) (.remote (Dev.tc n : Thread nD τ) (dK k) (.dma (smK false k)) hsc)}
    {α : Type} {Q : α → sProp 𝕄} {kk : PUnit → KProg (F := F) α}
    (fs : Buf (Elt F) ((sK k).view.loc (c : Thread nD τ))) (hfs : (sK k).view.read (Elt F) fs = tV P k c)
    (fd : Buf (Elt F) ((dK k).view.loc (dst k c : Thread nD τ))) (S : Finset Key) (hS : k ∈ S) (W : Waits sig Unit) :
    iprop(cellInv ER (Rd P) (K (c, some (false, k))) (xCell false k c) ∗ cellInv ER (Rd P) (K (dst k c, some (true, k))) (xCell true k (dst k c))
        ∗ ((sK k).view.loc (c : Thread nD τ) ↦[(sK k).view.set]{shr k} fs)
        ∗ ((dK k).view.loc (dst k c : Thread nD τ) ↦[(dK k).view.set]{fullShare} fd)
        ∗ owes (c : Thread nD τ) (owe c S) W
        ∗ dutyTok ER (xCell false k c) 0 false ∗ reached ER (xCell false k c) 0
        ∗ dutyTok ER (xCell true k (dst k c)) 0 false ∗ reached ER (xCell true k (dst k c)) 0)
      ⊢ iprop(((cred (tallyAt (xCell false k c) () N) ∗ owes (c : Thread nD τ) (owe c (S.erase k)) W) -∗ Wp c (kk ⟨⟩) Q)
          -∗ Wp c (.op (.enqueueDma (sK k) (.remote (Dev.tc n : Thread nD τ) (dK k) (.dma (smK false k)) hsc) (.dma (smK true k)) hsrc hdst hsem) kk) Q) := by
  subst hn
  have hp₂ : ((dK k).view.loc (dst k c : Thread nD τ) ↦[(dK k).view.set]{fullShare}
      ((dK k).view.write (Elt F) fd ((sK k).view.read (Elt F) fs) Finset.univ) : sProp 𝕄)
      ⊢ (Rd P).payload (xCell true k (dst k c)) 0 false := by
    rw [payload_x]; unfold xPay owns
    iintro H; iexists ((dK k).view.write (Elt F) fd ((sK k).view.read (Elt F) fs) Finset.univ)
    isplitr
    · ipureintro; rw [View.read_write_univ, hfs, src_dst]
    · iexact H
  exact Rounds.wp_send_pointsTo 𝒱₀ ER (Rd P) (c : Thread nD τ) none (κ₁ := K (c, some (false, k))) (κ₂ := K (dst k c, some (true, k)))
    (r₁ := 0) (r₂ := 0) (d₁ := false) (d₂ := false) (fd := fd)
    (by rw [duties_x]; exact Finset.mem_singleton_self _) (by rw [duties_x]; exact Finset.mem_singleton_self _)
    () () N (show (dK k).view.amount (.dma (smK true k)) = N from N_eq k) (amount_x P c false k false) (amount_x P (dst k c) true k false) (owe c (S.erase k)) (owe_erase c hS) (W := W)
    (by
      rw [payload_x]; unfold xPay owns
      iintro H; iexists fs; isplitr; · ipureintro; exact hfs
      iexact H)
    hp₂

theorem spec_send (c : Dev nD) (s p : Bool) (h : Fin 15) (S : Finset Key) (hS : (s, p, h) ∈ S) :
    Spec P K c (sendP (devOf c s p h) s p h)
      iprop(sendRes (s, p, h) c ∗ owns (c : Thread nD τ) (sslot s p h) (shr (s, p, h)) (tV P (s, p, h) c) ∗ ow c S) ⟨⟩
      iprop(cred (tallyAt (xCell false (s, p, h) c) () N) ∗ ow c (S.erase (s, p, h))) := by
  intro Q
  unfold sendRes ow owns landRes anyAt
  iintro ⟨#HR, ⟨⟨Ht1, Ht2, ⟨%fd, Hd⟩, #Hr2⟩, ⟨%fs, %hfs, Hs⟩, %W, Ho⟩, HK⟩
  ihave #⟨HI1, Hr1⟩ := (recs_x P K c false (s, p, h)) $$ HR
  ihave #HI2 := (recs_inv P K c (dst (s, p, h) c, some (true, s, p, h))) $$ HR
  iapply (wp_send P K c _ (s, p, h) (devOf_eq s p h c) fs hfs fd S hS W) $$ [Hs Hd Ho Ht1 Ht2]
  · iframe HI1 HI2 Hs Hd Ho Ht1 Hr1 Ht2 Hr2
  iintro ⟨Hc, Ho⟩
  iapply (Wp_ret (c := c) ⟨⟩ Q)
  iapply HK
  iframe Hc
  iexists W; iexact Ho

/-- A wait at an end of a transfer, for the whole of its round. -/
theorem spec_wait (c : Dev nD) (v : Bool) (k : Key) (w : TpuEff nD τ sig (Elt F) Λ₀ .tc PUnit)
    (hw : ∀ Kq : PUnit → sProp 𝕄, wpE (defs₀ (F := F)) 𝒱₀ (c : Thread nD τ) none Set.univ w Kq = waitSpec (c : Thread nD τ) Set.univ (.dma (smK v k)) N Kq)
    (S : Finset Key) (hS : (levAts L lv : sProp 𝕄) ⊢ MayWait (c : Thread nD τ) (.dma (smK v k)) () (owe c S)) :
    Spec P K c (Prog.lift w)
      iprop((atPos ER (xCell v k c) 0 ∅ 0 ∗ cred (tallyAt (xCell v k c) () N)) ∗ ow c S) ⟨⟩
      iprop((xPay P c v k ∗ semVal (xCell v k c) 0) ∗ ow c S) := by
  intro Q
  unfold ow
  iintro ⟨#HR, ⟨⟨Ha, Hc⟩, %W, Ho⟩, HK⟩
  ihave #⟨HI, Hr⟩ := (recs_x P K c v k) $$ HR
  have hm : recs P K c ⊢ MayWait (c : Thread nD τ) (.dma (smK v k)) () (owe c S) := by
    have h2 := @recs_lev F _ _ P K c
    exact h2.trans hS
  ihave #HM := hm $$ HR
  iapply (Rounds.wp_wait_rest_token 𝒱₀ ER (Rd P) (c : Thread nD τ) none (κ := K (c, some (v, k)))
      hw (Set.mem_univ _) () (O := owe c S) (W := W) (R := 0) (m := 0) (T := ∅)
      (by rw [Nat.zero_add, expect_x])) $$ [Hc Ho Ha]
  · iframe HI Hc Ho Ha
    iexact HM
  iintro ⟨Ho, Ha, -, Hp⟩
  ihave Hp := (Entails.of_eq (rest_x P c v k)) $$ Hp
  imod (Rounds.cell_close ER (Rd P) (Set.mem_univ (K (c, some (v, k)))) (fun h => h) (R := 0 + 1) (duties_later P (xCell v k c))) $$ [Ha] with Hv
  · iframe HI Ha
  iapply (Wp_ret (c := c) ⟨⟩ Q)
  iapply HK
  iframe Hp Hv
  iexists _; iexact Ho

theorem spec_recv (c : Dev nD) (s p : Bool) (h : Fin 15) (S : Finset Key) (hS : ∀ k ∈ S, stp (s, p, h) < stp k) :
    Spec P K c (recvP s p h) iprop(recvRes (s, p, h) c ∗ ow c S) ⟨⟩ iprop(landed P (s, p, h) c ∗ ow c S) :=
  spec_wait P K c true (s, p, h) _
    (fun Kq => by rw [← N_eq (s, p, h)]; exact wpE_waitDma2_eq 𝒱₀ (c : Thread nD τ) none Set.univ Kq) S
    (mayWait_owe c _ (2 + stp (s, p, h)) (le_of_eq (lv_recv (s, p, h) c ())) S fun k hk => by have := hS k hk; omega)

theorem spec_drain (c : Dev nD) (s p : Bool) (h : Fin 15) :
    Spec P K c (drainP s p h) iprop(drainRes (s, p, h) c ∗ ow c ∅) ⟨⟩ iprop(drained P (s, p, h) c ∗ ow c ∅) :=
  spec_wait P K c false (s, p, h) _
    (fun Kq => by rw [← N_eq' (s, p, h)]; exact wpE_waitDma2_eq 𝒱₀ (c : Thread nD τ) none Set.univ Kq) ∅
    (by rw [owe_empty, MayWait_zero]; iintro -; iempintro)

end Cert.KernelIdeal.Ring
-- ==== Proof.Ring.Mem.lean ====
/-
The loads and stores of the run: slots, the rounded halves, the blocks of the partial product and of the result.
-/
module

public import proofs.«01_k».proof.Proof.Ring.Steps
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → FVec F S1x2048x1024 .f32) (K : Dev nD × Option (Bool × Key) → ℕ)

/-! ## Slots -/

omit [FloatOps F] [Named F] in
/-- A slot's view, as the load through the whole buffer reads it. -/
theorem ld_slot (m : Memref sig .tc .vmem S15x128x512 .bf16) (h : Fin 15) (f : m.view.ty.Contents (Elt F)) :
    shapeCast S1x128x512 ((slot m h).view.read (Elt F) f) shapeCasts_S128x512_S1x128x512 = m.view.readAt (Elt F) (slotR h).toLoadRect f :=
  (congrArg (fun v => shapeCast S1x128x512 v shapeCasts_S128x512_S1x128x512)
    (Memref.read_squeeze_slice m (slotR h) (fun _ => rfl) squeezes_S1x128x512_S128x512 shapeCasts_S1x128x512_S128x512 f)).trans
    (shapeCast_shapeCast _ _ _)

theorem slot_set (m : Memref sig .tc .vmem S15x128x512 .bf16) (h : Fin 15) : (slot m h).view.set = (m.access (slotR h)).set :=
  View.set_reshape _ _

omit [FloatOps F] [Named F] in
/-- A slot held is its elements of the whole buffer held, read as a load reads them. -/
theorem slot_owns (c : Dev nD) (m : Memref sig .tc .vmem S15x128x512 .bf16) (h : Fin 15) (q : PosShare TreeShare) (X : FVec F S128x512 .bf16) :
    (owns (c : Thread nD τ) (slot m h) q X : sProp 𝕄)
      = iprop(∃ f : Buf (Elt F) ((m.access (slotR h)).loc (c : Thread nD τ)), ⌜(slot m h).view.read (Elt F) f = X⌝ ∗ ((m.access (slotR h)).loc (c : Thread nD τ) ↦[(m.access (slotR h)).set]{q} f)) := by
  unfold owns; rw [slot_set]; rfl
omit [FloatOps F] [Named F] in
theorem slot_any (c : Dev nD) (m : Memref sig .tc .vmem S15x128x512 .bf16) (h : Fin 15) :
    (anyAt c (slot m h) : sProp 𝕄) = iprop(∃ f : Buf (Elt F) ((m.access (slotR h)).loc (c : Thread nD τ)), (m.access (slotR h)).loc (c : Thread nD τ) ↦[(m.access (slotR h)).set]{fullShare} f) := by
  unfold anyAt; rw [slot_set]; rfl

theorem spec_ldSlot (c : Dev nD) (m : Memref sig .tc .vmem S15x128x512 .bf16) (h : Fin 15) (q : PosShare TreeShare) (X : FVec F S128x512 .bf16) :
    Spec P K c (ldSlot m h) (owns (c : Thread nD τ) (slot m h) q X) (k1_pay3 X) (owns (c : Thread nD τ) (slot m h) q X) := by
  intro Q
  rw [slot_owns]
  iintro ⟨-, ⟨%f, %hf, Hf⟩, HK⟩
  iapply (wp_load_rect 𝒱₀ (c : Thread nD τ) none Set.univ (m := m) (r := slotR h) (Finset.Subset.refl _)) $$ Hf
  iintro Hf
  iapply (Wp_ret (c := c) _ Q)
  have e : (m.access (slotR h)).read (Elt F) f = k1_pay3 X := by
    rw [← hf]; exact (ld_slot m h f).symm
  rw [e]
  iapply HK
  iexists f; iframe Hf
  ipureintro; exact hf

theorem spec_stSlot (c : Dev nD) (m : Memref sig .tc .vmem S15x128x512 .bf16) (hm : m.IsWhole) (h : Fin 15) (w : FVec F S128x512 .bf16) :
    Spec P K c (stSlot m hm h (k1_pay3 w)) (anyAt c (slot m h)) ⟨⟩ (owns (c : Thread nD τ) (slot m h) fullShare w) := by
  intro Q
  rw [slot_owns, slot_any]
  iintro ⟨-, ⟨%f, Hf⟩, HK⟩
  iapply (wp_load_rect 𝒱₀ (c : Thread nD τ) none Set.univ (m := m) (r := slotR h) (Finset.Subset.refl _)) $$ Hf
  iintro Hf
  iapply (wp_store 𝒱₀ (c : Thread nD τ) none Set.univ (m := m) (r := slotR h) (Mk := Finset.univ) (S := (m.access (slotR h)).set) (Finset.Subset.refl _)) $$ Hf
  iintro Hf
  iapply (Wp_ret (c := c) _ Q)
  iapply HK
  iexists _; iframe Hf
  ipureintro
  refine (Memref.read_squeeze_slice m (slotR h) (fun _ => rfl) squeezes_S1x128x512_S128x512 shapeCasts_S1x128x512_S128x512 _).trans ?_
  rw [View.readAt_rect]
  refine (congrArg (fun v => shapeCast S128x512 v shapeCasts_S1x128x512_S128x512) (View.read_write_univ _ _)).trans ?_
  exact shapeCast_shapeCast _ _ _

/-! ## Whole buffers -/

/-- A load at a rectangle of a memref held at known values. -/
theorem spec_ld (c : Dev nD) {s : Shape} {e : EltTy} (m : Memref sig .tc .vmem s e) (r : Rect s) (hl : m.view.LoadsAt r.toLoadRect) (q : PosShare TreeShare)
    (X : Vec F s e) :
    Spec P K c (Prog.lift (.load m r.toLoadRect hl)) (owns (c : Thread nD τ) m q X) (fun x => X (r.toLoadRect.idx x)) (owns (c : Thread nD τ) m q X) := by
  intro Q
  unfold owns
  iintro ⟨-, ⟨%f, %hf, Hf⟩, HK⟩
  iapply (wp_load_rect 𝒱₀ (c : Thread nD τ) none Set.univ (m := m) (r := r) (View.set_slice_subset m.view r)) $$ Hf
  iintro Hf
  iapply (Wp_ret (c := c) _ Q)
  have e : (m.access r).read (Elt F) f = (fun x => X (r.toLoadRect.idx x)) := by rw [← hf]; rfl
  rw [e]
  iapply HK
  iexists f; iframe Hf
  ipureintro; exact hf

/-- A buffer at any contents. -/
def anyM (c : Dev nD) {s : Shape} {e : EltTy} (M : Memref sig .tc .vmem s e) : sProp 𝕄 :=
  iprop(∃ f, M.view.loc (c : Thread nD τ) ↦[M.view.set]{fullShare} f)

abbrev pbR : Rect S2048x512 := Rect.unit (s := S2048x512) ![0, 0] S2048x512.size inb_S2048x512_S2048x512_0_0
abbrev rdR : Rect S128x512 := Rect.unit (s := S128x512) ![0, 0] S128x512.size inb_S128x512_S128x512_0_0

omit [FloatOps F] [Named F] in
/-- Reading after a store over the whole gives the stored array. -/
theorem read_all {s : Shape} {e : EltTy} (m : Memref sig .tc .vmem s e) (off : Fin s.rank → Nat) (h : ∀ a, off a = 0) (inb)
    (f : m.view.ty.Contents (Elt F)) (v : Vec F s e) :
    m.view.read (Elt F) ((m.access (Rect.unit (s := s) off s.size inb)).write (Elt F) f v Finset.univ) = v := by
  funext y
  have hy : (Rect.unit (s := s) off s.size inb).emb y = y := by
    funext a
    apply Fin.ext
    show off a + _ = _
    rw [h a]; simp
  have hr := View.read_slice_write_emb (Val := Elt F) (v := m.view) (Rect.unit (s := s) off s.size inb) f v (Finset.mem_univ y)
  rw [hy] at hr
  exact hr

theorem zeros : ∀ a : Fin 2, (![0, 0] : Fin 2 → Nat) a = 0 := by decide

/-- A store over the whole of a buffer, the dead load before it included. -/
theorem spec_stAll (c : Dev nD) {s : Shape} {e : EltTy} (m : Memref sig .tc .vmem s e) (r : Rect s) (hl : m.view.LoadsAt r.toLoadRect)
    (w : r.shape.Idx → Elt F e) (hx : (m.access r).Stores Finset.univ) (X : Vec F s e)
    (hm : Finset.univ = Finset.univ ∨ ∀ a, r.stride a = 1)
    (hw : ∀ f : m.view.ty.Contents (Elt F), m.view.read (Elt F) ((m.access r).write (Elt F) f w Finset.univ) = X) :
    Spec P K c (do let _ ← Prog.lift (.load m r.toLoadRect hl); Prog.lift (.store m r w Finset.univ hx hm)) (anyM c m) ⟨⟩
      (owns (c : Thread nD τ) m fullShare X) := by
  intro Q
  unfold owns anyM
  iintro ⟨-, ⟨%f, Hf⟩, HK⟩
  iapply (wp_load_rect 𝒱₀ (c : Thread nD τ) none Set.univ (m := m) (r := r) (S := m.view.set) (View.set_slice_subset m.view r)) $$ Hf
  iintro Hf
  iapply (wp_store 𝒱₀ (c : Thread nD τ) none Set.univ (m := m) (r := r) (Mk := Finset.univ) (S := m.view.set) (View.set_slice_subset m.view r)) $$ Hf
  iintro Hf
  iapply (Wp_ret (c := c) _ Q)
  iapply HK
  iexists _; iframe Hf
  ipureintro; exact hw f

theorem spec_stPb (c : Dev nD) (s : Bool) (v : FVec F S2048x512 .bf16) :
    Spec P K c (stPb s v) (anyM c (pbB s)) ⟨⟩ (owns (c : Thread nD τ) (pbB s) fullShare v) :=
  spec_stAll P K c (pbB s) pbR _ v _ v _ (fun f => read_all (pbB s) _ zeros _ f v)
theorem spec_stRd (c : Dev nD) (s : Bool) (v : FVec F S128x512 .bf16) :
    Spec P K c (stRd s v) (anyM c (rdB s)) ⟨⟩ (owns (c : Thread nD τ) (rdB s) fullShare v) :=
  spec_stAll P K c (rdB s) rdR _ v _ v _ (fun f => read_all (rdB s) _ zeros _ f v)

/-! ## The partial product and its rounded halves -/

abbrev pOwn (c : Dev nD) : sProp 𝕄 := owns (c : Thread nD τ) pM fullShare (P c)
abbrev pbOwn (s : Bool) (c : Dev nD) : sProp 𝕄 := owns (c : Thread nD τ) (pbB s) fullShare (pbV P s c)

theorem spec_pbP (c : Dev nD) (s : Bool) :
    Spec P K c (pbP s) iprop(pOwn P c ∗ anyM c (pbB s)) ⟨⟩ iprop(pOwn P c ∗ pbOwn P s c) := by
  unfold pbP
  refine Spec.seq (anyM c (pbB s)) (spec_ld P K c pM _ _ fullShare (P c)) .rfl ?_
  exact ((spec_stPb P K c s (pbV P s c)).frame (pOwn P c)).mono sep_comm.1 sep_comm.1

theorem spec_ldPb (c : Dev nD) (s : Bool) (k : Fin 16) (off : Fin 2 → Nat) (hoff) (e : off = rowOff k) :
    Spec P K c (ldPb s off hoff) (pbOwn P s c) (chunk P s c k) (pbOwn P s c) := by
  subst e
  exact spec_ld P K c (pbB s) _ _ fullShare (pbV P s c)

theorem spec_ldP (c : Dev nD) (s : Bool) (k : Fin 16) (off : Fin 3 → Nat) (hoff) (e : off = blkOff s k) :
    Spec P K c (ldBlk pM off hoff) (pOwn P c) (pBlk P s c k) (pOwn P c) := by
  subst e
  exact spec_ld P K c pM _ _ fullShare (P c)

theorem spec_firstP (c : Dev nD) (s : Bool) :
    Spec P K c (firstP c s) iprop(pbOwn P s c ∗ anyAt c (slot (sdB s) 0)) ⟨⟩
      iprop(pbOwn P s c ∗ owns (c : Thread nD τ) (slot (sdB s) 0) fullShare (tV P (s, false, 0) c)) := by
  unfold firstP
  refine Spec.seq (anyAt c (slot (sdB s) 0)) (spec_ldPb P K c s (chk s 0 c) _ _ (off1_eq s c)) .rfl ?_
  exact ((spec_stSlot P K c (sdB s) (sdB_whole s) 0 (chunk P s c (chk s 0 c))).frame (pbOwn P s c)).mono sep_comm.1 sep_comm.1

omit [FloatOps F] [Named F] in
theorem back3 [FloatOps F] [Named F] (X : FVec F S128x512 .bf16) : shapeCast S128x512 (k1_pay3 X) shapeCasts_S1x128x512_S128x512 = X :=
  shapeCast_shapeCast X _ _

theorem pay5_eq (X w : FVec F S128x512 .bf16) : k1_pay5 (k1_pay3 X) w = k1_pay3 (addf X w) := by
  unfold k1_pay5; rw [back3]; rfl

theorem spec_addP (c : Dev nD) (s : Bool) (h : Fin 14) :
    Spec P K c (addP c s h)
      iprop(pbOwn P s c ∗ owns (c : Thread nD τ) (slot (rsB s) h.castSucc) fullShare (tV P (s, false, h.castSucc) (src (s, false, h.castSucc) c))
        ∗ anyAt c (slot (sdB s) h.succ)) ⟨⟩
      iprop(pbOwn P s c ∗ owns (c : Thread nD τ) (slot (rsB s) h.castSucc) fullShare (tV P (s, false, h.castSucc) (src (s, false, h.castSucc) c))
        ∗ owns (c : Thread nD τ) (slot (sdB s) h.succ) fullShare (tV P (s, false, h.succ) c)) := by
  unfold addP
  refine Spec.seq iprop(pbOwn P s c ∗ anyAt c (slot (sdB s) h.succ))
    (spec_ldSlot P K c (rsB s) h.castSucc fullShare (tV P (s, false, h.castSucc) (src (s, false, h.castSucc) c))) ?_ ?_
  · iintro ⟨H1, H2, H3⟩; iframe H1 H2 H3
  refine Spec.seq iprop(owns (c : Thread nD τ) (slot (rsB s) h.castSucc) fullShare (tV P (s, false, h.castSucc) (src (s, false, h.castSucc) c))
      ∗ anyAt c (slot (sdB s) h.succ)) (spec_ldPb P K c s (chk s h.succ.castSucc c) _ _ (rsOff_eq s h c)) ?_ ?_
  · iintro ⟨H1, H2, H3⟩; iframe H1 H2 H3
  rw [pay5_eq]
  refine ((spec_stSlot P K c (sdB s) (sdB_whole s) h.succ _).frame iprop(pbOwn P s c
    ∗ owns (c : Thread nD τ) (slot (rsB s) h.castSucc) fullShare (tV P (s, false, h.castSucc) (src (s, false, h.castSucc) c)))).mono ?_ ?_
  · iintro ⟨H1, H2, H3⟩; iframe H1 H2 H3
  · iintro ⟨H1, H2, H3⟩; iframe H1 H2 H3

theorem spec_accP (c : Dev nD) (s : Bool) :
    Spec P K c (accP c s)
      iprop(pOwn P c ∗ owns (c : Thread nD τ) (slot (rsB s) 14) fullShare (tV P (s, false, 14) (src (s, false, 14) c)))
      (accV P s c, redV P s c)
      iprop(pOwn P c ∗ owns (c : Thread nD τ) (slot (rsB s) 14) fullShare (tV P (s, false, 14) (src (s, false, 14) c))) := by
  unfold accP
  refine Spec.seq (pOwn P c) (spec_ldSlot P K c (rsB s) 14 fullShare (tV P (s, false, 14) (src (s, false, 14) c))) sep_comm.1 ?_
  refine Spec.seq (owns (c : Thread nD τ) (slot (rsB s) 14) fullShare (tV P (s, false, 14) (src (s, false, 14) c)))
    (spec_ldP P K c s (own s c) _ _ (accOff_eq s c)) sep_comm.1 ?_
  exact Spec.pure _ _

end Cert.KernelIdeal.Ring
-- ==== Proof.Ring.Out.lean ====
/-
The result, filled block by block: which blocks have been written after each step of the all-gather.
-/
module

public import proofs.«01_k».proof.Proof.Ring.Mem

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → FVec F S1x2048x1024 .f32) (K : Dev nD × Option (Bool × Key) → ℕ)

/-- A block of the result. -/
abbrev blkR (b : Bool × Fin 16) : Rect S1x2048x1024 := Rect.unit (s := S1x2048x1024) (blkOff b.1 b.2) S1x128x512.size (blkOff_inb b.1 b.2)

theorem blkR_val (b : Bool × Fin 16) (i : (blkR b).shape.Idx) (a : Fin 3) : (((blkR b).emb i : S1x2048x1024.Idx) a).val = blkOff b.1 b.2 a + (i a).val := by
  show blkOff b.1 b.2 a + 1 * (i a).val = _
  rw [Nat.one_mul]

theorem blkR_inj {b b' : Bool × Fin 16} {i : (blkR b).shape.Idx} {j : (blkR b').shape.Idx} (h : (blkR b).emb i = (blkR b').emb j) : b = b' := by
  have h1 := congrArg (fun x : S1x2048x1024.Idx => (x 1).val) h
  have h2 := congrArg (fun x : S1x2048x1024.Idx => (x 2).val) h
  simp only [] at h1 h2
  rw [blkR_val, blkR_val] at h1 h2
  have hi1 : (i 1).val < 128 := (i 1).isLt
  have hj1 : (j 1).val < 128 := (j 1).isLt
  have hi2 : (i 2).val < 512 := (i 2).isLt
  have hj2 : (j 2).val < 512 := (j 2).isLt
  obtain ⟨s, k⟩ := b
  obtain ⟨s', k'⟩ := b'
  have e1 : 128 * k.val + (i 1).val = 128 * k'.val + (j 1).val := h1
  have e2 : (if s then 0 else 512) + (i 2).val = (if s' then 0 else 512) + (j 2).val := h2
  have hk : k = k' := Fin.ext (by omega)
  have hs : s = s' := by
    cases s <;> cases s' <;> simp at e2 ⊢ <;> omega
  rw [hk, hs]

/-- The result with the blocks `D` written. -/
def outI (c : Dev nD) (D : Finset (Bool × Fin 16)) : sProp 𝕄 :=
  iprop(∃ X : FVec F S1x2048x1024 .f32, ⌜∀ b ∈ D, ∀ i, X ((blkR b).emb i) = outBlk P c b.1 b.2 i⌝ ∗ owns (c : Thread nD τ) oM fullShare X)

theorem spec_stBlk (c : Dev nD) (s : Bool) (k : Fin 16) (off : Fin 3 → Nat) (hoff) (e : off = blkOff s k) (v : FVec F S1x128x512 .f32)
    (hv : v = outBlk P c s k) (D : Finset (Bool × Fin 16)) :
    Spec P K c (stBlk off hoff v) (outI P c D) ⟨⟩ (outI P c (insert (s, k) D)) := by
  subst e
  intro Q
  unfold outI owns
  iintro ⟨-, ⟨%X, %hX, %f, %hf, Hf⟩, HK⟩
  iapply (wp_load_rect 𝒱₀ (c : Thread nD τ) none Set.univ (m := oM) (r := blkR (s, k)) (S := oM.view.set) (View.set_slice_subset oM.view _)) $$ Hf
  iintro Hf
  iapply (wp_store 𝒱₀ (c : Thread nD τ) none Set.univ (m := oM) (r := blkR (s, k)) (Mk := Finset.univ) (S := oM.view.set) (View.set_slice_subset oM.view _)) $$ Hf
  iintro Hf
  iapply (Wp_ret (c := c) _ Q)
  iapply HK
  iexists oM.view.read (Elt F) ((oM.access (blkR (s, k))).write (Elt F) f v Finset.univ)
  isplitr
  · ipureintro
    intro b hb i
    by_cases hbk : b = (s, k)
    · subst hbk
      exact (View.read_slice_write_emb (Val := Elt F) (v := oM.view) (blkR (s, k)) f v (Finset.mem_univ i)).trans (congrFun hv i)
    · rw [← hX b ((Finset.mem_insert.mp hb).resolve_left hbk) i, ← hf]
      refine View.read_slice_write_of_not_mem (Val := Elt F) (v := oM.view) (blkR (s, k)) f v Finset.univ ?_
      intro hm
      obtain ⟨j, -, hj⟩ := Finset.mem_map.mp hm
      exact hbk (blkR_inj hj).symm
  · iexists _
    iframe Hf
    ipureintro; rfl

/-! ## The gathered slots -/

/-- What lands in a gather slot. -/
abbrev gOwn (s : Bool) (h : Fin 15) (c : Dev nD) : sProp 𝕄 :=
  owns (c : Thread nD τ) (slot (agB s) h) fullShare (tV P (s, true, h) (src (s, true, h) c))

theorem tV_got (s : Bool) (h : Fin 15) (c : Dev nD) : tV P (s, true, h) (src (s, true, h) c) = redV P s (got s h c) := rfl

theorem outBlk_own (c : Dev nD) (s : Bool) : k1_pay43 (accV P s c) = outBlk P c s (own s c) := by
  unfold outBlk; rw [if_pos (owner_own s c)]
theorem outBlk_got (c : Dev nD) (s : Bool) (h : Fin 15) :
    k1_pay45 (k1_pay3 (tV P (s, true, h) (src (s, true, h) c))) = outBlk P c s (own s (got s h c)) := by
  unfold outBlk; rw [owner_own, if_neg (got_ne s h c)]; rfl

theorem spec_putA (c : Dev nD) (s : Bool) (t : Fin 8) (D : Finset (Bool × Fin 16)) :
    Spec P K c (putA c s t) iprop(gOwn P s (low t) c ∗ outI P c D) ⟨⟩
      iprop(gOwn P s (low t) c ∗ outI P c (insert (s, own s (got s (low t) c)) D)) := by
  unfold putA
  refine Spec.seq (outI P c D) (spec_ldSlot P K c (agB s) (low t) fullShare _) .rfl ?_
  exact ((spec_stBlk P K c s _ _ _ (gaOff_eq s t c) _ (outBlk_got P c s (low t)) D).frame (gOwn P s (low t) c)).mono sep_comm.1 sep_comm.1
theorem spec_putB (c : Dev nD) (s : Bool) (t : Fin 7) (D : Finset (Bool × Fin 16)) :
    Spec P K c (putB c s t) iprop(gOwn P s (high t) c ∗ outI P c D) ⟨⟩
      iprop(gOwn P s (high t) c ∗ outI P c (insert (s, own s (got s (high t) c)) D)) := by
  unfold putB
  refine Spec.seq (outI P c D) (spec_ldSlot P K c (agB s) (high t) fullShare _) .rfl ?_
  exact ((spec_stBlk P K c s _ _ _ (gbOff_eq s t c) _ (outBlk_got P c s (high t)) D).frame (gOwn P s (high t) c)).mono sep_comm.1 sep_comm.1

/-- The blocks written once the device's own two and those of the first `n` gather steps are. -/
def filled (c : Dev nD) : (n : ℕ) → n < 8 → Finset (Bool × Fin 16)
  | 0, _ => {(false, own false c), (true, own true c)}
  | n + 1, h =>
    let t : Fin 7 := ⟨n, by omega⟩
    insert (false, own false (got false (high t) c)) (insert (true, own true (got true (high t) c))
      (insert (false, own false (got false (low t.castSucc) c)) (insert (true, own true (got true (low t.castSucc) c)) (filled c n (by omega)))))

theorem filled_all : ∀ c : Dev nD, insert (false, own false (got false (low 7) c)) (insert (true, own true (got true (low 7) c))
    (filled c 7 (by decide))) = Finset.univ := by decide +kernel

end Cert.KernelIdeal.Ring

end
-- ==== Proof.Ring.Body.lean ====
/-
The run of one device, step by step, from what it holds at entry to what it holds at the end.
-/
module

public import proofs.«01_k».proof.Proof.Ring.Out

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → FVec F S1x2048x1024 .f32) (K : Dev nD × Option (Bool × Key) → ℕ)

/-- Both directions. -/
abbrev two (Φ : Bool → sProp 𝕄) : sProp 𝕄 := iprop(Φ true ∗ Φ false)

/-! ## Runs of steps -/

theorem spec_loop (c : Dev nD) : (n : ℕ) → (f : Fin n → KProg (F := F) PUnit) → (I : Fin (n + 1) → sProp 𝕄) → (A B : Fin n → sProp 𝕄) →
    (∀ i, Spec P K c (f i) iprop(I i.castSucc ∗ A i) ⟨⟩ iprop(I i.succ ∗ B i)) →
    Spec P K c (loop n f) iprop(I 0 ∗ bigSep Finset.univ A) ⟨⟩ iprop(I (Fin.last n) ∗ bigSep Finset.univ B)
  | 0, f, I, A, B, _ => by
    rw [show (bigSep Finset.univ B) = bigSep Finset.univ A from by simp [bigSep_empty]]
    exact Spec.pure (P := P) (K := K) (c := c) PUnit.unit _
  | n + 1, f, I, A, B, h => by
    have ih := spec_loop c n (fun i => f i.succ) (fun i => I i.succ) (fun i => A i.succ) (fun i => B i.succ) (fun i => h i.succ)
    rw [bigSep_fin_head A, bigSep_fin_head B]
    show Spec P K c (f 0 >>= fun _ => loop n (fun i => f i.succ)) _ _ _
    refine Spec.seq (bigSep Finset.univ fun i : Fin n => A i.succ) (h 0) ?_ ?_
    · rw [Fin.castSucc_zero]
      iintro ⟨H1, H2, H3⟩; iframe H1 H2 H3
    · refine (ih.frame (B 0)).mono ?_ ?_
      · iintro ⟨⟨H1, H2⟩, H3⟩; iframe H1 H2 H3
      · rw [Fin.succ_last]
        iintro ⟨⟨H1, H2⟩, H3⟩; iframe H1 H2 H3

/-! ## Several transfers -/

abbrev crd (k : Key) (c : Dev nD) : sProp 𝕄 := cred (tallyAt (xCell false k c) () N)
abbrev srcOwn (k : Key) (c : Dev nD) : sProp 𝕄 := owns (c : Thread nD τ) (sK k) (shr k) (tV P k c)
abbrev rOwn (s : Bool) (h : Fin 15) (c : Dev nD) : sProp 𝕄 :=
  owns (c : Thread nD τ) (slot (rsB s) h) fullShare (tV P (s, false, h) (src (s, false, h) c))
/-- A cell at zero. -/
abbrev done (v : Bool) (k : Key) (c : Dev nD) : sProp 𝕄 := semVal (xCell v k c) 0

theorem spec_two_send (c : Dev nD) (p : Bool) (h : Fin 15) (S S' : Finset Key) (h1 : (true, p, h) ∈ S)
    (h2 : (false, p, h) ∈ S.erase (true, p, h)) (hS : (S.erase (true, p, h)).erase (false, p, h) = S') :
    Spec P K c (do sendP (devOf c true p h) true p h; sendP (devOf c false p h) false p h)
      iprop(two (fun s => sendRes (s, p, h) c) ∗ two (fun s => srcOwn P (s, p, h) c) ∗ ow c S) ⟨⟩
      iprop(two (fun s => crd (s, p, h) c) ∗ ow c S') := by
  subst hS
  intro Q
  iintro ⟨#HR, ⟨⟨Ht, Hf⟩, ⟨Hst, Hsf⟩, Ho⟩, HK⟩
  iapply ((spec_send P K c true p h S h1).wand _ Q) $$ [Ht Hst Ho]
  · iframe HR Ht Hst Ho
  iintro ⟨Hct, Ho⟩
  iapply (spec_send P K c false p h _ h2 Q)
  iframe HR Hf Hsf Ho
  iintro ⟨Hcf, Ho⟩
  iapply HK
  iframe Hct Hcf Ho

theorem spec_recvs (c : Dev nD) (p : Bool) (h : Fin 15) (S : Finset Key) (hS : ∀ k ∈ S, stp (true, p, h) < stp k) :
    Spec P K c (recvsP p h) iprop(two (fun s => recvRes (s, p, h) c) ∗ ow c S) ⟨⟩
      iprop(two (fun s => landed P (s, p, h) c) ∗ ow c S) := by
  unfold recvsP
  intro Q
  iintro ⟨#HR, ⟨⟨Ht, Hf⟩, Ho⟩, HK⟩
  iapply ((spec_recv P K c true p h S hS).wand _ Q) $$ [Ht Ho]
  · iframe HR Ht Ho
  iintro ⟨⟨Ht, Hvt⟩, Ho⟩
  iapply (spec_recv P K c false p h S hS Q)
  iframe HR Hf Ho
  iintro ⟨⟨Hf, Hvf⟩, Ho⟩
  iapply HK
  iframe Ht Hvt Hf Hvf Ho

theorem spec_drains (c : Dev nD) (p : Bool) (h : Fin 15) :
    Spec P K c (drainsP p h) iprop(ow c ∅ ∗ two (fun s => drainRes (s, p, h) c)) ⟨⟩
      iprop(ow c ∅ ∗ two (fun s => drained P (s, p, h) c)) := by
  unfold drainsP
  intro Q
  iintro ⟨#HR, ⟨Ho, ⟨Ht, Hf⟩⟩, HK⟩
  iapply ((spec_drain P K c true p h).wand _ Q) $$ [Ht Ho]
  · iframe HR Ht Ho
  iintro ⟨⟨Ht, Hvt⟩, Ho⟩
  iapply (spec_drain P K c false p h Q)
  iframe HR Hf Ho
  iintro ⟨⟨Hf, Hvf⟩, Ho⟩
  iapply HK
  iframe Ht Hvt Hf Hvf Ho

/-! ## The reduce-scatter -/

/-- The transfers after the `n`-th. -/
def left (n : ℕ) : Finset Key := Finset.univ.filter fun k => n < stp k

theorem lt_of_left {n : ℕ} {k : Key} (h : k ∈ left n) : n < stp k := (Finset.mem_filter.mp h).2
theorem mem_left {n : ℕ} {k : Key} (h : n < stp k) : k ∈ left n := Finset.mem_filter.mpr ⟨Finset.mem_univ _, h⟩

theorem left_rs : ∀ h : Fin 14, ((left h.val).erase (true, false, h.succ)).erase (false, false, h.succ) = left (h.val + 1) := by decide +kernel
theorem left_first : (Finset.univ.erase (true, false, 0)).erase (false, false, 0) = left 0 := by decide +kernel
theorem left_ag : ∀ t : Fin 7, ((((left (14 + t.val)).erase (true, true, low t.castSucc)).erase (false, true, low t.castSucc)).erase
    (true, true, high t)).erase (false, true, high t) = left (15 + t.val) := by decide +kernel
theorem left_last : ((left 21).erase (true, true, 7)).erase (false, true, 7) = ∅ := by decide +kernel

/-- What is kept from one step of the reduce-scatter to the next. -/
abbrev rsI (c : Dev nD) (n : ℕ) : sProp 𝕄 := iprop(two (fun s => pbOwn P s c) ∗ ow c (left n))
abbrev rsA (c : Dev nD) (h : Fin 14) : sProp 𝕄 :=
  iprop(two (fun s => recvRes (s, false, h.castSucc) c) ∗ two (fun s => anyAt c (slot (sdB s) h.succ)) ∗ two (fun s => sendRes (s, false, h.succ) c))
abbrev rsZ (c : Dev nD) (h : Fin 14) : sProp 𝕄 :=
  iprop(two (fun s => landed P (s, false, h.castSucc) c) ∗ two (fun s => crd (s, false, h.succ) c))

theorem spec_rsStep (c : Dev nD) (h : Fin 14) :
    Spec P K c (rsStep c h) iprop(rsI P c h.val ∗ rsA c h) ⟨⟩ iprop(rsI P c (h.val + 1) ∗ rsZ P c h) := by
  have hs : ∀ s, ∀ k ∈ left h.val, stp (s, false, h.castSucc) < stp k := fun s k hk => lt_of_left hk
  unfold rsStep
  intro Q

  iintro ⟨#HR, ⟨⟨⟨Hpt, Hpf⟩, Ho⟩, ⟨Hrt, Hrf⟩, ⟨Hdt, Hdf⟩, Hs⟩, HK⟩
  iapply ((spec_recv P K c true false h.castSucc _ (hs true)).wand _ Q) $$ [Hrt Ho]
  · iframe HR Hrt Ho
  iintro ⟨⟨Hlt, Hvt⟩, Ho⟩
  iapply ((spec_recv P K c false false h.castSucc _ (hs false)).wand _ Q) $$ [Hrf Ho]
  · iframe HR Hrf Ho
  iintro ⟨⟨Hlf, Hvf⟩, Ho⟩
  iapply ((spec_addP P K c true h).wand _ Q) $$ [Hpt Hlt Hdt]
  · iframe HR Hpt Hdt; iexact Hlt
  iintro ⟨Hpt, Hlt, Hdt⟩
  iapply ((spec_addP P K c false h).wand _ Q) $$ [Hpf Hlf Hdf]
  · iframe HR Hpf Hdf; iexact Hlf
  iintro ⟨Hpf, Hlf, Hdf⟩
  iapply (spec_two_send P K c false h.succ (left h.val) (left (h.val + 1)) (mem_left (Nat.lt_succ_self _))
    (Finset.mem_erase.mpr ⟨by simp, mem_left (Nat.lt_succ_self _)⟩) (left_rs h) Q)
  iframe HR Hs Ho
  isplitl [Hdt Hdf]
  · isplitl [Hdt]
    · iexact Hdt
    · iexact Hdf
  iintro ⟨⟨Hct, Hcf⟩, Ho⟩
  iapply HK
  iframe Hpt Hpf Ho Hlt Hvt Hlf Hvf Hct Hcf

/-! ## The all-gather -/

theorem stp_low (s : Bool) (t : Fin 7) : stp (s, true, low t.castSucc) = 15 + t.val := by
  revert s t; decide
theorem stp_high (s : Bool) (t : Fin 7) : stp (s, true, high t) = 15 + t.val := by
  revert s t; decide
theorem low_ne_high (s s' : Bool) (t : Fin 7) : ((s, true, high t) : Key) ≠ (s', true, low t.castSucc) := by
  revert s s' t; decide

/-- The transfers of a gather step, both halves. -/
abbrev four (Φ : Key → sProp 𝕄) (t : Fin 7) : sProp 𝕄 :=
  iprop(two (fun s => Φ (s, true, low t.castSucc)) ∗ two (fun s => Φ (s, true, high t)))

theorem spec_agSend (c : Dev nD) (t : Fin 7) :
    Spec P K c (agSend c t) iprop(four (fun k => sendRes k c) t ∗ four (fun k => srcOwn P k c) t ∗ ow c (left (14 + t.val))) ⟨⟩
      iprop(four (fun k => crd k c) t ∗ ow c (left (15 + t.val))) := by
  have m : ∀ k : Key, stp k = 15 + t.val → k ∈ left (14 + t.val) := fun k h => mem_left (by omega)
  unfold agSend
  intro Q
  iintro ⟨#HR, ⟨⟨Hr1, Hr2⟩, ⟨Hs1, Hs2⟩, Ho⟩, HK⟩
  iapply ((spec_two_send P K c true (low t.castSucc) (left (14 + t.val)) _ (m _ (stp_low true t))
    (Finset.mem_erase.mpr ⟨by simp, m _ (stp_low false t)⟩) rfl).wand _ Q) $$ [Hr1 Hs1 Ho]
  · iframe HR Hr1 Ho
    iexact Hs1
  iintro ⟨⟨Hc1, Hc2⟩, Ho⟩
  iapply (spec_two_send P K c true (high t) _ _
    (Finset.mem_erase.mpr ⟨low_ne_high _ _ t, Finset.mem_erase.mpr ⟨low_ne_high _ _ t, m _ (stp_high true t)⟩⟩)
    (Finset.mem_erase.mpr ⟨by simp, Finset.mem_erase.mpr ⟨low_ne_high _ _ t, Finset.mem_erase.mpr ⟨low_ne_high _ _ t, m _ (stp_high false t)⟩⟩⟩)
    (left_ag t) Q)
  iframe HR Hr2 Ho
  isplitl [Hs2]
  · iexact Hs2
  iintro ⟨⟨Hc3, Hc4⟩, Ho⟩
  iapply HK
  iframe Hc1 Hc2 Hc3 Hc4 Ho

theorem spec_agRecv (c : Dev nD) (t : Fin 7) :
    Spec P K c (agRecv c t)
      iprop(four (fun k => recvRes k c) t ∗ ow c (left (15 + t.val)) ∗ outI P c (filled c t.val (by omega))) ⟨⟩
      iprop(four (fun k => landed P k c) t ∗ ow c (left (15 + t.val)) ∗ outI P c (filled c (t.val + 1) (by omega))) := by
  have m1 : ∀ k ∈ left (15 + t.val), stp (true, true, low t.castSucc) < stp k := fun k hk => by
    rw [stp_low]; exact lt_of_left hk
  have m2 : ∀ k ∈ left (15 + t.val), stp (true, true, high t) < stp k := fun k hk => by
    rw [stp_high]; exact lt_of_left hk
  unfold agRecv
  intro Q
  iintro ⟨#HR, ⟨⟨Hr1, Hr2⟩, Ho, HX⟩, HK⟩
  iapply ((spec_recvs P K c true (low t.castSucc) _ m1).wand _ Q) $$ [Hr1 Ho]
  · iframe HR Ho; iexact Hr1
  iintro ⟨⟨⟨Ha, Hva⟩, ⟨Hb, Hvb⟩⟩, Ho⟩
  iapply ((spec_recvs P K c true (high t) _ m2).wand _ Q) $$ [Hr2 Ho]
  · iframe HR Ho; iexact Hr2
  iintro ⟨⟨⟨Hd, Hvd⟩, ⟨He, Hve⟩⟩, Ho⟩
  iapply ((spec_putA P K c true t.castSucc _).wand _ Q) $$ [Ha HX]
  · iframe HR HX; iexact Ha
  iintro ⟨Ha, HX⟩
  iapply ((spec_putA P K c false t.castSucc _).wand _ Q) $$ [Hb HX]
  · iframe HR HX; iexact Hb
  iintro ⟨Hb, HX⟩
  iapply ((spec_putB P K c true t _).wand _ Q) $$ [Hd HX]
  · iframe HR HX; iexact Hd
  iintro ⟨Hd, HX⟩
  iapply (spec_putB P K c false t _ Q)
  iframe HR HX
  isplitl [He]
  · iexact He
  iintro ⟨He, HX⟩
  iapply HK
  iframe Ha Hva Hb Hvb Hd Hvd He Hve Ho
  iexact HX

/-! ### What landed is what is sent on -/

theorem shr_at (k : Key) (h0 : k.2.2.val ≠ 0) (h8 : k.2.2.val ≠ 8) : shr k = fullShare := by
  unfold shr; rw [if_neg fun h => h0 h.2, if_neg fun h => h8 h.2]
theorem shr_low (s : Bool) (t : Fin 7) : shr (s, true, low t.succ) = fullShare :=
  shr_at _ (by revert s t; decide) (by revert s t; decide)
theorem shr_high (s : Bool) (t : Fin 6) : shr (s, true, high t.succ) = fullShare :=
  shr_at _ (by revert s t; decide) (by revert s t; decide)

theorem src_low (s : Bool) (t : Fin 7) (c : Dev nD) : gOwn P s (low t.castSucc) c = srcOwn P (s, true, low t.succ) c := by
  have e : sslot s true (low t.succ) = slot (agB s) (low t.castSucc) := by
    show (if (low t.succ).val = 0 ∨ (low t.succ).val = 8 then rdB s else slot (agB s) (before (low t.succ))) = _
    rw [if_neg (by revert t; decide), show before (low t.succ) = low t.castSucc by revert t; decide]
  have q := shr_low s t
  show (gOwn P s (low t.castSucc) c : sProp 𝕄) = owns (Val := Elt F) (c : Thread nD τ) (sslot s true (low t.succ)) (shr (s, true, low t.succ)) (tV P (s, true, low t.succ) c)
  rw [e, q, show tV P (s, true, low t.succ) c = redV P s (org s (low t.succ) c) from rfl, org_low]
  rfl
theorem src_high (s : Bool) (t : Fin 6) (c : Dev nD) : gOwn P s (high t.castSucc) c = srcOwn P (s, true, high t.succ) c := by
  have e : sslot s true (high t.succ) = slot (agB s) (high t.castSucc) := by
    show (if (high t.succ).val = 0 ∨ (high t.succ).val = 8 then rdB s else slot (agB s) (before (high t.succ))) = _
    rw [if_neg (by revert t; decide), show before (high t.succ) = high t.castSucc by revert t; decide]
  have q := shr_high s t
  show (gOwn P s (high t.castSucc) c : sProp 𝕄) = owns (Val := Elt F) (c : Thread nD τ) (sslot s true (high t.succ)) (shr (s, true, high t.succ)) (tV P (s, true, high t.succ) c)
  rw [e, q, show tV P (s, true, high t.succ) c = redV P s (org s (high t.succ) c) from rfl, org_high]
  rfl
omit [FloatOps F] [Named F] in
theorem halves (c : Dev nD) (b : Ref sig .tc) (X : b.ty.Contents (Elt F)) :
    (owns (c : Thread nD τ) (Memref.whole b) fullShare X : sProp 𝕄)
      = iprop(owns (c : Thread nD τ) (Memref.whole b) fullShare.left X ∗ owns (c : Thread nD τ) (Memref.whole b) fullShare.right X) := by
  rw [owns_whole (c : Thread nD τ) b, owns_whole (c : Thread nD τ) b, owns_whole (c : Thread nD τ) b]
  exact Entails.antisymm (pointsTo_share (PosShare.mem_left_op_right fullShare)).1 (pointsTo_share (PosShare.mem_left_op_right fullShare)).2

/-- The reduced chunk goes out both ways. -/
theorem src_rd (s : Bool) (c : Dev nD) :
    (owns (c : Thread nD τ) (rdB s) fullShare (redV P s c) : sProp 𝕄)
      = iprop(srcOwn P (s, true, 0) c ∗ srcOwn P (s, true, 8) c) := by
  have e0 : (srcOwn P (s, true, 0) c : sProp 𝕄) = owns (c : Thread nD τ) (rdB s) fullShare.left (redV P s c) := by
    show (owns (Val := Elt F) (c : Thread nD τ) (rdB s) fullShare.left (redV P s (org s 0 c)) : sProp 𝕄) = _
    rw [(org_zero s c).1]
  have e8 : (srcOwn P (s, true, 8) c : sProp 𝕄) = owns (c : Thread nD τ) (rdB s) fullShare.right (redV P s c) := by
    show (owns (Val := Elt F) (c : Thread nD τ) (rdB s) fullShare.right (redV P s (org s 8 c)) : sProp 𝕄) = _
    rw [(org_zero s c).2]
  rw [e0, e8]
  cases s
  · exact halves c cc1_scratch7 (redV P false c)
  · exact halves c cc1_scratch3 (redV P true c)

/-- What is kept from one gather step to the next. -/
abbrev agI (c : Dev nD) (t : Fin 7) : sProp 𝕄 :=
  iprop(two (fun s => gOwn P s (low t.castSucc) c) ∗ two (fun s => gOwn P s (high t) c) ∗ ow c (left (15 + t.val))
    ∗ outI P c (filled c (t.val + 1) (by omega)))
abbrev agZ (c : Dev nD) (t : Fin 7) : sProp 𝕄 := iprop(four (fun k => crd k c) t ∗ four (fun k => done true k c) t)
abbrev agA (c : Dev nD) (t : Fin 7) : sProp 𝕄 := iprop(four (fun k => sendRes k c) t ∗ four (fun k => recvRes k c) t)

theorem spec_agStep (c : Dev nD) (t : Fin 6) :
    Spec P K c (agStep c t) iprop(agI P c t.castSucc ∗ agA c t.succ) ⟨⟩ iprop(agI P c t.succ ∗ agZ c t.succ) := by
  unfold agStep
  intro Q
  iintro ⟨#HR, ⟨⟨⟨Ha, Hb⟩, ⟨Hd, He⟩, Ho, HX⟩, Hs, Hr⟩, HK⟩
  ihave Ha := (Entails.of_eq (src_low P true t.castSucc c)) $$ Ha
  ihave Hb := (Entails.of_eq (src_low P false t.castSucc c)) $$ Hb
  ihave Hd := (Entails.of_eq (src_high P true t c)) $$ Hd
  ihave He := (Entails.of_eq (src_high P false t c)) $$ He
  ihave Ho := (Entails.of_eq (congrArg (fun n => ow (F := F) c (left n)) (show 15 + t.castSucc.val = 14 + t.succ.val by rw [Fin.val_succ, Fin.val_castSucc]; omega))) $$ Ho
  iapply ((spec_agSend P K c t.succ).wand _ Q) $$ [Hs Ha Hb Hd He Ho]
  · iframe HR Hs
    isplitr [Ho]
    · isplitl [Ha Hb]
      · isplitl [Ha]
        · iexact Ha
        · iexact Hb
      · isplitl [Hd]
        · iexact Hd
        · iexact He
    · iexact Ho
  iintro ⟨⟨⟨Hc1, Hc2⟩, Hc3, Hc4⟩, Ho⟩
  iapply (spec_agRecv P K c t.succ Q)
  iframe HR Hr Ho
  isplitl [HX]
  · iexact HX
  iintro ⟨⟨⟨⟨Ha, Hva⟩, Hb, Hvb⟩, ⟨Hd, Hvd⟩, He, Hve⟩, Ho, HX⟩
  iapply HK
  iframe Ha Hb Hd He Ho HX Hc1 Hc2 Hc3 Hc4 Hva Hvb Hvd Hve

end Cert.KernelIdeal.Ring

end
-- ==== Proof.Ring.Run.lean ====
/-
The whole run of one device: the barrier, the reduce-scatter, the all-gather, the waits at the end.
-/
module

public import proofs.«01_k».proof.Proof.Ring.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → FVec F S1x2048x1024 .f32) (K : Dev nD × Option (Bool × Key) → ℕ)

/-! ## The transfers, sorted -/

section Sorted
variable {M : Type} [URA M]

theorem bigSep_fin_last {n : ℕ} (Φ : Fin (n + 1) → sProp M) :
    bigSep Finset.univ Φ = iprop(bigSep Finset.univ (fun i : Fin n => Φ i.castSucc) ∗ Φ (Fin.last n)) := by
  rw [bigSep_fin_add Φ, bigSep_fin_one]; rfl
theorem bigSep_bool (Φ : Bool → sProp M) : bigSep Finset.univ Φ = iprop(Φ true ∗ Φ false) := by
  rw [bigSep_univ_eq_bigSepL [true, false] (by decide) (by decide), bigSepL_cons_cons, bigSepL_singleton]
  rfl
/-- By the direction a transfer travels. -/
theorem bigSep_along (Φ : Key → sProp M) : bigSep Finset.univ Φ = iprop(bigSep (along true) Φ ∗ bigSep (along false) Φ) := by
  have hd : Disjoint (along true) (along false) := Finset.disjoint_left.mpr fun k h h' => by
    have a := (Finset.mem_filter.mp h).2; have b := (Finset.mem_filter.mp h').2; rw [a] at b; cases b
  have hu : along true ∪ along false = Finset.univ := Finset.eq_univ_of_forall fun k => by
    cases h : via k
    · exact Finset.mem_union_right _ (Finset.mem_filter.mpr ⟨Finset.mem_univ _, h⟩)
    · exact Finset.mem_union_left _ (Finset.mem_filter.mpr ⟨Finset.mem_univ _, h⟩)
  rw [← hu, bigSep_union hd]
  rfl
end Sorted

/-- By direction and phase. -/
theorem by_array (Φ : Key → sProp 𝕄) :
    bigSep Finset.univ Φ = iprop(((bigSep Finset.univ fun h : Fin 15 => Φ (true, true, h)) ∗ (bigSep Finset.univ fun h : Fin 15 => Φ (true, false, h)))
      ∗ ((bigSep Finset.univ fun h : Fin 15 => Φ (false, true, h)) ∗ (bigSep Finset.univ fun h : Fin 15 => Φ (false, false, h)))) := by
  rw [bigSep_univ_prod, bigSep_bool, bigSep_univ_prod, bigSep_univ_prod, bigSep_bool, bigSep_bool]
/-- By phase and step: the reduce-scatter's, the gather's in pairs of slots, the gather's last. -/
theorem sort_keys (Φ : Key → sProp 𝕄) :
    bigSep Finset.univ Φ = iprop((bigSep Finset.univ fun h : Fin 15 => two fun s => Φ (s, false, h))
      ∗ (bigSep Finset.univ fun t : Fin 7 => four Φ t) ∗ two fun s => Φ (s, true, 7)) := by
  have e : ∀ s, (bigSep Finset.univ fun h : Fin 15 => Φ (s, true, h))
      = iprop(((bigSep Finset.univ fun t : Fin 7 => Φ (s, true, low t.castSucc)) ∗ Φ (s, true, 7)) ∗ bigSep Finset.univ fun t : Fin 7 => Φ (s, true, high t)) := fun s => by
    rw [bigSep_fin_add (m := 8) (n := 7) fun h => Φ (s, true, h), bigSep_fin_last (n := 7)]
    rfl
  rw [by_array, e, e]
  unfold two four
  rw [bigSep_sep' Finset.univ (fun h : Fin 15 => Φ (true, false, h)) (fun h => Φ (false, false, h)),
    bigSep_sep' Finset.univ (fun t : Fin 7 => iprop(Φ (true, true, low t.castSucc) ∗ Φ (false, true, low t.castSucc))) (fun t => iprop(Φ (true, true, high t) ∗ Φ (false, true, high t))),
    bigSep_sep' Finset.univ (fun t : Fin 7 => Φ (true, true, low t.castSucc)) (fun t => Φ (false, true, low t.castSucc)),
    bigSep_sep' Finset.univ (fun t : Fin 7 => Φ (true, true, high t)) (fun t => Φ (false, true, high t))]
  have h1 : ∀ X1 X2 X3 X4 X5 X6 X7 X8 : sProp 𝕄, iprop((((X1 ∗ X2) ∗ X3) ∗ X4) ∗ ((X5 ∗ X6) ∗ X7) ∗ X8)
      ⊢ iprop((X4 ∗ X8) ∗ ((X1 ∗ X5) ∗ X3 ∗ X7) ∗ X2 ∗ X6) := fun X1 X2 X3 X4 X5 X6 X7 X8 => by
    iintro ⟨⟨⟨⟨H1, H2⟩, H3⟩, H4⟩, ⟨⟨H5, H6⟩, H7⟩, H8⟩
    iframe H1 H2 H3 H4 H5 H6 H7 H8
  have h2 : ∀ X1 X2 X3 X4 X5 X6 X7 X8 : sProp 𝕄, iprop((X4 ∗ X8) ∗ ((X1 ∗ X5) ∗ X3 ∗ X7) ∗ X2 ∗ X6)
      ⊢ iprop((((X1 ∗ X2) ∗ X3) ∗ X4) ∗ ((X5 ∗ X6) ∗ X7) ∗ X8) := fun X1 X2 X3 X4 X5 X6 X7 X8 => by
    iintro ⟨⟨H4, H8⟩, ⟨⟨H1, H5⟩, H3, H7⟩, H2, H6⟩
    iframe H1 H2 H3 H4 H5 H6 H7 H8
  exact Entails.antisymm (h1 _ _ _ _ _ _ _ _) (h2 _ _ _ _ _ _ _ _)

/-! ## The barrier -/

/-- What a device owes, whatever it has waited for. -/
def owing (c : Dev nD) (O : CellTallies nD τ sig Unit) : sProp 𝕄 := iprop(∃ W, owes (c : Thread nD τ) O W)

theorem spec_signal (c : Dev nD) (d : Bool) (n : Dev nD) (hn : n = nb (!d) c) (O O' : CellTallies nD τ sig Unit)
    (hO : O = O' + tallyAt (barCell (nb (!d) c)) () 1) :
    Spec P K c (semSignalWord n barS 1#32) iprop(owing c O ∗ dutyTok ER (barCell (nb (!d) c)) 0 d ∗ landAt d c) ⟨⟩ (owing c O') := by
  subst hn
  intro Q
  unfold owing semSignalWord
  iintro ⟨#HR, ⟨⟨%W, Ho⟩, Ht, Hl⟩, HK⟩
  ihave #⟨HI, Hr⟩ := (recs_bar P K c (nb (!d) c)) $$ HR
  iapply (Rounds.wp_signal 𝒱₀ ER (Rd P) (c : Thread nD τ) none (dst := (nb (!d) c : Thread nD τ)) (κ := K (nb (!d) c, none))
      (d := d) (by rw [duties_bar]; exact Finset.mem_univ _) ((amount_bar P (nb (!d) c) d).trans (by decide)) () O' hO) $$ [Ho Ht Hl]
  · iframe HI Ho Ht Hr
    rw [payload_bar, nb_nb']
    iexact Hl
  iintro Ho
  iapply (Wp_ret (c := c) ⟨⟩ Q)
  iapply HK
  iexists W; iexact Ho

theorem spec_barWait (c : Dev nD) :
    Spec P K c (semWaitWord barS 2#32) iprop((atPos ER (barCell c) 0 ∅ 0 ∗ cred (tallyAt (barCell c) () 2)) ∗ owing c (owe c Finset.univ)) ⟨⟩
      iprop((landAt true (nb true c) ∗ landAt false (nb false c)) ∗ semVal (barCell c) 0 ∗ owing c (owe c Finset.univ)) := by
  intro Q
  unfold owing semWaitWord
  iintro ⟨#HR, ⟨⟨Ha, Hc⟩, %W, Ho⟩, HK⟩
  ihave #⟨HI, Hr⟩ := (recs_bar P K c c) $$ HR
  have hm : recs P K c ⊢ MayWait (c : Thread nD τ) (.reg barS) () (owe c Finset.univ) := by
    have h2 := @recs_lev F _ _ P K c
    exact h2.trans (mayWait_owe c _ 1 (le_of_eq rfl) _ fun k _ => by omega)
  ihave #HM := hm $$ HR
  iapply (Rounds.wp_wait_rest_token 𝒱₀ ER (Rd P) (c : Thread nD τ) none (κ := K (c, none))
      (wpE_semWait_eq 𝒱₀ (c : Thread nD τ) none Set.univ) (Set.mem_univ _) () (O := owe c Finset.univ) (W := W) (R := 0) (m := 0) (T := ∅)
      (by rw [expect_bar]; decide)) $$ [Hc Ho Ha]
  · iframe HI Hc Ho Ha
    iexact HM
  iintro ⟨Ho, Ha, -, Hp⟩
  ihave Hp := (Entails.of_eq (rest_bar P c)) $$ Hp
  imod (Rounds.cell_close ER (Rd P) (Set.mem_univ (K (c, none))) (fun h => h) (R := 0 + 1) (duties_later P (barCell c))) $$ [Ha] with Hv
  · iframe HI Ha
  iapply (Wp_ret (c := c) ⟨⟩ Q)
  iapply HK
  icases Hp with ⟨H1, H2⟩
  iframe H1 H2 Hv
  iexists _; iexact Ho

/-- The slots a device may write, from its two neighbours. -/
theorem lands (c : Dev nD) : (bigSep Finset.univ fun k : Key => landRes (F := F) (dst k c) k)
    = iprop(landAt true (nb true c) ∗ landAt false (nb false c)) := by
  have e : ∀ s, bigSep (along s) (fun k => landRes (F := F) (dst k c) k) = landAt s (nb s c) := fun s =>
    bigSep_congr fun k hk => by rw [show dst k c = nb s c by unfold dst; rw [(Finset.mem_filter.mp hk).2]]
  rw [bigSep_along, e, e]

/-! ## Families of resources, step by step -/

omit [FloatOps F] [Named F] in
theorem swap4 (A B D E : sProp 𝕄) : iprop((A ∗ B) ∗ (D ∗ E)) = iprop((A ∗ D) ∗ (B ∗ E)) := by
  have h : ∀ A B D E : sProp 𝕄, iprop((A ∗ B) ∗ (D ∗ E)) ⊢ iprop((A ∗ D) ∗ (B ∗ E)) := fun A B D E => by
    iintro ⟨⟨H1, H2⟩, H3, H4⟩; iframe H1 H2 H3 H4
  exact Entails.antisymm (h A B D E) (h A D B E)
omit [FloatOps F] [Named F] in
theorem two_sep (A B : Bool → sProp 𝕄) : two (fun s => iprop(A s ∗ B s)) = iprop(two A ∗ two B) := swap4 _ _ _ _
omit [FloatOps F] [Named F] in
theorem four_sep (A B : Key → sProp 𝕄) (t : Fin 7) : four (fun k => iprop(A k ∗ B k)) t = iprop(four A t ∗ four B t) := by
  have h : four (fun k => iprop(A k ∗ B k)) t
    = iprop(two (fun s => iprop(A (s, true, low t.castSucc) ∗ B (s, true, low t.castSucc))) ∗ two (fun s => iprop(A (s, true, high t) ∗ B (s, true, high t)))) := rfl
  rw [h, two_sep, two_sep]; exact swap4 _ _ _ _
omit [FloatOps F] [Named F] in
theorem fam_two {n : ℕ} (A B : Fin n → Bool → sProp 𝕄) :
    (bigSep Finset.univ fun h => two fun s => iprop(A h s ∗ B h s))
      = iprop((bigSep Finset.univ fun h => two (A h)) ∗ bigSep Finset.univ fun h => two (B h)) := by
  rw [bigSep_congr fun h _ => two_sep (A h) (B h)]; exact bigSep_sep' _ _ _
omit [FloatOps F] [Named F] in
theorem fam_four {n : ℕ} (f : Fin n → Fin 7) (A B : Key → sProp 𝕄) :
    (bigSep Finset.univ fun t => four (fun k => iprop(A k ∗ B k)) (f t))
      = iprop((bigSep Finset.univ fun t => four A (f t)) ∗ bigSep Finset.univ fun t => four B (f t)) := by
  rw [bigSep_congr fun t _ => four_sep A B (f t)]; exact bigSep_sep' _ _ _

/-! ## The run -/

abbrev toks (k : Key) (c : Dev nD) : sProp 𝕄 :=
  iprop(dutyTok ER (xCell false k c) 0 false ∗ dutyTok ER (xCell true k (dst k c)) 0 false)
abbrev atS (k : Key) (c : Dev nD) : sProp 𝕄 := atPos ER (xCell false k c) 0 ∅ 0

/-- What a device's run starts from, its memory aside. -/
def entry (c : Dev nD) : sProp 𝕄 :=
  iprop(owing c (O₀ c) ∗ (dutyTok ER (barCell (nb false c)) 0 true ∗ dutyTok ER (barCell (nb true c)) 0 false)
    ∗ (atPos ER (barCell c) 0 ∅ 0 ∗ cred (tallyAt (barCell c) () 2))
    ∗ (bigSep Finset.univ fun k : Key => toks k c) ∗ (bigSep Finset.univ fun k : Key => recvRes k c) ∗ bigSep Finset.univ fun k : Key => atS k c)
/-- Its memory. -/
def memory (c : Dev nD) : sProp 𝕄 :=
  iprop((landAt true c ∗ landAt false c) ∗ two (fun s => anyM c (pbB s)) ∗ two (fun s => anyM c (rdB s))
    ∗ bigSep Finset.univ fun h : Fin 15 => two fun s => anyAt c (slot (sdB s) h))
/-- Its memory at the end, and the cells of its transfers at zero. -/
def final (c : Dev nD) : sProp 𝕄 :=
  iprop(two (fun s => pbOwn P s c) ∗ (bigSep Finset.univ fun h : Fin 15 => two fun s => rOwn P s h c)
    ∗ two (fun s => gOwn P s 7 c) ∗ two (fun s => gOwn P s 14 c)
    ∗ (bigSep Finset.univ fun k : Key => drained P k c) ∗ (bigSep Finset.univ fun k : Key => done true k c) ∗ semVal (barCell c) 0)

theorem spec_drain_four (c : Dev nD) (t : Fin 7) :
    Spec P K c (do drainsP true (low t.castSucc); drainsP true (high t)) iprop(ow c ∅ ∗ four (fun k => drainRes k c) t) ⟨⟩
      iprop(ow c ∅ ∗ four (fun k => drained P k c) t) := by
  refine Spec.seq (two fun s => drainRes (s, true, high t) c) (spec_drains P K c true (low t.castSucc)) ?_ ?_
  · iintro ⟨Ho, ⟨⟨H1, H2⟩, H3, H4⟩, ⟨H5, H6⟩, H7, H8⟩; iframe H1 H2 H3 H4 H5 H6 H7 H8 Ho
  · refine ((spec_drains P K c true (high t)).frame (two fun s => drained P (s, true, low t.castSucc) c)).mono ?_ ?_
    · iintro ⟨⟨Ho, ⟨H1, H2⟩, H3, H4⟩, ⟨H5, H6⟩, H7, H8⟩; iframe H1 H2 H3 H4 H5 H6 H7 H8 Ho
    · iintro ⟨⟨Ho, ⟨H1, H2⟩, H3, H4⟩, ⟨H5, H6⟩, H7, H8⟩; iframe H1 H2 H3 H4 H5 H6 H7 H8 Ho

theorem rsA_eq (c : Dev nD) : bigSep Finset.univ (rsA (F := F) c)
    = iprop((bigSep Finset.univ fun h : Fin 14 => two fun s => recvRes (s, false, h.castSucc) c)
      ∗ (bigSep Finset.univ fun h : Fin 14 => two fun s => anyAt c (slot (sdB s) h.succ))
      ∗ bigSep Finset.univ fun h : Fin 14 => two fun s => sendRes (s, false, h.succ) c) :=
  (bigSep_sep' _ _ _).trans (congrArg (BIBase.sep _) (bigSep_sep' _ _ _))
theorem rsZ_eq (c : Dev nD) : bigSep Finset.univ (rsZ P c)
    = iprop(((bigSep Finset.univ fun h : Fin 14 => two fun s => rOwn P s h.castSucc c) ∗ bigSep Finset.univ fun h : Fin 14 => two fun s => done true (s, false, h.castSucc) c)
      ∗ bigSep Finset.univ fun h : Fin 14 => two fun s => crd (s, false, h.succ) c) :=
  (bigSep_sep' _ _ _).trans (congrArg (fun X => BIBase.sep X _) (fam_two (fun h s => rOwn P s h.castSucc c) (fun h s => done true (s, false, h.castSucc) c)))
theorem agA_eq (c : Dev nD) : (bigSep Finset.univ fun t : Fin 6 => agA (F := F) c t.succ)
    = iprop((bigSep Finset.univ fun t : Fin 6 => four (fun k => sendRes k c) t.succ) ∗ bigSep Finset.univ fun t : Fin 6 => four (fun k => recvRes k c) t.succ) := by
  unfold agA; rw [bigSep_sep']
theorem agZ_eq (c : Dev nD) : (bigSep Finset.univ fun t : Fin 6 => agZ (F := F) c t.succ)
    = iprop((bigSep Finset.univ fun t : Fin 6 => four (fun k => crd k c) t.succ) ∗ bigSep Finset.univ fun t : Fin 6 => four (fun k => done true k c) t.succ) := by
  unfold agZ; rw [bigSep_sep']

omit [FloatOps F] [Named F] in
theorem assoc3 (A B D : sProp 𝕄) : iprop((A ∗ B) ∗ D) ⊢ iprop(A ∗ B ∗ D) := by
  iintro ⟨⟨H1, H2⟩, H3⟩; iframe H1 H2 H3
theorem sendRes_intro (c : Dev nD) :
    iprop((bigSep Finset.univ fun k : Key => toks (F := F) k c) ∗ bigSep Finset.univ fun k : Key => landRes (dst k c) k)
      ⊢ bigSep Finset.univ fun k : Key => sendRes k c :=
  (Entails.of_eq (bigSep_sep' _ _ _).symm).trans (bigSep_mono fun k _ =>
    assoc3 (dutyTok ER (xCell false k c) 0 false) (dutyTok ER (xCell true k (dst k c)) 0 false) (landRes (dst k c) k))
theorem drain_intro (c : Dev nD) :
    iprop((bigSep Finset.univ fun h : Fin 15 => two fun s => atS (F := F) (s, false, h) c) ∗ bigSep Finset.univ fun h : Fin 15 => two fun s => crd (s, false, h) c)
      ⊢ bigSep Finset.univ fun h : Fin 15 => two fun s => drainRes (s, false, h) c :=
  Entails.of_eq (fam_two _ _).symm
theorem drain_intro4 (c : Dev nD) :
    iprop((bigSep Finset.univ fun t : Fin 7 => four (fun k => atS (F := F) k c) t) ∗ bigSep Finset.univ fun t : Fin 7 => four (fun k => crd k c) t)
      ⊢ bigSep Finset.univ fun t : Fin 7 => four (fun k => drainRes k c) t :=
  Entails.of_eq (fam_four (fun t => t) _ _).symm

theorem spec_run (c : Dev nD) :
    Spec P K c (run c) iprop(entry c ∗ memory c ∗ pOwn P c ∗ outI P c ∅) ⟨⟩
      iprop(final P c ∗ pOwn P c ∗ outI P c Finset.univ ∗ ow c ∅) := by
  unfold run
  intro Q
  unfold entry memory
  iintro ⟨#HR, ⟨⟨Ho, ⟨Hb1, Hb2⟩, Hbw, Htk, Hrr, Has⟩, ⟨⟨Hl1, Hl2⟩, ⟨Hpb1, Hpb2⟩, ⟨Hrd1, Hrd2⟩, Hsd⟩, Hp, HX⟩, HK⟩
  -- the barrier
  iapply ((spec_signal P K c true _ (dev1_eq c) (O₀ c) (O₁ c) rfl).wand _ Q) $$ [Ho Hb1 Hl1]
  · iframe HR Ho Hl1; iexact Hb1
  iintro Ho
  iapply ((spec_signal P K c false _ (dev2_eq c) (O₁ c) (owe c Finset.univ) rfl).wand _ Q) $$ [Ho Hb2 Hl2]
  · iframe HR Ho Hl2; iexact Hb2
  iintro Ho
  iapply ((spec_barWait P K c).wand _ Q) $$ [Ho Hbw]
  · iframe HR Hbw Ho
  iintro ⟨Hland, Hvb, Ho⟩
  ihave Ho := (Entails.of_eq (show owing (F := F) c (owe c Finset.univ) = ow c Finset.univ from rfl)) $$ Ho
  ihave Hland := (Entails.of_eq (lands c).symm) $$ Hland
  ihave Hsr := (sendRes_intro c) $$ [Htk Hland]
  · iframe Htk Hland
  -- everything, by phase and step
  ihave ⟨HsR, HsG, HsL⟩ := (Entails.of_eq (sort_keys fun k => sendRes k c)) $$ Hsr
  ihave ⟨HrR, HrG, HrL⟩ := (Entails.of_eq (sort_keys fun k => recvRes k c)) $$ Hrr
  ihave ⟨HaR, HaG, HaL⟩ := (Entails.of_eq (sort_keys fun k => atS k c)) $$ Has
  ihave ⟨⟨HsR1, HsR2⟩, HsRs⟩ := (Entails.of_eq (bigSep_fin_head _)) $$ HsR
  ihave ⟨HrRs, HrR⟩ := (Entails.of_eq (bigSep_fin_last _)) $$ HrR
  ihave ⟨⟨Hsd1, Hsd2⟩, Hsds⟩ := (Entails.of_eq (bigSep_fin_head _)) $$ Hsd
  ihave ⟨HsG, HsGs⟩ := (Entails.of_eq (bigSep_fin_head _)) $$ HsG
  ihave ⟨HrG, HrGs⟩ := (Entails.of_eq (bigSep_fin_head _)) $$ HrG
  -- the rounded halves and the first transfers
  iapply ((spec_pbP P K c true).wand _ Q) $$ [Hp Hpb1]
  · iframe HR Hp Hpb1
  iintro ⟨Hp, Hpb1⟩
  iapply ((spec_pbP P K c false).wand _ Q) $$ [Hp Hpb2]
  · iframe HR Hp Hpb2
  iintro ⟨Hp, Hpb2⟩
  iapply ((spec_firstP P K c true).wand _ Q) $$ [Hpb1 Hsd1]
  · iframe HR Hpb1; iexact Hsd1
  iintro ⟨Hpb1, Hsd1⟩
  iapply ((spec_firstP P K c false).wand _ Q) $$ [Hpb2 Hsd2]
  · iframe HR Hpb2; iexact Hsd2
  iintro ⟨Hpb2, Hsd2⟩
  iapply ((spec_send P K c true false 0 Finset.univ (Finset.mem_univ _)).wand _ Q) $$ [HsR1 Hsd1 Ho]
  · iframe HR
    isplitl [HsR1]; · iexact HsR1
    isplitl [Hsd1]; · iexact Hsd1
    iexact Ho
  iintro ⟨Hc1, Ho⟩
  iapply ((spec_send P K c false false 0 (Finset.univ.erase (true, false, 0)) (Finset.mem_erase.mpr ⟨by simp, Finset.mem_univ _⟩)).wand _ Q) $$ [HsR2 Hsd2 Ho]
  · iframe HR Ho
    isplitl [HsR2]; · iexact HsR2
    iexact Hsd2
  iintro ⟨Hc2, Ho⟩
  ihave Ho := (Entails.of_eq (congrArg (ow (F := F) c) left_first)) $$ Ho
  -- the reduce-scatter
  ihave HA := (Entails.of_eq (rsA_eq c).symm) $$ [HrRs Hsds HsRs]
  · isplitl [HrRs]; · iexact HrRs
    isplitl [Hsds]; · iexact Hsds
    iexact HsRs
  iapply ((spec_loop P K c 14 (rsStep c) (fun n => rsI P c n.val) (rsA c) (rsZ P c) (fun h => spec_rsStep P K c h)).wand _ Q) $$ [Hpb1 Hpb2 Ho HA]
  · iframe HR HA
    isplitl [Hpb1 Hpb2]
    · isplitl [Hpb1]
      · iexact Hpb1
      · iexact Hpb2
    · iexact Ho
  iintro ⟨⟨⟨Hpb1, Hpb2⟩, Ho⟩, HZ⟩
  ihave ⟨⟨HZr, HZd⟩, HZc⟩ := (Entails.of_eq (rsZ_eq P c)) $$ HZ
  iapply ((spec_recvs P K c false 14 (left 14) (fun k hk => lt_of_left hk)).wand _ Q) $$ [HrR Ho]
  · iframe HR
    isplitl [HrR]
    · iexact HrR
    · iexact Ho
  iintro ⟨⟨⟨Hr1, Hd1⟩, Hr2, Hd2⟩, Ho⟩
  iapply ((spec_accP P K c true).wand _ Q) $$ [Hp Hr1]
  · iframe HR Hp; iexact Hr1
  iintro ⟨Hp, Hr1⟩
  iapply ((spec_accP P K c false).wand _ Q) $$ [Hp Hr2]
  · iframe HR Hp; iexact Hr2
  iintro ⟨Hp, Hr2⟩
  iapply ((spec_stRd P K c true (redV P true c)).wand _ Q) $$ [Hrd1]
  · iframe HR Hrd1
  iintro Hrd1
  iapply ((spec_stRd P K c false (redV P false c)).wand _ Q) $$ [Hrd2]
  · iframe HR Hrd2
  iintro Hrd2
  -- the first gather step
  ihave ⟨Hg1, Hg3⟩ := (Entails.of_eq (src_rd P true c)) $$ Hrd1
  ihave ⟨Hg2, Hg4⟩ := (Entails.of_eq (src_rd P false c)) $$ Hrd2
  iapply ((spec_agSend P K c 0).wand _ Q) $$ [HsG Hg1 Hg2 Hg3 Hg4 Ho]
  · iframe HR
    isplitl [HsG]; · iexact HsG
    isplitr [Ho]
    · isplitl [Hg1 Hg2]
      · isplitl [Hg1]
        · iexact Hg1
        · iexact Hg2
      · isplitl [Hg3]
        · iexact Hg3
        · iexact Hg4
    · iexact Ho
  iintro ⟨HcG, Ho⟩
  iapply ((spec_stBlk P K c true (own true c) _ _ (ownOff_eq true c) _ (outBlk_own P c true) ∅).wand _ Q) $$ [HX]
  · iframe HR HX
  iintro HX
  iapply ((spec_stBlk P K c false (own false c) _ _ (ownOff_eq false c) _ (outBlk_own P c false) _).wand _ Q) $$ [HX]
  · iframe HR HX
  iintro HX
  iapply ((spec_agRecv P K c 0).wand _ Q) $$ [HrG Ho HX]
  · iframe HR
    isplitl [HrG]; · iexact HrG
    isplitl [Ho]; · iexact Ho
    iexact HX
  iintro ⟨⟨⟨⟨Ha, Hva⟩, Hb, Hvb⟩, ⟨Hd, Hvd⟩, He, Hve⟩, Ho, HX⟩
  -- the other gather steps
  ihave HA := (Entails.of_eq (agA_eq c).symm) $$ [HsGs HrGs]
  · isplitl [HsGs]; · iexact HsGs
    iexact HrGs
  iapply ((spec_loop P K c 6 (agStep c) (fun t => agI P c t) (fun t => agA c t.succ) (fun t => agZ c t.succ) (fun t => spec_agStep P K c t)).wand _ Q)
    $$ [Ha Hb Hd He Ho HX HA]
  · iframe HR HA
    isplitl [Ha Hb]
    · isplitl [Ha]
      · iexact Ha
      · iexact Hb
    isplitl [Hd He]
    · isplitl [Hd]
      · iexact Hd
      · iexact He
    isplitl [Ho]; · iexact Ho
    iexact HX
  iintro ⟨⟨⟨Ha, Hb⟩, ⟨Hd, He⟩, Ho, HX⟩, HZ⟩
  ihave ⟨HZgc, HZgd⟩ := (Entails.of_eq (agZ_eq c)) $$ HZ
  -- the last gather transfer
  ihave Ha := (Entails.of_eq (src_low P true (Fin.last 6) c)) $$ Ha
  ihave Hb := (Entails.of_eq (src_low P false (Fin.last 6) c)) $$ Hb
  iapply (Spec.wand (spec_two_send P K c true 7 (left 21) ∅ (mem_left (by decide)) (Finset.mem_erase.mpr ⟨by simp, mem_left (by decide)⟩) left_last) _ Q)
    $$ [HsL Ha Hb Ho]
  · iframe HR
    isplitl [HsL]; · iexact HsL
    isplitl [Ha Hb]
    · isplitl [Ha]
      · iexact Ha
      · iexact Hb
    iexact Ho
  iintro ⟨HcL, Ho⟩
  iapply ((spec_recvs P K c true 7 ∅ (fun k hk => absurd hk (Finset.notMem_empty k))).wand _ Q) $$ [HrL Ho]
  · iframe HR HrL Ho
  iintro ⟨⟨⟨Ha, Hva7⟩, Hb, Hvb7⟩, Ho⟩
  iapply ((spec_putA P K c true 7 _).wand _ Q) $$ [Ha HX]
  · iframe HR HX; iexact Ha
  iintro ⟨Ha, HX⟩
  iapply ((spec_putA P K c false 7 _).wand _ Q) $$ [Hb HX]
  · iframe HR HX; iexact Hb
  iintro ⟨Hb, HX⟩
  -- the waits for what was sent
  ihave HcR := (Entails.of_eq (bigSep_fin_head fun h : Fin 15 => two fun s => crd (F := F) (s, false, h) c).symm) $$ [Hc1 Hc2 HZc]
  · isplitl [Hc1 Hc2]
    · isplitl [Hc1]
      · iexact Hc1
      · iexact Hc2
    iexact HZc
  ihave HdR := (drain_intro c) $$ [HaR HcR]
  · iframe HaR HcR
  iapply ((spec_loop P K c 15 (drainsP false) (fun _ => ow c ∅) (fun h => two fun s => drainRes (s, false, h) c)
    (fun h => two fun s => drained P (s, false, h) c) (fun h => spec_drains P K c false h)).wand _ Q) $$ [Ho HdR]
  · iframe HR Ho HdR
  iintro ⟨Ho, HDR⟩
  ihave HcG := (Entails.of_eq (bigSep_fin_head fun t : Fin 7 => four (fun k => crd (F := F) k c) t).symm) $$ [HcG HZgc]
  · isplitl [HcG]
    · iexact HcG
    iexact HZgc
  ihave HdG := (drain_intro4 c) $$ [HaG HcG]
  · iframe HaG HcG
  iapply ((spec_loop P K c 7 (fun t => do drainsP true (low t.castSucc); drainsP true (high t)) (fun _ => ow c ∅)
    (fun t => four (fun k => drainRes k c) t) (fun t => four (fun k => drained P k c) t) (fun t => spec_drain_four P K c t)).wand _ Q) $$ [Ho HdG]
  · iframe HR Ho HdG
  iintro ⟨Ho, HDG⟩
  ihave HdL := (Entails.of_eq (two_sep (fun s => atS (F := F) (s, true, 7) c) (fun s => crd (s, true, 7) c)).symm) $$ [HaL HcL]
  · isplitl [HaL]
    · iexact HaL
    · iexact HcL
  iapply (spec_drains P K c true 7 Q)
  iframe HR
  isplitl [Ho HdL]
  · isplitl [Ho]
    · iexact Ho
    · iexact HdL
  iintro ⟨Ho, HDL⟩
  -- together again
  ihave HDR := (Entails.of_eq (sort_keys fun k => drained P k c).symm) $$ [HDR HDG HDL]
  · isplitl [HDR]; · iexact HDR
    isplitl [HDG]; · iexact HDG
    iexact HDL
  ihave HZr := (Entails.of_eq (bigSep_fin_last fun h : Fin 15 => two fun s => rOwn P s h c).symm) $$ [HZr Hr1 Hr2]
  · isplitl [HZr]; · iexact HZr
    isplitl [Hr1]; · iexact Hr1
    iexact Hr2
  ihave HZd := (Entails.of_eq (bigSep_fin_last fun h : Fin 15 => two fun s => done (F := F) true (s, false, h) c).symm) $$ [HZd Hd1 Hd2]
  · isplitl [HZd]; · iexact HZd
    isplitl [Hd1]; · iexact Hd1
    iexact Hd2
  ihave HZgd := (Entails.of_eq (bigSep_fin_head fun t : Fin 7 => four (fun k => done (F := F) true k c) t).symm) $$ [HZgd Hva Hvb Hvd Hve]
  · isplitr [HZgd]
    · isplitl [Hva Hvb]
      · isplitl [Hva]
        · iexact Hva
        · iexact Hvb
      · isplitl [Hvd]
        · iexact Hvd
        · iexact Hve
    · iexact HZgd
  ihave HZd := (Entails.of_eq (sort_keys fun k => done (F := F) true k c).symm) $$ [HZd HZgd Hva7 Hvb7]
  · isplitl [HZd]; · iexact HZd
    isplitl [HZgd]; · iexact HZgd
    isplitl [Hva7]; · iexact Hva7
    iexact Hvb7
  ihave HX := (Entails.of_eq (show outI P c (insert (false, own false (got false (low 7) c)) (insert (true, own true (got true (low 7) c))
    (filled c ((Fin.last 6).val + 1) _))) = outI P c Finset.univ from congrArg (outI P c) (filled_all c))) $$ HX
  iapply HK
  unfold final
  iframe Hp HX Ho HDR HZr HZd Hvb Hpb1 Hpb2
  isplitl [Ha Hb]
  · isplitl [Ha]
    · iexact Ha
    · iexact Hb
  · isplitl [Hd]
    · iexact Hd
    · iexact He

end Cert.KernelIdeal.Ring

end
-- ==== Proof.Ring.Slots.lean ====
/-
The buffers of the kernel as the slots the transfers use, at entry and at the end.
-/
module

public import proofs.«01_k».proof.Proof.Ring.Run
public import Idealize.ShloMosaic.Lib.Ring

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → FVec F S1x2048x1024 .f32)

/-! ## A buffer of fifteen slots -/

theorem slotR_disjoint (h h' : Fin 15) (hh : h ≠ h') : Disjoint (slotR h).set (slotR h').set :=
  Ring.lead_disjoint (s := S15x128x512) 0 1 (fun h : Fin 15 => ![h.val, 0, 0]) S1x128x512.size inbSlot (fun h => by show h.val = _; omega) rfl h h' hh
theorem slotR_cover : Finset.univ.biUnion (fun h : Fin 15 => (slotR h).set) = Finset.univ :=
  Ring.lead_cover (s := S15x128x512) 0 1 (fun h : Fin 15 => ![h.val, 0, 0]) S1x128x512.size inbSlot (fun h => by show h.val = _; omega)
    (fun h a ha => by fin_cases a <;> first | rfl | exact absurd rfl ha) rfl (fun a ha => by fin_cases a <;> first | rfl | exact absurd rfl ha) rfl

/-- The elements of a buffer of fifteen slots that lie in slot `h`. -/
def slotSet (m : Memref sig .tc .vmem S15x128x512 .bf16) (h : Fin 15) : Finset m.view.ty.Idx := (m.view.slice (slotR h)).set

theorem slotSet_disjoint (m : Memref sig .tc .vmem S15x128x512 .bf16) (h h' : Fin 15) (hh : h ≠ h') :
    Disjoint (slotSet m h) (slotSet m h') := by
  unfold slotSet
  rw [View.set_slice, View.set_slice, Finset.disjoint_map]
  exact slotR_disjoint h h' hh
theorem slotSet_cover (m : Memref sig .tc .vmem S15x128x512 .bf16) :
    Finset.univ.biUnion (fun h : Fin 15 => slotSet m h) = m.view.set := by
  ext i
  rw [Finset.mem_biUnion]
  constructor
  · rintro ⟨h, -, hi⟩
    exact View.set_slice_subset m.view (slotR h) hi
  · intro hi
    obtain ⟨j, -, rfl⟩ := Finset.mem_map.mp hi
    have hj : j ∈ Finset.univ.biUnion (fun h : Fin 15 => (slotR h).set) := by rw [slotR_cover]; exact Finset.mem_univ j
    obtain ⟨h, -, hjh⟩ := Finset.mem_biUnion.mp hj
    refine ⟨h, Finset.mem_univ _, ?_⟩
    unfold slotSet
    rw [View.set_slice]
    exact Finset.mem_map_of_mem _ hjh

omit [FloatOps F] [Named F] in
theorem slotSet_any (c : Dev nD) (m : Memref sig .tc .vmem S15x128x512 .bf16) (h : Fin 15) :
    (anyAt c (slot m h) : sProp 𝕄) = iprop(∃ f : Buf (Elt F) (m.view.loc (c : Thread nD τ)), m.view.loc (c : Thread nD τ) ↦[slotSet m h]{fullShare} f) :=
  slot_any c m h

omit [FloatOps F] [Named F] in
theorem slots_split (c : Dev nD) (m : Memref sig .tc .vmem S15x128x512 .bf16) :
    (anyM c m : sProp 𝕄) ⊢ bigSep Finset.univ fun h : Fin 15 => anyAt c (slot m h) := by
  have h2 : ∀ f : Buf (Elt F) (m.view.loc (c : Thread nD τ)), (m.view.loc (c : Thread nD τ) ↦[m.view.set]{fullShare} f : sProp 𝕄)
      ⊢ bigSep Finset.univ fun h : Fin 15 => anyAt c (slot m h) := fun f => by
    rw [Ring.pointsTo_sub_blocks (slotSet m) (slotSet_disjoint m) m.view.set (slotSet_cover m) f]
    refine bigSep_mono fun h _ => ?_
    rw [slotSet_any]
    have h3 : (m.view.loc (c : Thread nD τ) ↦[slotSet m h]{fullShare} f : sProp 𝕄)
        ⊢ iprop(∃ f : Buf (Elt F) (m.view.loc (c : Thread nD τ)), m.view.loc (c : Thread nD τ) ↦[slotSet m h]{fullShare} f) := by
      iintro H; iexists f; iexact H
    exact h3
  unfold anyM
  iintro ⟨%f, H⟩
  iapply (h2 f); iexact H
omit [FloatOps F] [Named F] in
theorem slots_join [∀ e, Nonempty (Elt F e)] (c : Dev nD) (m : Memref sig .tc .vmem S15x128x512 .bf16) :
    (bigSep Finset.univ fun h : Fin 15 => anyAt c (slot m h)) ⊢ (anyM c m : sProp 𝕄) := by
  have e := bigSep_congr (s := Finset.univ) fun (h : Fin 15) _ => slotSet_any (F := F) c m h
  have j : (bigSep Finset.univ fun h : Fin 15 => iprop(∃ f : Buf (Elt F) (m.view.loc (c : Thread nD τ)), m.view.loc (c : Thread nD τ) ↦[slotSet m h]{fullShare} f) : sProp 𝕄)
      ⊢ iprop(∃ g : Buf (Elt F) (m.view.loc (c : Thread nD τ)), m.view.loc (c : Thread nD τ) ↦[m.view.set]{fullShare} g) :=
    Ring.pointsTo_sub_blocks_join_exists (ℓ := m.view.loc (c : Thread nD τ)) (slotSet m) (slotSet_disjoint m) m.view.set (slotSet_cover m) (q := fullShare) (fun _ => Classical.arbitrary _)
  exact (Entails.of_eq e).trans j

omit [FloatOps F] [Named F] in
theorem owns_any (c : Dev nD) (M : Memref sig .tc .vmem S128x512 .bf16) (X : FVec F S128x512 .bf16) :
    (owns (c : Thread nD τ) M fullShare X : sProp 𝕄) ⊢ anyAt c M := by
  unfold owns anyAt; iintro ⟨%f, -, H⟩; iexists f; iexact H
omit [FloatOps F] [Named F] in
theorem owns_anyM {s : Shape} {e : EltTy} (c : Dev nD) (M : Memref sig .tc .vmem s e) (X : Vec F s e) :
    (owns (c : Thread nD τ) M fullShare X : sProp 𝕄) ⊢ anyM c M := by
  unfold owns anyM; iintro ⟨%f, -, H⟩; iexists f; iexact H

/-! ## At entry -/

/-- The ten buffers of the kernel. -/
def buffers (c : Dev nD) : sProp 𝕄 :=
  iprop(two (fun s => anyM c (rsB s)) ∗ two (fun s => anyM c (sdB s)) ∗ two (fun s => anyM c (agB s)) ∗ two (fun s => anyM c (rdB s)) ∗ two (fun s => anyM c (pbB s)))

theorem lands_here (c : Dev nD) : iprop((bigSep Finset.univ fun k : Key => reached ER (xCell true k c) 0) ∗ two (fun s => anyM c (rsB s)) ∗ two (fun s => anyM c (agB s)))
    ⊢ (iprop(landAt true c ∗ landAt false c) : sProp 𝕄) := by
  have e : (bigSep Finset.univ fun k : Key => landRes (F := F) c k)
      = iprop((bigSep Finset.univ fun k : Key => anyAt c (dK k)) ∗ bigSep Finset.univ fun k : Key => reached ER (xCell true k c) 0) :=
    bigSep_sep' _ _ _
  unfold landAt
  rw [← bigSep_along, e, by_array fun k => anyAt (F := F) c (dK k)]
  iintro ⟨HR, ⟨H1, H2⟩, H3, H4⟩
  iframe HR
  isplitl [H1 H3]
  · isplitl [H3]
    · iapply (slots_split c (agB true)); iexact H3
    · iapply (slots_split c (rsB true)); iexact H1
  · isplitl [H4]
    · iapply (slots_split c (agB false)); iexact H4
    · iapply (slots_split c (rsB false)); iexact H2

theorem memory_intro (c : Dev nD) : (iprop((bigSep Finset.univ fun k : Key => reached ER (xCell true k c) 0) ∗ buffers c) : sProp 𝕄) ⊢ memory c := by
  unfold buffers memory
  iintro ⟨HR, Hrs, ⟨Hsd1, Hsd2⟩, Hag, Hrd, Hpb⟩
  isplitl [HR Hrs Hag]
  · iapply (lands_here c)
    iframe HR
    isplitl [Hrs]
    · iexact Hrs
    · iexact Hag
  isplitl [Hpb]; · iexact Hpb
  isplitl [Hrd]; · iexact Hrd
  iapply (Entails.of_eq (bigSep_sep' Finset.univ (fun h : Fin 15 => anyAt (F := F) c (slot (sdB true) h)) (fun h => anyAt c (slot (sdB false) h))).symm)
  isplitl [Hsd1]
  · iapply (slots_split c (sdB true)); iexact Hsd1
  · iapply (slots_split c (sdB false)); iexact Hsd2

/-! ## At the end -/

/-- Every own cell at zero. -/
def zeros' (c : Dev nD) : sProp 𝕄 :=
  iprop((bigSep Finset.univ fun k : Key => done true k c) ∗ (bigSep Finset.univ fun k : Key => done false k c) ∗ semVal (barCell c) 0)

theorem gather_back [∀ e, Nonempty (Elt F e)] (c : Dev nD) (s : Bool) :
    iprop((bigSep Finset.univ fun h : Fin 15 => srcOwn P (s, true, h) c) ∗ gOwn P s 7 c ∗ gOwn P s 14 c)
      ⊢ (iprop(anyM c (rdB s) ∗ anyM c (agB s)) : sProp 𝕄) := by
  rw [bigSep_fin_add (m := 8) (n := 7) fun h : Fin 15 => srcOwn P (s, true, h) c,
    bigSep_fin_head (n := 7) fun t : Fin 8 => srcOwn P (s, true, ((Fin.castAdd 7 t : Fin (8 + 7)) : Fin 15)) c,
    bigSep_fin_head (n := 6) fun t : Fin 7 => srcOwn P (s, true, ((Fin.natAdd 8 t : Fin (8 + 7)) : Fin 15)) c]
  have e1 : ∀ t : Fin 7, srcOwn P (s, true, ((Fin.castAdd 7 t.succ : Fin (8 + 7)) : Fin 15)) c ⊢ (anyAt c (slot (agB s) (low t.castSucc)) : sProp 𝕄) := fun t =>
    (Entails.of_eq (src_low P s t c).symm).trans (owns_any c _ _)
  have e2 : ∀ t : Fin 6, srcOwn P (s, true, ((Fin.natAdd 8 t.succ : Fin (8 + 7)) : Fin 15)) c ⊢ (anyAt c (slot (agB s) (high t.castSucc)) : sProp 𝕄) := fun t =>
    (Entails.of_eq (src_high P s t c).symm).trans (owns_any c _ _)
  have m1 : (bigSep Finset.univ fun t : Fin 7 => srcOwn P (s, true, ((Fin.castAdd 7 t.succ : Fin (8 + 7)) : Fin 15)) c)
      ⊢ (bigSep Finset.univ fun t : Fin 7 => anyAt c (slot (agB s) (low t.castSucc)) : sProp 𝕄) := bigSep_mono fun t _ => e1 t
  have m2 : (bigSep Finset.univ fun t : Fin 6 => srcOwn P (s, true, ((Fin.natAdd 8 t.succ : Fin (8 + 7)) : Fin 15)) c)
      ⊢ (bigSep Finset.univ fun t : Fin 6 => anyAt c (slot (agB s) (high t.castSucc)) : sProp 𝕄) := bigSep_mono fun t _ => e2 t
  iintro ⟨⟨⟨H0, H1⟩, H8, H2⟩, H7, H14⟩
  isplitl [H0 H8]
  · iapply (owns_anyM c (rdB s) (redV P s c))
    iapply (Entails.of_eq (src_rd P s c).symm)
    isplitl [H0]
    · iexact H0
    · iexact H8
  · iapply (slots_join c (agB s))
    iapply (Entails.of_eq (bigSep_fin_add (m := 8) (n := 7) fun h : Fin 15 => anyAt (F := F) c (slot (agB s) h)).symm)
    isplitl [H1 H7]
    · iapply (Entails.of_eq (bigSep_fin_last (n := 7) fun h : Fin 8 => anyAt (F := F) c (slot (agB s) (h.castAdd 7))).symm)
      isplitl [H1]
      · iapply m1; iexact H1
      · iapply (owns_any c (slot (agB s) 7) _); iexact H7
    · iapply (Entails.of_eq (bigSep_fin_last (n := 6) fun h : Fin 7 => anyAt (F := F) c (slot (agB s) (h.natAdd 8))).symm)
      isplitl [H2]
      · iapply m2; iexact H2
      · iapply (owns_any c (slot (agB s) 14) _); iexact H14

theorem final_back [∀ e, Nonempty (Elt F e)] (c : Dev nD) : final P c ⊢ iprop(buffers c ∗ zeros' c) := by
  unfold final buffers zeros'
  iintro ⟨⟨Hp1, Hp2⟩, Hr, ⟨H7a, H7b⟩, ⟨H14a, H14b⟩, HD, Hd, Hb⟩
  ihave ⟨HS, HDz⟩ := (Entails.of_eq (bigSep_sep' Finset.univ (fun k : Key => srcOwn P k c) (fun k => done (F := F) false k c))) $$ HD
  ihave ⟨⟨HSa, HSr⟩, HSb, HSq⟩ := (Entails.of_eq (by_array fun k => srcOwn P k c)) $$ HS
  ihave ⟨Hr1, Hr2⟩ := (Entails.of_eq (bigSep_sep' Finset.univ (fun h : Fin 15 => rOwn P true h c) (fun h => rOwn P false h c))) $$ Hr
  ihave ⟨Hd1, Ha1⟩ := (gather_back P c true) $$ [HSa H7a H14a]
  · isplitl [HSa]; · iexact HSa
    iframe H7a H14a
  ihave ⟨Hd2, Ha2⟩ := (gather_back P c false) $$ [HSb H7b H14b]
  · isplitl [HSb]; · iexact HSb
    iframe H7b H14b
  have hr : ∀ s, (bigSep Finset.univ fun h : Fin 15 => rOwn P s h c) ⊢ (anyM c (rsB s) : sProp 𝕄) := fun s =>
    (bigSep_mono fun h _ => owns_any c (slot (rsB s) h) _).trans (slots_join c (rsB s))
  have hs : ∀ s, (bigSep Finset.univ fun h : Fin 15 => srcOwn P (s, false, h) c) ⊢ (anyM c (sdB s) : sProp 𝕄) := fun s =>
    (bigSep_mono fun h _ => owns_any c (slot (sdB s) h) _).trans (slots_join c (sdB s))
  iframe Hd Hb HDz
  isplitl [Hr1 Hr2]
  · isplitl [Hr1]
    · iapply (hr true); iexact Hr1
    · iapply (hr false); iexact Hr2
  isplitl [HSr HSq]
  · isplitl [HSr]
    · iapply (hs true); iexact HSr
    · iapply (hs false); iexact HSq
  isplitl [Ha1 Ha2]
  · isplitl [Ha1]
    · iexact Ha1
    · iexact Ha2
  isplitl [Hd1 Hd2]
  · isplitl [Hd1]
    · iexact Hd1
    · iexact Hd2
  · isplitl [Hp1]
    · iapply (owns_anyM c (pbB true) _); iexact Hp1
    · iapply (owns_anyM c (pbB false) _); iexact Hp2

end Cert.KernelIdeal.Ring

end
-- ==== Proof.Ring.Ghost.lean ====
/-
The protocol's ghost state: what the launch mints for the all-reduce and how it is dealt to the devices.
-/
module

public import proofs.«01_k».proof.Proof.Ring.Slots

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → FVec F S1x2048x1024 .f32)

omit [FloatOps F] [Named F] in
theorem cell_device {a b : Dev nD} {s s' : SemLoc sig} (h : (((a : Thread nD τ), s) : GSem nD τ sig) = ((b : Thread nD τ), s')) : a = b ∧ s = s' :=
  ⟨congrArg (fun g : GSem nD τ sig => g.1.1) h, congrArg Prod.snd h⟩

/-! ## The cells and their tokens -/

theorem kcell_injective : Function.Injective (kcell : Dev nD × Option (Bool × Key) → GSem nD τ sig) := by
  rintro ⟨c, j⟩ ⟨c', j'⟩ h
  cases j with
  | none =>
    cases j' with
    | none => exact congrArg (·, none) (cell_device h).1
    | some vk => exact absurd (cell_device h).2.symm (x_ne_bar _)
  | some vk =>
    cases j' with
    | none => exact absurd (cell_device h).2 (x_ne_bar _)
    | some vk' =>
      obtain ⟨h1, h2⟩ := cell_device h
      obtain ⟨hv, hk⟩ := smK_inj (SemLoc.dma.inj h2)
      exact Prod.ext h1 (congrArg some (Prod.ext hv hk))
def barEmb : Dev nD ↪ GSem nD τ sig := ⟨fun c => kcell (c, none), fun a b h => congrArg Prod.fst (kcell_injective (a₁ := (a, none)) (a₂ := (b, none)) h)⟩
def scEmb : Dev nD × (Bool × Key) ↪ GSem nD τ sig :=
  ⟨fun x => kcell (x.1, some x.2), fun a b h => by
    have e := kcell_injective (a₁ := (a.1, some a.2)) (a₂ := (b.1, some b.2)) h
    exact Prod.ext (Prod.mk.inj e).1 (Option.some.inj (Prod.mk.inj e).2)⟩
/-- The barrier's cells, whose counters the launch has. -/
abbrev barCells : Finset (GSem nD τ sig) := Finset.univ.map barEmb
/-- The transfers' cells, whose counters come when the call begins. -/
abbrev scCells : Finset (GSem nD τ sig) := Finset.univ.map scEmb
theorem disjoint_cells : Disjoint barCells scCells := by
  rw [Finset.disjoint_left]
  rintro g h₁ h₂
  obtain ⟨c, -, rfl⟩ := Finset.mem_map.mp h₁
  obtain ⟨x, -, h⟩ := Finset.mem_map.mp h₂
  cases congrArg Prod.snd (kcell_injective (a₁ := (x.1, some x.2)) (a₂ := (c, none)) h)
theorem cells_union : (barCells ∪ scCells : Finset (GSem nD τ sig)) = Finset.univ.map ⟨kcell, kcell_injective⟩ := by
  ext g
  rw [Finset.mem_union, Finset.mem_map, Finset.mem_map, Finset.mem_map]
  constructor
  · rintro (⟨c, -, rfl⟩ | ⟨x, -, rfl⟩)
    · exact ⟨(c, none), Finset.mem_univ _, rfl⟩
    · exact ⟨(x.1, some x.2), Finset.mem_univ _, rfl⟩
  · rintro ⟨⟨c, _ | vk⟩, -, rfl⟩
    · exact .inl ⟨c, Finset.mem_univ _, rfl⟩
    · exact .inr ⟨(c, vk), Finset.mem_univ _, rfl⟩

/-- A duty: one of a barrier cell's two, or the one of a transfer's end. -/
abbrev tokOf (x : Dev nD × (Bool ⊕ (Bool × Key))) : GSem nD τ sig × ℕ × Bool :=
  match x.2 with
  | .inl d => (barCell x.1, 0, d)
  | .inr vk => (xCell vk.1 vk.2 x.1, 0, false)
theorem tokOf_injective : Function.Injective (tokOf : Dev nD × (Bool ⊕ (Bool × Key)) → GSem nD τ sig × ℕ × Bool) := by
  have e : ∀ x : Dev nD × (Bool ⊕ (Bool × Key)), (tokOf x).1 = kcell (x.1, x.2.elim (fun _ => none) some) := by
    rintro ⟨c, d | vk⟩ <;> rfl
  rintro ⟨c, j⟩ ⟨c', j'⟩ h
  have h1 := kcell_injective ((e (c, j)).symm.trans ((congrArg Prod.fst h).trans (e (c', j'))))
  have hd : (tokOf (c, j)).2.2 = (tokOf (c', j')).2.2 := by rw [h]
  have hc : c = c' := congrArg Prod.fst h1
  have hj : Sum.elim (fun _ => none) some j = Sum.elim (fun _ => none) some j' := congrArg Prod.snd h1
  subst hc
  cases j with
  | inl d =>
    cases j' with
    | inl d' => exact congrArg (fun d : Bool => (c, Sum.inl d)) hd
    | inr vk => cases hj
  | inr vk =>
    cases j' with
    | inl d => cases hj
    | inr vk' => exact congrArg (fun vk : Bool × Key => (c, Sum.inr vk)) (Option.some.inj hj)
def ringToks : Finset (GSem nD τ sig × ℕ × Bool) := Finset.univ.map ⟨tokOf, tokOf_injective⟩

section Opt
variable {M : Type} [URA M]
theorem bigSep_opt {I : Type} [Fintype I] [DecidableEq I] (Φ : Option I → sProp M) :
    bigSep Finset.univ Φ = iprop(Φ none ∗ bigSep Finset.univ fun i => Φ (some i)) := by
  rw [show (Finset.univ : Finset (Option I)) = insert none (Finset.univ.map Function.Embedding.some) from by ext x; cases x <;> simp,
    bigSep_insert (by simp), bigSep_map]
  rfl
theorem bigSep_ends (Φ : Bool × Key → sProp M) :
    bigSep Finset.univ Φ = iprop((bigSep Finset.univ fun k : Key => Φ (true, k)) ∗ bigSep Finset.univ fun k : Key => Φ (false, k)) := by
  rw [bigSep_univ_prod, bigSep_bool]
theorem bigSep_turn {I J : Type} [Fintype I] [Fintype J] (Φ : I → J → sProp M) :
    (bigSep Finset.univ fun i => bigSep Finset.univ fun j => Φ i j) = bigSep Finset.univ fun j => bigSep Finset.univ fun i => Φ i j := by
  rw [← bigSep_univ_prod (fun x : I × J => Φ x.1 x.2), bigSep_univ_equiv (Equiv.prodComm J I), bigSep_univ_prod]
  rfl
end Opt

/-! ## What the launch deals -/

/-- The tokens of a device's own cells. -/
def minted (c : Dev nD) : sProp 𝕄 :=
  iprop((dutyTok ER (barCell c) 0 true ∗ dutyTok ER (barCell c) 0 false)
    ∗ (bigSep Finset.univ fun k : Key => dutyTok ER (xCell true k c) 0 false) ∗ bigSep Finset.univ fun k : Key => dutyTok ER (xCell false k c) 0 false)

omit [FloatOps F] [Named F] in
theorem toks_minted : bigSep ringToks (fun x => (dutyTok ER x.1 x.2.1 x.2.2 : sProp 𝕄)) = bigSep Finset.univ fun c : Dev nD => minted c := by
  unfold ringToks
  rw [bigSep_map, bigSep_univ_prod]
  refine bigSep_congr fun c _ => ?_
  unfold minted
  rw [bigSep_univ_sum, bigSep_bool, bigSep_ends]
  rfl

/-! ## The semaphores become cells -/

/-- The kernel's own semaphores. -/
abbrev osem (vk : Bool × Key) : SemLoc sig := .dma (smK vk.1 vk.2)

omit [FloatOps F] [Named F] in
theorem ownSems0_eq (c : Dev nD) : (Pipeline.ownSems0 (Ix := Unit) (Name := ℕ) (U := UU) (Lvl := ℕ) (Val := Elt F) (τ := τ) osem c : sProp 𝕄)
    = iprop((bigSep Finset.univ fun k : Key => done true k c) ∗ bigSep Finset.univ fun k : Key => done false k c) := by
  unfold Pipeline.ownSems0; rw [bigSep_ends]
omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## Dealt around the ring -/

/-- The positions of a device's own cells. -/
abbrev places (c : Dev nD) : sProp 𝕄 :=
  iprop(atPos ER (barCell c) 0 ∅ 0 ∗ (bigSep Finset.univ fun k : Key => atPos ER (xCell true k c) 0 ∅ 0) ∗ bigSep Finset.univ fun k : Key => atS k c)
/-- The tokens of the duties a device pays. -/
abbrev pays (c : Dev nD) : sProp 𝕄 :=
  iprop((dutyTok ER (barCell (nb false c)) 0 true ∗ dutyTok ER (barCell (nb true c)) 0 false) ∗ bigSep Finset.univ fun k : Key => toks k c)

omit [FloatOps F] [Named F] in
theorem toks_around : (bigSep Finset.univ fun c : Dev nD => (minted c : sProp 𝕄)) ⊢ bigSep Finset.univ fun c : Dev nD => pays c := by
  have hr : (bigSep Finset.univ fun c : Dev nD => bigSep Finset.univ fun k : Key => (dutyTok ER (xCell true k c) 0 false : sProp 𝕄))
      = bigSep Finset.univ fun c : Dev nD => bigSep Finset.univ fun k : Key => dutyTok ER (xCell true k (dst k c)) 0 false := by
    rw [bigSep_turn, bigSep_turn fun (c : Dev nD) (k : Key) => (dutyTok ER (xCell true k (dst k c)) 0 false : sProp 𝕄)]
    exact bigSep_congr fun k _ => bigSep_univ_equiv (ring (via k)) fun c : Dev nD => (dutyTok ER (xCell true k c) 0 false : sProp 𝕄)
  have ht : (bigSep Finset.univ fun c : Dev nD => bigSep Finset.univ fun k : Key => (toks k c : sProp 𝕄))
      = iprop((bigSep Finset.univ fun c : Dev nD => bigSep Finset.univ fun k : Key => dutyTok ER (xCell false k c) 0 false)
        ∗ bigSep Finset.univ fun c : Dev nD => bigSep Finset.univ fun k : Key => dutyTok ER (xCell true k (dst k c)) 0 false) :=
    (bigSep_congr fun c _ => bigSep_sep' Finset.univ (fun k : Key => dutyTok ER (xCell false k c) 0 false) (fun k => dutyTok ER (xCell true k (dst k c)) 0 false)).trans (bigSep_sep' _ _ _)
  have e1 : (bigSep Finset.univ fun c : Dev nD => (minted c : sProp 𝕄))
      = iprop(((bigSep Finset.univ fun c : Dev nD => dutyTok ER (barCell (nb false c)) 0 true) ∗ (bigSep Finset.univ fun c : Dev nD => dutyTok ER (barCell (nb true c)) 0 false))
        ∗ (bigSep Finset.univ fun c : Dev nD => bigSep Finset.univ fun k : Key => dutyTok ER (xCell true k c) 0 false)
        ∗ bigSep Finset.univ fun c : Dev nD => bigSep Finset.univ fun k : Key => dutyTok ER (xCell false k c) 0 false) := by
    unfold minted
    rw [bigSep_sep', bigSep_sep', bigSep_sep', bigSep_univ_equiv (ring false) (fun c : Dev nD => (dutyTok ER (barCell c) 0 true : sProp 𝕄)),
      bigSep_univ_equiv (ring true) (fun c : Dev nD => (dutyTok ER (barCell c) 0 false : sProp 𝕄))]
    rfl
  have e2 : (bigSep Finset.univ fun c : Dev nD => (pays c : sProp 𝕄))
      = iprop(((bigSep Finset.univ fun c : Dev nD => dutyTok ER (barCell (nb false c)) 0 true) ∗ (bigSep Finset.univ fun c : Dev nD => dutyTok ER (barCell (nb true c)) 0 false))
        ∗ bigSep Finset.univ fun c : Dev nD => bigSep Finset.univ fun k : Key => toks k c) :=
    (bigSep_sep' _ _ _).trans (congrArg (fun X => BIBase.sep X _) (bigSep_sep' _ _ _))
  rw [e1, e2, hr, ht]
  iintro ⟨⟨H1, H2⟩, H3, H4⟩
  isplitl [H1 H2]
  · isplitl [H1]
    · iexact H1
    · iexact H2
  isplitl [H4]
  · iexact H4
  · iexact H3

omit [FloatOps F] [Named F] in
/-- What holds for good may be used at every member of a family. -/
theorem bigSep_given {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a device holds until its all-reduce begins: the records, its position at the barrier, the rights to its transfers' cells, and the
tokens of the duties it pays. -/
def dormant (c : Dev nD) : sProp 𝕄 :=
  iprop((∃ K, cellRecs P K) ∗ (atPos ER (barCell c) 0 ∅ 0 ∗ bigSep Finset.univ fun vk : Bool × Key => openTok ER (xCell vk.1 vk.2 c)) ∗ pays c)
/-- What a device starts its all-reduce from. -/
def ghost (c : Dev nD) : sProp 𝕄 := iprop((∃ K, cellRecs P K) ∗ opened c ∗ places c ∗ pays c)

/-- The cells of the transfers open when their counters are there. -/
theorem opening (c : Dev nD) : iprop(dormant P c ∗ Pipeline.ownSems0 (Ix := Unit) (Name := ℕ) (U := UU) (Lvl := ℕ) (Val := Elt F) (τ := τ) osem c)
    ⊢ |={Set.univ}=> ghost P c := by
  have e : iprop((bigSep Finset.univ fun vk : Bool × Key => openTok ER (xCell vk.1 vk.2 c)) ∗ bigSep Finset.univ fun vk : Bool × Key => semVal (xCell vk.1 vk.2 c) 0)
      = (bigSep Finset.univ fun vk : Bool × Key => iprop(openTok ER (xCell vk.1 vk.2 c) ∗ semVal (xCell vk.1 vk.2 c) 0) : sProp 𝕄) := (bigSep_sep' _ _ _).symm
  have e' : (bigSep Finset.univ fun vk : Bool × Key => iprop(atPos ER (xCell vk.1 vk.2 c) 0 ∅ 0 ∗ reached ER (xCell vk.1 vk.2 c) 0) : sProp 𝕄)
      = iprop((bigSep Finset.univ fun vk : Bool × Key => atPos ER (xCell vk.1 vk.2 c) 0 ∅ 0) ∗ opened c) := bigSep_sep' _ _ _
  have h : ∀ K (vk : Bool × Key), iprop(cellRecs P K ∗ (openTok ER (xCell vk.1 vk.2 c) ∗ semVal (xCell vk.1 vk.2 c) 0))
      ⊢ (|={Set.univ}=> iprop(atPos ER (xCell vk.1 vk.2 c) 0 ∅ 0 ∗ reached ER (xCell vk.1 vk.2 c) 0) : sProp 𝕄) := fun K vk =>
    (sep_mono_left (cellRecs_at P K (c, some vk))).trans (Rounds.cell_open ER (Rd P) (g := xCell vk.1 vk.2 c) (Set.mem_univ _))
  have h' : ∀ K, iprop(cellRecs P K ∗ bigSep Finset.univ fun vk : Bool × Key => iprop(openTok ER (xCell vk.1 vk.2 c) ∗ semVal (xCell vk.1 vk.2 c) 0))
      ⊢ (|={Set.univ}=> iprop((bigSep Finset.univ fun vk : Bool × Key => atPos ER (xCell vk.1 vk.2 c) 0 ∅ 0) ∗ opened c) : sProp 𝕄) := fun K => by
    rw [← e']
    exact (bigSep_given fun vk _ => h K vk).trans (bigSep_fupd _ _)
  unfold dormant ghost Pipeline.ownSems0
  iintro ⟨⟨⟨%K, #HR⟩, ⟨Hb, Ho⟩, Hp⟩, Hs⟩
  imod (h' K) $$ [Ho Hs] with ⟨Ha, Hr⟩
  · isplitr
    · iexact HR
    iapply (Entails.of_eq e)
    isplitl [Ho]
    · iexact Ho
    · iexact Hs
  imodintro
  isplitr
  · iexists K; iexact HR
  isplitl [Hr]
  · iexact Hr
  isplitl [Hb Ha]
  · isplitl [Hb]
    · iexact Hb
    · iapply (Entails.of_eq (bigSep_ends fun vk : Bool × Key => (atPos ER (xCell vk.1 vk.2 c) 0 ∅ 0 : sProp 𝕄))); iexact Ha
  · iexact Hp

/-- The launch: the barrier's cells made, the transfers' left to open, and everything dealt. -/
theorem fund : iprop((bigSep Finset.univ fun c : Dev nD => semVal (barCell c) 0) ∗ BI.own (ER (launchOf barCells scCells ringToks)))
    ⊢ (|={Set.univ}=> bigSep Finset.univ (dormant P) : sProp 𝕄) := by
  have hv : (bigSep Finset.univ fun c : Dev nD => (semVal (barCell c) 0 : sProp 𝕄)) ⊢ bigSep barCells fun g => semVal g 0 :=
    Entails.of_eq (bigSep_map (s := Finset.univ) barEmb (Φ := fun g : GSem nD τ sig => (semVal g 0 : sProp 𝕄))).symm
  have hr : (bigSep barCells fun g => (reached ER g 0 : sProp 𝕄)) ⊢ bigSep Finset.univ fun c : Dev nD => reached ER (barCell c) 0 :=
    Entails.of_eq (bigSep_map (s := Finset.univ) barEmb (Φ := fun g : GSem nD τ sig => (reached ER g 0 : sProp 𝕄)))
  have hat : (bigSep barCells fun g => (atPos ER g 0 ∅ 0 : sProp 𝕄)) ⊢ bigSep Finset.univ fun c : Dev nD => atPos ER (barCell c) 0 ∅ 0 :=
    Entails.of_eq (bigSep_map (s := Finset.univ) barEmb (Φ := fun g : GSem nD τ sig => (atPos ER g 0 ∅ 0 : sProp 𝕄)))
  have hop : (bigSep scCells fun g => (openTok ER g : sProp 𝕄))
      ⊢ bigSep Finset.univ fun c : Dev nD => bigSep Finset.univ fun vk : Bool × Key => openTok ER (xCell vk.1 vk.2 c) :=
    Entails.of_eq (by rw [bigSep_map, bigSep_univ_prod]; rfl)
  have hin : ∀ κ : GSem nD τ sig → ℕ, (bigSep (barCells ∪ scCells) fun g => (cellInv ER (Rd P) (κ g) g : sProp 𝕄))
      ⊢ bigSep Finset.univ fun x => cellInv ER (Rd P) (κ (kcell x)) (kcell x) := fun κ =>
    Entails.of_eq (by rw [cells_union, bigSep_map]; rfl)
  have g : ∀ K (c : Dev nD), iprop(cellRecs P K ∗ ((atPos ER (barCell c) 0 ∅ 0 ∗ bigSep Finset.univ fun vk : Bool × Key => openTok ER (xCell vk.1 vk.2 c)) ∗ pays c))
      ⊢ dormant P c := fun K c => by
    unfold dormant
    iintro ⟨HR, HA, HB⟩
    isplitl [HR]
    · iexists K; iexact HR
    isplitl [HA]
    · iexact HA
    · iexact HB
  iintro ⟨Hv, Hu⟩
  ihave Hv := hv $$ Hv
  imod (Rounds.fund_launch ER (Rd P) disjoint_cells (fun g _ h => h) ringToks) $$ [Hv Hu] with ⟨%κ, -, Hinv, Hr, Hat, Hop, Htok⟩
  · isplitl [Hv]
    · iexact Hv
    · iexact Hu
  imodintro
  ihave Hinv := (hin κ) $$ Hinv
  ihave Hr := hr $$ Hr
  ihave Hat := hat $$ Hat
  ihave Hop := hop $$ Hop
  ihave Htok := (Entails.of_eq (toks_minted (F := F))) $$ Htok
  ihave Htk := (toks_around (F := F)) $$ Htok
  iapply (bigSep_given (R := cellRecs P fun x => κ (kcell x))
    (Φ := fun c : Dev nD => iprop((atPos ER (barCell c) 0 ∅ 0 ∗ bigSep Finset.univ fun vk : Bool × Key => openTok ER (xCell vk.1 vk.2 c)) ∗ pays c)) fun c _ => g _ c)
  isplitl [Hinv Hr]
  · unfold cellRecs
    isplitl [Hinv]
    · iexact Hinv
    · iexact Hr
  · iapply (Entails.of_eq (bigSep_sep' Finset.univ (fun c : Dev nD => (iprop(atPos ER (barCell c) 0 ∅ 0
        ∗ bigSep Finset.univ fun vk : Bool × Key => openTok ER (xCell vk.1 vk.2 c)) : sProp 𝕄)) (fun c => pays c)).symm)
    isplitl [Hat Hop]
    · iapply (Entails.of_eq (bigSep_sep' Finset.univ (fun c : Dev nD => (atPos ER (barCell c) 0 ∅ 0 : sProp 𝕄))
        (fun c => bigSep Finset.univ fun vk : Bool × Key => openTok ER (xCell vk.1 vk.2 c))).symm)
      isplitl [Hat]
      · iexact Hat
      · iexact Hop
    · iexact Htk

/-! ## The launch credit -/

theorem sum_at {I : Type} [DecidableEq I] (f : I → CellTallies nD τ sig Unit) (g : GSem nD τ sig) (u : Unit) (S : Finset I) :
    (∑ k ∈ S, f k) g u = ∑ k ∈ S, f k g u :=
  Finset.induction_on S rfl fun k T hk ih => by rw [Finset.sum_insert hk, Finset.sum_insert hk, Pi.add_apply, Finsupp.add_apply, ih]
theorem owe_at (d : Dev nD) (S : Finset Key) (g : GSem nD τ sig) (u : Unit) :
    owe d S g u = ∑ k ∈ S, tallyAt (xCell true k (dst k d)) () N g u := sum_at _ g u S

theorem bar_iff (s : Bool) (d c : Dev nD) : (barCell c = barCell (nb s d) ∧ () = ()) ↔ d = nb (!s) c :=
  ⟨fun h => by rw [(cell_device h.1).1]; exact (nb_nb s d).symm, fun h => ⟨by rw [h, nb_nb'], rfl⟩⟩

theorem owed_bar (d c : Dev nD) : O₀ d (barCell c) () = (if d = nb false c then 1 else 0) + (if d = nb true c then 1 else 0) := by
  have h0 : owe d Finset.univ (barCell c) () = 0 := by
    rw [owe_at]; exact Finset.sum_eq_zero fun k _ => tally_zero fun h => x_ne_bar _ (cell_device h).2.symm
  rw [O₀_apply, h0, Nat.zero_add, tallyAt_apply, tallyAt_apply]
  exact congrArg₂ (fun a b : ℕ => a + b) (if_congr (bar_iff true d c) rfl rfl) (if_congr (bar_iff false d c) rfl rfl)

omit [FloatOps F] [Named F] in
theorem owed_recv (d c : Dev nD) (k : Key) : O₀ d (xCell true k c) () = if d = src k c then N else 0 := by
  rw [O₀_apply, tally_zero (fun h => x_ne_bar _ (cell_device h).2), tally_zero (fun h => x_ne_bar _ (cell_device h).2), Nat.add_zero, owe_at,
    Finset.sum_eq_single k (fun k' _ hk => tally_zero fun h => hk (smK_inj (SemLoc.dma.inj (cell_device h).2)).2.symm) (fun h => absurd (Finset.mem_univ k) h),
    tallyAt_apply]
  by_cases h : d = src k c
  · subst h; rw [if_pos rfl, dst_src, if_pos ⟨rfl, rfl⟩]
  · rw [if_neg h, if_neg fun h' => h (by rw [(cell_device h'.1).1]; exact (src_dst k d).symm)]

omit [FloatOps F] [Named F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb false c) fun _ => 1, Finset.sum_ite_eq' Finset.univ (nb true c) fun _ => 1, if_pos (Finset.mem_univ _), if_pos (Finset.mem_univ _)]
omit [FloatOps F] [Named F] in
theorem launch_recv (c : Dev nD) (k : Key) :
    tallyOn (xCell true k c) (launchCredit (Pipeline.owing O₀) 0 (xCell true k c)) = (tallyAt (xCell true k c) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (src k c) fun _ => N,
    if_pos (Finset.mem_univ _)]

omit [FloatOps F] [Named F] in
theorem creds (c : Dev nD) :
    (Pipeline.launchCred O₀ c : sProp 𝕄) ⊢ iprop(cred (tallyAt (barCell c) () 2) ∗ bigSep Finset.univ fun k : Key => cred (tallyAt (xCell true k c) () N)) := by
  unfold Pipeline.launchCred
  rw [bigSep_univ_at _ (SemLoc.reg barS), launch_bar]
  refine sep_mono_right ?_
  let f : Key ↪ SemLoc sig := ⟨fun k => .dma (smK true k), fun k k' h => (smK_inj (SemLoc.dma.inj h)).2⟩
  refine (bigSep_subset (t := Finset.univ.map f) ?_).trans ?_
  · intro sm hsm
    obtain ⟨k, -, rfl⟩ := Finset.mem_map.mp hsm
    exact Finset.mem_erase.mpr ⟨x_ne_bar _, Finset.mem_univ _⟩
  · rw [bigSep_map]
    exact bigSep_mono fun k _ => Entails.of_eq (congrArg cred (launch_recv c k))

end Cert.KernelIdeal.Ring

end
-- ==== Proof.Ring.Start.lean ====
/-
The result of the all-reduce as one array, and a device's run from what the launch deals to that array.
-/
module

public import proofs.«01_k».proof.Proof.Ring.Ghost
public import proofs.«01_k».proof.Proof.Gen.KernelIdeal.Points
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → FVec F S1x2048x1024 .f32)

/-! ## The result, entry by entry -/

/-- The block an entry of the result is in, and its place there. -/
def blkOf (i : S1x2048x1024.Idx) : Bool × Fin 16 := (decide ((i 2).val < 512), ⟨(i 1).val / 128, by have h : (i 1).val < 2048 := (i 1).isLt; omega⟩)
def inBlk (i : S1x2048x1024.Idx) : S1x128x512.Idx :=
  fun a => match a with
    | ⟨0, _⟩ => ⟨0, Nat.one_pos⟩
    | ⟨1, _⟩ => ⟨(i 1).val % 128, Nat.mod_lt _ (by decide)⟩
    | ⟨2, _⟩ => ⟨(i 2).val % 512, Nat.mod_lt _ (by decide)⟩

/-- The result of device `c`. -/
def outV (c : Dev nD) : FVec F S1x2048x1024 .f32 := fun i => outBlk P c (blkOf i).1 (blkOf i).2 (inBlk i)

theorem blk_emb (i : S1x2048x1024.Idx) : (blkR (blkOf i)).emb (inBlk i) = i := by
  have h1 : (i 1).val < 2048 := (i 1).isLt
  have h2 : (i 2).val < 1024 := (i 2).isLt
  have h0 : (i 0).val < 1 := (i 0).isLt
  funext a
  apply Fin.ext
  rw [blkR_val]
  match a with
  | ⟨0, _⟩ => show 0 + 0 = (i 0).val; omega
  | ⟨1, _⟩ => show 128 * ((i 1).val / 128) + (i 1).val % 128 = (i 1).val; omega
  | ⟨2, _⟩ =>
    show (if decide ((i 2).val < 512) = true then 0 else 512) + (i 2).val % 512 = (i 2).val
    by_cases h : (i 2).val < 512
    · rw [if_pos (decide_eq_true h)]; omega
    · rw [if_neg (fun h' => h (of_decide_eq_true h'))]; omega

theorem outI_all (c : Dev nD) : outI P c Finset.univ ⊢ owns (c : Thread nD τ) oM fullShare (outV P c) := by
  unfold outI
  iintro ⟨%X, %hX, H⟩
  have e : X = outV P c := funext fun i => by
    have h := hX (blkOf i) (Finset.mem_univ _) (inBlk i)
    rw [blk_emb] at h
    exact h
  rw [e]
  iexact H
theorem outI_none (c : Dev nD) (X : FVec F S1x2048x1024 .f32) : owns (c : Thread nD τ) oM fullShare X ⊢ outI P c ∅ := by
  unfold outI
  iintro H
  iexists X
  isplitr
  · ipureintro; exact fun b hb => absurd hb (Finset.notMem_empty b)
  · iexact H

/-! ## A device's run from what it is dealt -/

/-- What a device is dealt, and its buffers. -/
def start (c : Dev nD) : sProp 𝕄 :=
  iprop(ghost P c ∗ (cred (tallyAt (barCell c) () 2) ∗ bigSep Finset.univ fun k : Key => cred (tallyAt (xCell true k c) () N)) ∗ levAts L lv)

omit [FloatOps F] [Named F] in
theorem entry_intro (c : Dev nD) : iprop(owing c (O₀ c) ∗ places c ∗ pays c ∗ cred (tallyAt (barCell c) () 2) ∗ bigSep Finset.univ fun k : Key => cred (tallyAt (xCell true k c) () N))
    ⊢ (entry c : sProp 𝕄) := by
  unfold entry
  iintro ⟨Ho, ⟨Hb, Hr, Hs⟩, ⟨Ht, Htk⟩, Hcb, Hcr⟩
  isplitl [Ho]; · iexact Ho
  isplitl [Ht]; · iexact Ht
  isplitl [Hb Hcb]
  · isplitl [Hb]
    · iexact Hb
    · iexact Hcb
  isplitl [Htk]; · iexact Htk
  isplitl [Hr Hcr]
  · iapply (Entails.of_eq (bigSep_sep' Finset.univ (fun k : Key => (atPos ER (xCell true k c) 0 ∅ 0 : sProp 𝕄)) (fun k => cred (tallyAt (xCell true k c) () N))).symm)
    isplitl [Hr]
    · iexact Hr
    · iexact Hcr
  · iexact Hs

omit [FloatOps F] [Named F] in
theorem opened_ends (c : Dev nD) : opened c ⊢ (iprop((bigSep Finset.univ fun k : Key => reached ER (xCell true k c) 0)
    ∗ bigSep Finset.univ fun k : Key => reached ER (xCell false k c) 0) : sProp 𝕄) := by
  unfold opened
  exact Entails.of_eq (bigSep_ends fun vk : Bool × Key => reached ER (xCell vk.1 vk.2 c) 0)

theorem Wp_deviceId (c : Dev nD) (k : Dev nD → KProg (F := F) PUnit) (Q : PUnit → sProp 𝕄) : Wp c (Prog.op .deviceId k) Q = Wp c (k c) Q := by
  unfold Wp; rw [wp_deviceId]

theorem run_start [∀ e, Nonempty (Elt F e)] (c : Dev nD) (X : FVec F S1x2048x1024 .f32) (Q : PUnit → sProp 𝕄) :
    iprop((start P c ∗ buffers c) ∗ owing c (O₀ c) ∗ owns (c : Thread nD τ) pM fullShare (P c) ∗ owns (c : Thread nD τ) oM fullShare X)
      ⊢ iprop(((buffers c ∗ zeros' c) ∗ owing c 0 ∗ owns (c : Thread nD τ) pM fullShare (P c) ∗ owns (c : Thread nD τ) oM fullShare (outV P c) -∗ Q ⟨⟩)
        -∗ Wp c (at₂₀ (cc1_ar_body (F := F))) Q) := by
  rw [body_eq_run]
  unfold start ghost
  iintro ⟨⟨⟨⟨⟨%K, HR⟩, #HO, HA, HB⟩, ⟨Hcb, Hcr⟩, Hlev⟩, Hbuf⟩, Ho, Hp, Hout⟩ HK
  ihave ⟨Ht, -⟩ := (opened_ends (F := F) c) $$ HO
  rw [Wp_deviceId]
  iapply (spec_run P K c Q)
  isplitl [HR Hlev]
  · unfold recs
    isplitl [HR]
    · iexact HR
    isplitr
    · iexact HO
    · iexact Hlev
  isplitl [HA HB Hcb Hcr Hbuf Ho Hp Hout Ht]
  · isplitl [HA HB Hcb Hcr Ho]
    · iapply (entry_intro (F := F) c)
      iframe Ho HA HB Hcb Hcr
    isplitl [Hbuf Ht]
    · iapply (memory_intro (F := F) c)
      isplitl [Ht]
      · iexact Ht
      · iexact Hbuf
    isplitl [Hp]
    · iexact Hp
    · iapply (outI_none P c X); iexact Hout
  · iintro ⟨Hf, Hp, Hout, Ho⟩
    iapply HK
    isplitl [Hf]
    · iapply (final_back P c); iexact Hf
    isplitl [Ho]
    · unfold ow owing
      rw [owe_empty]
      iexact Ho
    isplitl [Hp]
    · iexact Hp
    · iapply (outI_all P c); iexact Hout

end Cert.KernelIdeal.Ring

end
-- ==== Proof.Core.Model.lean ====
/-
The attention body, written over its heads and chunks.

The printed body is one straight run: the query projection, then for each of the device's eight heads the fetch of
its keys and values and, for four chunks of 512 query rows, masked scores against the keys up to the chunk's end,
their normalised exponentials, the weighted values and the output projection added into the result. Here the same
run is written over those heads and chunks, and the equation of the two is checked by unfolding.
-/
module

public import proofs.«01_k».proof.Proof.Ring.Model

@[expose] public section

noncomputable section

namespace Cert.KernelIdeal.Core

open Cert.KernelIdeal Cert.KernelIdeal.Gen
open Idealize.ShloMosaic Idealize.ShloMosaic.TcCoe Idealize.SL.Sem
open Cert.KernelIdeal.Ring (KProg)

variable {F : FTy → Type} [FloatOps F] [Named F]

/-! ## Shapes of a chunk -/

/-- The keys chunk `n` of the queries may look at. -/
abbrev km (n : Fin 4) : ℕ := 512 * (n.val + 1)
abbrev kSh (n : Fin 4) : Shape := ⟨2, ![km n, 128]⟩
abbrev sSh (n : Fin 4) : Shape := ⟨2, ![512, km n]⟩

theorem wfQK : ∀ n : Fin 4, DotDims.WF S512x128 (kSh n) (sSh n) [1] [1] [0] [0] [] []
  | 0 => dot_S512x128_S512x128_S512x512_1_1_0_0_n_n_wf | 1 => dot_S512x128_S1024x128_S512x1024_1_1_0_0_n_n_wf
  | 2 => dot_S512x128_S1536x128_S512x1536_1_1_0_0_n_n_wf | 3 => dot_S512x128_S2048x128_S512x2048_1_1_0_0_n_n_wf
theorem wfWV : ∀ n : Fin 4, DotDims.WF (sSh n) (kSh n) S512x128 [1] [0] [0] [1] [] []
  | 0 => dot_S512x512_S512x128_S512x128_1_0_0_1_n_n_wf | 1 => dot_S512x1024_S1024x128_S512x128_1_0_0_1_n_n_wf
  | 2 => dot_S512x1536_S1536x128_S512x128_1_0_0_1_n_n_wf | 3 => dot_S512x2048_S2048x128_S512x128_1_0_0_1_n_n_wf
/-- Queries against keys. -/
def dotQK (n : Fin 4) : DotDims S512x128 (kSh n) (sSh n) where
  lhsContracting := [1]
  rhsContracting := [1]
  lhsNonContracting := [0]
  rhsNonContracting := [0]
  lhsBatch := []
  rhsBatch := []
  wf := wfQK n
/-- Weights against values. -/
def dotWV (n : Fin 4) : DotDims (sSh n) (kSh n) S512x128 where
  lhsContracting := [1]
  rhsContracting := [0]
  lhsNonContracting := [0]
  rhsNonContracting := [1]
  lhsBatch := []
  rhsBatch := []
  wf := wfWV n

/-- The keys, or values, of the rows chunk `n` may look at. -/
def first : (n : Fin 4) → FVec F S2048x128 .f32 → FVec F (kSh n) .f32
  | 0, k => extractStridedSlice S512x128 ![0, 0] k slices_S2048x128_o0_0_S512x128
  | 1, k => extractStridedSlice S1024x128 ![0, 0] k slices_S2048x128_o0_0_S1024x128
  | 2, k => extractStridedSlice S1536x128 ![0, 0] k slices_S2048x128_o0_0_S1536x128
  | 3, k => k
theorem iota0 : ∀ n : Fin 4, (sSh n).Iotas .tc 32 [0]
  | 0 => iota_S512x512_d0_w32 | 1 => iota_S512x1024_d0_w32 | 2 => iota_S512x1536_d0_w32 | 3 => iota_S512x2048_d0_w32
theorem iota1 : ∀ n : Fin 4, (sSh n).Iotas .tc 32 [1]
  | 0 => iota_S512x512_d1_w32 | 1 => iota_S512x1024_d1_w32 | 2 => iota_S512x1536_d1_w32 | 3 => iota_S512x2048_d1_w32
theorem redRow : ∀ n : Fin 4, (sSh n).Reduces [1] S512
  | 0 => reduces_S512x512_S512 | 1 => reduces_S512x1024_S512 | 2 => reduces_S512x1536_S512 | 3 => reduces_S512x2048_S512
theorem bcRow : ∀ n : Fin 4, S512x1.Broadcasts (sSh n)
  | 0 => broadcasts_S512x1_S512x512 | 1 => broadcasts_S512x1_S512x1024 | 2 => broadcasts_S512x1_S512x1536 | 3 => broadcasts_S512x1_S512x2048

/-! ## The values of a chunk -/

/-- The quotient by 64 rounded down, as the words compute it. -/
def div64 {s : Shape} (v : IVec s 32) : IVec s 32 :=
  select
    (andi
      (cmpi .ne
        (subi (extui 32 (cmpi .sgt v (broadcast s 0#32)) natLt_1_32) (extui 32 (cmpi .slt v (broadcast s 0#32)) natLt_1_32))
        (broadcast s (Scalar.subi (Scalar.extui (Scalar.cmpi .sgt 64#32 0#32)) (Scalar.extui (Scalar.cmpi .slt 64#32 0#32)))))
      (cmpi .ne (remsi v (broadcast s 64#32)) (broadcast s 0#32)))
    (subi (divsi v (broadcast s 64#32)) (broadcast s 1#32))
    (divsi v (broadcast s 64#32))

/-- Which keys a query of chunk `n` sees: those whose block of 64 is not after its own. -/
def sees (n : Fin 4) : IVec (sSh n) 1 :=
  cmpi .sle (div64 (iota .tc (sSh n) 32 [1] (iota1 n)))
    (div64 (addi (iota .tc (sSh n) 32 [0] (iota0 n)) (broadcast (sSh n) (BitVec.ofNat 32 (512 * n.val)))))

/-- The masked scores. -/
def scores (n : Fin 4) (q : FVec F S512x128 .f32) (k : FVec F S2048x128 .f32) : FVec F (sSh n) .f32 :=
  select (sees n)
    (mulf (matmul (dotQK n) none q (first n k) (constant (sSh n) .f32 0x00000000#32))
      (broadcast (sSh n) (Scalar.ofBits .f32 0x3DB504F3#32 : F .f32)))
    (broadcast (sSh n) (Named.named κ "mask" 0xCE6E6B28#32 : F .f32))

/-- The exponentials of the scores less their row's maximum. -/
def exps (n : Fin 4) (s : FVec F (sSh n) .f32) : FVec F (sSh n) .f32 :=
  exp (subf s (broadcastTo (sSh n)
    (shapeCast S512x1 (multiReduction .maximumf [1] S512 s 0xFF800000#32 (redRow n) (.inl rfl) rfl) shapeCasts_S512_S512x1) (bcRow n)))

/-- The exponentials divided by their row's sum. -/
def normed (n : Fin 4) (e : FVec F (sSh n) .f32) : FVec F (sSh n) .f32 :=
  divf e (broadcastTo (sSh n)
    (shapeCast S512x1 (multiReduction .add [1] S512 e 0x00000000#32 (redRow n) (.inl rfl) rfl) shapeCasts_S512_S512x1) (bcRow n))

/-- The weighted values of a chunk. -/
def ctxOf (n : Fin 4) (q : FVec F S512x128 .f32) (k v : FVec F S2048x128 .f32) : FVec F S512x128 .f32 :=
  matmul (dotWV n) none (normed n (exps n (scores n q k))) (first n v)
    (constant S512x128 .f32 0x00000000#32)

/-- What a chunk leaves of the rows of the result it adds to. -/
def addOf (n : Fin 4) (q : FVec F S512x128 .f32) (k v : FVec F S2048x128 .f32) (w : FVec F S128x1024 .f32)
    (o : FVec F S1x512x1024 .f32) : FVec F S1x512x1024 .f32 :=
  shapeCast S1x512x1024
    (addf (shapeCast S512x1024 o shapeCasts_S1x512x1024_S512x1024)
      (matmul dot_S512x128_S128x1024_S512x1024_1_0_0_1_n_n none (ctxOf n q k v) w (constant S512x1024 .f32 0x00000000#32)))
    shapeCasts_S512x1024_S1x512x1024

/-! ## Buffers, windows and semaphores -/

abbrev xM : Memref sig .tc .vmem S1x2048x1024 .f32 := Memref.whole cc0_stg0_0
abbrev wqM : Memref sig .tc .vmem S1024x1024 .f32 := Memref.whole cc0_stg1_0
abbrev woM : Memref sig .tc .vmem S1024x1024 .f32 := Memref.whole cc0_stg2_0
abbrev oM : Memref sig .tc .vmem S1x2048x1024 .f32 := Memref.whole cc0_stg3_0
abbrev qM : Memref sig .tc .vmem S2048x1024 .f32 := Memref.whole cc0_scratch0
/-- The keys (`true`) or the values of all heads. -/
def kvH : Bool → Memref sig .tc .hbm S1x2048x128x128 .f32
  | true => Memref.whole main_arg2
  | false => Memref.whole main_arg3
/-- Their two slots. -/
def kvB : Bool → Memref sig .tc .vmem S2x2048x1x128 .f32
  | true => Memref.whole cc0_scratch1
  | false => Memref.whole cc0_scratch2
def kvS : Bool → DmaSems sig S2
  | true => cc0_scratch3
  | false => cc0_scratch4

theorem inbKV (p : Fin 2) : ∀ a, (![p.val, 0, 0, 0] : Fin 4 → Nat) a + S1x2048x1x128.size a ≤ S2x2048x1x128.size a := by revert p; decide
theorem inbKS (p : Fin 2) : ∀ a, (![p.val] : Fin 1 → Nat) a + S1.size a ≤ S2.size a := by revert p; decide
theorem inbQ : ∀ (n : Fin 4) (h : Fin 8), ∀ a, (![512 * n.val, 128 * h.val] : Fin 2 → Nat) a + S512x128.size a ≤ S2048x1024.size a := by decide
theorem inbW : ∀ (h : Fin 8), ∀ a, (![128 * h.val, 0] : Fin 2 → Nat) a + S128x1024.size a ≤ S1024x1024.size a := by decide
theorem inbO : ∀ (n : Fin 4), ∀ a, (![0, 512 * n.val, 0] : Fin 3 → Nat) a + S1x512x1024.size a ≤ S1x2048x1024.size a := by decide

abbrev kvR (p : Fin 2) : Rect S2x2048x1x128 := Rect.unit (s := S2x2048x1x128) ![p.val, 0, 0, 0] S1x2048x1x128.size (inbKV p)
abbrev qR (n : Fin 4) (h : Fin 8) : Rect S2048x1024 := Rect.unit (s := S2048x1024) ![512 * n.val, 128 * h.val] S512x128.size (inbQ n h)
abbrev wR (h : Fin 8) : Rect S1024x1024 := Rect.unit (s := S1024x1024) ![128 * h.val, 0] S128x1024.size (inbW h)
abbrev oR (n : Fin 4) : Rect S1x2048x1024 := Rect.unit (s := S1x2048x1024) ![0, 512 * n.val, 0] S1x512x1024.size (inbO n)
/-- The whole of a buffer, as the run names it. -/
abbrev xR : Rect S1x2048x1024 := Rect.unit (s := S1x2048x1024) ![0, 0, 0] S1x2048x1024.size inb_S1x2048x1024_S1x2048x1024_0_0_0
abbrev wqR : Rect S1024x1024 := Rect.unit (s := S1024x1024) ![0, 0] S1024x1024.size inb_S1024x1024_S1024x1024_0_0
abbrev qaR : Rect S2048x1024 := Rect.unit (s := S2048x1024) ![0, 0] S2048x1024.size inb_S2048x1024_S2048x1024_0_0
/-- Head `h` of device `c` in the array of all heads. -/
abbrev hR (c : Dev nD) (h : Fin 8) : Rect S1x2048x128x128 :=
  Rect.unit (s := S1x2048x128x128) (k0_off1 c (BitVec.ofNat 32 h.val)) S1x2048x1x128.size (k0_off1_inb c h)

/-- Slot `p` of the keys or the values. -/
def kvSlot (v : Bool) (p : Fin 2) : Memref sig .tc .vmem S2048x1x128 .f32 :=
  ((kvB v).slice (kvR p) (fun _ => rfl)).squeeze S2048x1x128 squeezes_S1x2048x1x128_S2048x1x128
/-- The keys or the values of head `h` of device `c`. -/
def kvHead (v : Bool) (c : Dev nD) (h : Fin 8) : Memref sig .tc .hbm S2048x1x128 .f32 :=
  ((kvH v).slice (hR c h) (fun _ => rfl)).squeeze S2048x1x128 squeezes_S1x2048x1x128_S2048x1x128
def kvSem (v : Bool) (p : Fin 2) : DmaSem sig :=
  (((kvS v).slice (Rect.unit (s := S2) ![p.val] S1.size (inbKS p))).squeeze S_ squeezes_S1_S_).sem
/-- The slot head `h` uses. -/
def par (h : Fin 8) : Fin 2 := ⟨h.val % 2, Nat.mod_lt _ (by decide)⟩

/-! ## The run -/

def fetchP (v : Bool) (c : Dev nD) (h : Fin 8) : KProg (F := F) PUnit :=
  Prog.lift (.enqueueDma (kvHead v c h) (.here (kvSlot v (par h))) (.dma (kvSem v (par h)))
    ((View.wordExact_bits rfl).reshape _ _) ((View.wordExact_bits rfl).reshape _ _) ⟨Or.inl rfl, trivial⟩)
def awaitP (v : Bool) (c : Dev nD) (h : Fin 8) : KProg (F := F) PUnit :=
  Prog.lift (.waitDma2 (kvSem v (par h)) (kvHead v c h) (kvSlot v (par h))
    ((View.wordExact_bits rfl).reshape _ _) ((View.wordExact_bits rfl).reshape _ _))
def ldKV (v : Bool) (h : Fin 8) : KProg (F := F) (Vec F S1x2048x1x128 .f32) :=
  Prog.lift (.load (kvB v) (kvR (par h)).toLoadRect (View.loadsAt_vmem h_S1x2048x1x128))
def ldO (n : Fin 4) : KProg (F := F) (Vec F S1x512x1024 .f32) :=
  Prog.lift (.load oM (oR n).toLoadRect (View.loadsAt_vmem h_S1x512x1024))
def ldQ (n : Fin 4) (h : Fin 8) : KProg (F := F) (Vec F S512x128 .f32) :=
  Prog.lift (.load qM (qR n h).toLoadRect (View.loadsAt_vmem h_S512x128))
def ldW (h : Fin 8) : KProg (F := F) (Vec F S128x1024 .f32) :=
  Prog.lift (.load woM (wR h).toLoadRect (View.loadsAt_vmem h_S128x1024))
def stO (n : Fin 4) (o : FVec F S1x512x1024 .f32) : KProg (F := F) PUnit :=
  Prog.lift (.store oM (oR n) o Finset.univ (View.stores_vmem_bits_univ h_S1x512x1024 rfl) (.inl rfl))

abbrev asKV (v : Vec F S1x2048x1x128 .f32) : FVec F S2048x128 .f32 := shapeCast S2048x128 v shapeCasts_S1x2048x1x128_S2048x128
abbrev asW (w : Vec F S128x1024 .f32) : FVec F S128x1024 .f32 := shapeCast S128x1024 w shapeCasts_S128x1024_S128x1024

def chunkP (h : Fin 8) (k v : FVec F S2048x128 .f32) (w : FVec F S128x1024 .f32) (n : Fin 4) : KProg (F := F) PUnit := do
  let q ← ldQ n h
  let o ← ldO n
  let _ ← ldO (F := F) n
  stO n (addOf n q k v w o)

def headP (c : Dev nD) (h : Fin 8) : KProg (F := F) PUnit := do
  fetchP true c h
  fetchP false c h
  awaitP true c h
  awaitP false c h
  let k ← ldKV true h
  let v ← ldKV false h
  let w ← ldW h
  chunkP h (asKV k) (asKV v) (asW w) 0
  chunkP h (asKV k) (asKV v) (asW w) 1
  chunkP h (asKV k) (asKV v) (asW w) 2
  chunkP h (asKV k) (asKV v) (asW w) 3

/-- The query projection. -/
def projOf (x : Vec F S1x2048x1024 .f32) (w : Vec F S1024x1024 .f32) : FVec F S2048x1024 .f32 :=
  shapeCast S2048x1024
    (matmul dot_S2048x1024_S1024x1024_S2048x1024_1_0_0_1_n_n none (shapeCast S2048x1024 x shapeCasts_S1x2048x1024_S2048x1024)
      (shapeCast S1024x1024 w shapeCasts_S1024x1024_S1024x1024) (constant S2048x1024 .f32 0x00000000#32))
    shapeCasts_S2048x1024_S2048x1024
def zeroO : FVec F S1x2048x1024 .f32 := broadcast S1x2048x1024 (Scalar.ofBits .f32 0x00000000#32 : F .f32)

def beginP : KProg (F := F) PUnit := do
  let x : Vec F S1x2048x1024 .f32 ← Prog.lift (.load xM xR.toLoadRect (View.loadsAt_vmem h_S1x2048x1024))
  let w : Vec F S1024x1024 .f32 ← Prog.lift (.load wqM wqR.toLoadRect (View.loadsAt_vmem h_S1024x1024))
  let _ : Vec F S2048x1024 .f32 ← Prog.lift (.load qM qaR.toLoadRect (View.loadsAt_vmem h_S2048x1024))
  Prog.lift (.store qM qaR (projOf x w) Finset.univ (View.stores_vmem_bits_univ h_S2048x1024 rfl) (.inl rfl))
  let _ : Vec F S1x2048x1024 .f32 ← Prog.lift (.load oM xR.toLoadRect (View.loadsAt_vmem h_S1x2048x1024))
  Prog.lift (.store oM xR zeroO Finset.univ (View.stores_vmem_bits_univ h_S1x2048x1024 rfl) (.inl rfl))

/-- The heads below `n`, in order. -/
def headsP (c : Dev nD) : (n : ℕ) → n ≤ 8 → KProg (F := F) PUnit
  | 0, _ => pure ⟨⟩
  | n + 1, hn => do
    headsP c n (Nat.le_of_succ_le hn)
    headP c ⟨n, hn⟩

def run (c : Dev nD) : KProg (F := F) PUnit := do
  beginP
  headsP c 8 (Nat.le_refl 8)

abbrev at₀ : KProg (F := F) PUnit :=
  cc0_compute_body xM (Memref.isWhole_whole _) wqM (Memref.isWhole_whole _) (Memref.whole main_arg2) (Memref.isWhole_whole _)
    (Memref.whole main_arg3) (Memref.isWhole_whole _) woM (Memref.isWhole_whole _) oM (Memref.isWhole_whole _)
    qM (Memref.isWhole_whole _) (Memref.whole cc0_scratch1) (Memref.isWhole_whole _) (Memref.whole cc0_scratch2) (Memref.isWhole_whole _)
    cc0_scratch3 cc0_scratch4

/-- The printed body is the run. -/
theorem body_eq_run : at₀ (F := F) = Prog.op (.deviceId) (fun c => run c) := by
  chain_rfl

end Cert.KernelIdeal.Core

end
-- ==== Proof.Core.Run.lean ====
/-
The attention body's run: from the staged operands to the partial product, block by block of the result.
-/
module

public import proofs.«01_k».proof.Proof.Core.Model
public import proofs.«01_k».proof.Proof.Ring.Slots
public import Idealize.ShloMosaic.Lib.Transfers

@[expose] public section

noncomputable section

namespace Cert.KernelIdeal.Core

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Ring (KProg UU EP ER L lv O₀ Wp Wp_bind Wp_ret 𝒱₀ anyM owing mayWait_stage read_all)

variable {F : FTy → Type} [FloatOps F] [Named F]

local notation "𝕄" => MT nD τ sig Unit (Elt F) ℕ UU ℕ

/-- The counters of the fetches. -/
abbrev EC : UEmb Counters (MT nD τ sig Unit (Elt F) ℕ UU ℕ) := countersEmb

/-! ## Runs from one state to another -/

/-- From `A`, beside the levels, the program returns `v` at `B`. -/
def Spec (c : Dev nD) {α : Type} (p : KProg (F := F) α) (A : sProp 𝕄) (v : α) (B : sProp 𝕄) : Prop :=
  ∀ Q : α → sProp 𝕄, iprop(levAts L lv ∗ A ∗ (B -∗ Q v)) ⊢ Wp c p Q

section Rules
variable {c : Dev nD} {α β : Type}

theorem Spec.wand {p : KProg (F := F) α} {A B : sProp 𝕄} {v : α} (h : Spec c p A v B) (k : α → KProg (F := F) β) (Q : β → sProp 𝕄) :
    iprop(levAts L lv ∗ A) ⊢ iprop((B -∗ Wp c (k v) Q) -∗ Wp c (p >>= k) Q) := by
  iintro ⟨HR, HA⟩ HK
  rw [Wp_bind]
  iapply (h fun a => Wp c (k a) Q)
  iframe HR HA HK

theorem Spec.pure (v : α) (A : sProp 𝕄) : Spec c (Pure.pure v) A v A := by
  intro Q
  iintro ⟨-, HA, HK⟩
  rw [show Wp c (Pure.pure v) Q = iprop(|={Set.univ}[Idealize.ShloMosaic.frame]=> Q v) from wp_pure _ _ _ v Q]
  imodintro
  iapply HK; iexact HA

theorem Spec.bind {p : KProg (F := F) α} {k : α → KProg (F := F) β} {A B D : sProp 𝕄} {v : α} {w : β}
    (h : Spec c p A v B) (h' : Spec c (k v) B w D) : Spec c (p >>= k) A w D := by
  intro Q
  iintro ⟨#HR, HA, HK⟩
  iapply (h.wand k Q) $$ [HA]
  · iframe HR HA
  iintro HB
  iapply (h' Q)
  iframe HR HB HK

theorem Spec.mono {p : KProg (F := F) α} {A B A' B' : sProp 𝕄} {v : α} (h : Spec c p A v B) (ha : A' ⊢ A) (hb : B ⊢ B') :
    Spec c p A' v B' := by
  intro Q
  iintro ⟨HR, HA, HK⟩
  iapply (h Q)
  iframe HR
  isplitl [HA]
  · iapply ha; iexact HA
  · iintro HB; iapply HK; iapply hb; iexact HB

theorem Spec.frame {p : KProg (F := F) α} {A B : sProp 𝕄} {v : α} (h : Spec c p A v B) (X : sProp 𝕄) :
    Spec c p iprop(A ∗ X) v iprop(B ∗ X) := by
  intro Q
  iintro ⟨HR, ⟨HA, HX⟩, HK⟩
  iapply (h Q)
  iframe HR HA
  iintro HB; iapply HK; iframe HB HX

theorem Spec.seq {p : KProg (F := F) α} {k : α → KProg (F := F) β} {A B A' D : sProp 𝕄} {v : α} {w : β} (X : sProp 𝕄)
    (h : Spec c p A v B) (ha : A' ⊢ iprop(A ∗ X)) (h' : Spec c (k v) iprop(B ∗ X) w D) : Spec c (p >>= k) A' w D :=
  ((h.frame X).mono ha .rfl).bind h'

end Rules

/-! ## Loads and stores -/

/-- A load at a rectangle of a memref held at known values. -/
theorem spec_ld (c : Dev nD) {s : Shape} {e : EltTy} (m : Memref sig .tc .vmem s e) (r : Rect s) (hl : m.view.LoadsAt r.toLoadRect) (q : PosShare TreeShare)
    (X : Vec F s e) :
    Spec c (Prog.lift (.load m r.toLoadRect hl)) (owns (c : Thread nD τ) m q X) (fun x => X (r.toLoadRect.idx x)) (owns (c : Thread nD τ) m q X) := by
  intro Q
  unfold owns
  iintro ⟨-, ⟨%f, %hf, Hf⟩, HK⟩
  iapply (wp_load_rect 𝒱₀ (c : Thread nD τ) none Set.univ (m := m) (r := r) (View.set_slice_subset m.view r)) $$ Hf
  iintro Hf
  iapply (Wp_ret (c := c) _ Q)
  have e : (m.access r).read (Elt F) f = (fun x => X (r.toLoadRect.idx x)) := by rw [← hf]; rfl
  rw [e]
  iapply HK
  iexists f; iframe Hf
  ipureintro; exact hf

/-- A store over the whole of a buffer, the dead load before it included. -/
theorem spec_stAll (c : Dev nD) {s : Shape} {e : EltTy} (m : Memref sig .tc .vmem s e) (r : Rect s) (hl : m.view.LoadsAt r.toLoadRect)
    (w : r.shape.Idx → Elt F e) (hx : (m.access r).Stores Finset.univ) (X : Vec F s e)
    (hm : Finset.univ = Finset.univ ∨ ∀ a, r.stride a = 1)
    (hw : ∀ f : m.view.ty.Contents (Elt F), m.view.read (Elt F) ((m.access r).write (Elt F) f w Finset.univ) = X) :
    Spec c (do let _ ← Prog.lift (.load m r.toLoadRect hl); Prog.lift (.store m r w Finset.univ hx hm)) (anyM c m) ⟨⟩
      (owns (c : Thread nD τ) m fullShare X) := by
  intro Q
  unfold owns anyM
  iintro ⟨-, ⟨%f, Hf⟩, HK⟩
  iapply (wp_load_rect 𝒱₀ (c : Thread nD τ) none Set.univ (m := m) (r := r) (S := m.view.set) (View.set_slice_subset m.view r)) $$ Hf
  iintro Hf
  iapply (wp_store 𝒱₀ (c : Thread nD τ) none Set.univ (m := m) (r := r) (Mk := Finset.univ) (S := m.view.set) (View.set_slice_subset m.view r)) $$ Hf
  iintro Hf
  iapply (Wp_ret (c := c) _ Q)
  iapply HK
  iexists _; iframe Hf
  ipureintro; exact hw f

/-! ## The result in blocks of rows -/

abbrev Blocks (F : FTy → Type) := Fin 4 → FVec F S1x512x1024 .f32
def rowsOf (i : S1x2048x1024.Idx) : Fin 4 := ⟨(i 1).val / 512, by have h : (i 1).val < 2048 := (i 1).isLt; omega⟩
def inRows (i : S1x2048x1024.Idx) : S1x512x1024.Idx :=
  fun a => match a with
    | ⟨0, _⟩ => ⟨0, Nat.one_pos⟩
    | ⟨1, _⟩ => ⟨(i 1).val % 512, Nat.mod_lt _ (by decide)⟩
    | ⟨2, _⟩ => ⟨(i 2).val, (i 2).isLt⟩
/-- The array its blocks of rows make. -/
def glue (B : Blocks F) : FVec F S1x2048x1024 .f32 := fun i => B (rowsOf i) (inRows i)

theorem oR_val (n : Fin 4) (j : S1x512x1024.Idx) (a : Fin 3) : (((oR n).emb j : S1x2048x1024.Idx) a).val = (![0, 512 * n.val, 0] : Fin 3 → ℕ) a + (j a).val := by
  show (![0, 512 * n.val, 0] : Fin 3 → ℕ) a + 1 * (j a).val = _
  rw [Nat.one_mul]
theorem rowsOf_emb (n : Fin 4) (j : S1x512x1024.Idx) : rowsOf ((oR n).emb j) = n := by
  have h := oR_val n j 1
  have h1 : (j 1).val < 512 := (j 1).isLt
  apply Fin.ext
  show (((oR n).emb j : S1x2048x1024.Idx) 1).val / 512 = n.val
  rw [h]
  show (512 * n.val + (j 1).val) / 512 = n.val
  omega
theorem inRows_emb (n : Fin 4) (j : S1x512x1024.Idx) : inRows ((oR n).emb j) = j := by
  funext a
  apply Fin.ext
  have h1 : (j 1).val < 512 := (j 1).isLt
  match a with
  | ⟨0, _⟩ => have h0 : (j 0).val < 1 := (j 0).isLt; show 0 = (j 0).val; omega
  | ⟨1, _⟩ =>
    show (((oR n).emb j : S1x2048x1024.Idx) 1).val % 512 = (j 1).val
    rw [oR_val]
    show (512 * n.val + (j 1).val) % 512 = (j 1).val
    omega
  | ⟨2, _⟩ =>
    show (((oR n).emb j : S1x2048x1024.Idx) 2).val = (j 2).val
    rw [oR_val]
    show 0 + (j 2).val = (j 2).val
    omega
theorem emb_inRows (i : S1x2048x1024.Idx) : (oR (rowsOf i)).emb (inRows i) = i := by
  funext a
  apply Fin.ext
  rw [oR_val]
  match a with
  | ⟨0, _⟩ => have h0 : (i 0).val < 1 := (i 0).isLt; show 0 + 0 = (i 0).val; omega
  | ⟨1, _⟩ => show 512 * ((i 1).val / 512) + (i 1).val % 512 = (i 1).val; omega
  | ⟨2, _⟩ => show 0 + (i 2).val = (i 2).val; omega
theorem glue_emb (B : Blocks F) (n : Fin 4) (j : S1x512x1024.Idx) : glue B ((oR n).emb j) = B n j := by
  unfold glue; rw [rowsOf_emb, inRows_emb]
theorem glue_ld (B : Blocks F) (n : Fin 4) : (fun x => glue B ((oR n).toLoadRect.idx x)) = B n := funext fun j => glue_emb B n j

/-- A store of one block. -/
theorem spec_stO (c : Dev nD) (n : Fin 4) (B : Blocks F) (o : FVec F S1x512x1024 .f32) :
    Spec c (stO n o) (owns (c : Thread nD τ) oM fullShare (glue B)) ⟨⟩ (owns (c : Thread nD τ) oM fullShare (glue (Function.update B n o))) := by
  intro Q
  unfold owns
  iintro ⟨-, ⟨%f, %hf, Hf⟩, HK⟩
  iapply (wp_store 𝒱₀ (c : Thread nD τ) none Set.univ (m := oM) (r := oR n) (Mk := Finset.univ) (S := oM.view.set) (View.set_slice_subset oM.view _)) $$ Hf
  iintro Hf
  iapply (Wp_ret (c := c) _ Q)
  iapply HK
  iexists _
  iframe Hf
  ipureintro
  funext i
  rw [← emb_inRows i, glue_emb]
  by_cases h : rowsOf i = n
  · rw [h, Function.update_self]
    exact View.read_slice_write_emb (Val := Elt F) (v := oM.view) (oR n) f o (Finset.mem_univ _)
  · rw [Function.update_of_ne h, ← glue_emb B (rowsOf i) (inRows i), ← hf]
    refine View.read_slice_write_of_not_mem (Val := Elt F) (v := oM.view) (oR n) f o Finset.univ ?_
    intro hm
    obtain ⟨j, -, hj⟩ := Finset.mem_map.mp hm
    exact h (((rowsOf_emb _ _).symm.trans (congrArg rowsOf hj).symm).trans (rowsOf_emb n j))

/-! ## The fetches -/

abbrev kvCell (c : Dev nD) (v : Bool) (p : Fin 2) : GSem nD τ sig := ((c : Thread nD τ), .dma (kvSem v p))

theorem kvSem_lt : ∀ (v : Bool) (p : Fin 2), (kvSem v p).val < 10 := by decide

/-- The number of units a fetch counts. -/
abbrev kvN (v : Bool) (p : Fin 2) : ℕ := (kvSlot v p).view.dmaCredit
theorem kvN_pos : ∀ (v : Bool) (p : Fin 2), 0 < kvN v p := by decide +kernel

theorem kvSlot_set (v : Bool) (p : Fin 2) : (kvSlot v p).view.set ⊆ (kvB v).view.set := by
  unfold kvSlot
  exact (View.set_reshape _ _).subset.trans (View.set_slice_subset (kvB v).view (kvR p))
theorem kvHead_set (v : Bool) (c : Dev nD) (h : Fin 8) : (kvHead v c h).view.set ⊆ (kvH v).view.set := by
  unfold kvHead
  exact (View.set_reshape _ _).subset.trans (View.set_slice_subset (kvH v).view (hR c h))

/-- The keys, or values, of head `h` of device `c` out of those of all heads. -/
def headOf (c : Dev nD) (h : Fin 8) (X : Vec F S1x2048x128x128 .f32) : Vec F S1x2048x1x128 .f32 := fun j => X ((hR c h).toLoadRect.idx j)

/-- A fetch in flight. -/
def flying (v : Bool) (c : Dev nD) (h : Fin 8) (X : Vec F S1x2048x128x128 .f32) : sProp 𝕄 :=
  iprop(∃ (fs : Buf (Elt F) ((kvH v).view.loc (c : Thread nD τ))) (fd : Buf (Elt F) ((kvB v).view.loc (c : Thread nD τ))), ⌜(kvH v).view.read (Elt F) fs = X⌝
    ∗ Transfers.Flight EC (c : Thread nD τ) (.dma (kvSem v (par h))) () (kvN v (par h))
        iprop(((kvSlot v (par h)).view.loc (c : Thread nD τ) ↦[(kvB v).view.set]{fullShare}
            ((kvSlot v (par h)).view.write (Elt F) fd ((kvHead v c h).view.read (Elt F) fs) Finset.univ))
          ∗ ((kvHead v c h).view.loc (c : Thread nD τ) ↦[(kvHead v c h).view.set]{fullShare} fs))
    ∗ ((kvH v).view.loc (c : Thread nD τ) ↦[(kvH v).view.set \ (kvHead v c h).view.set]{fullShare} fs))

theorem spec_fetch (v : Bool) (c : Dev nD) (h : Fin 8) (X : Vec F S1x2048x128x128 .f32) :
    Spec c (fetchP v c h)
      iprop(owns (c : Thread nD τ) (kvH v) fullShare X ∗ anyM c (kvB v) ∗ semVal (kvCell c v (par h)) 0) ⟨⟩ (flying v c h X) := by
  intro Q
  unfold flying owns anyM
  iintro ⟨-, ⟨⟨%fs, %hfs, Hs⟩, ⟨%fd, Hd⟩, Hv⟩, HK⟩
  ihave ⟨Hs, Hr⟩ := (pointsTo_split_subset (kvHead_set v c h)).1 $$ Hs
  iapply (Transfers.wp_dmaLocal EC 𝒱₀ (c : Thread nD τ) none (src := kvHead v c h) (dst := kvSlot v (par h)) () (kvN v (par h)) rfl (kvN_pos v (par h))
    (kvSlot_set v (par h))) $$ [Hs Hd Hv]
  · isplitl [Hs]
    · iexact Hs
    isplitl [Hd]
    · iexact Hd
    · iexact Hv
  iintro Hf
  iapply (Wp_ret (c := c) _ Q)
  iapply HK
  iexists fs, fd
  isplitr
  · ipureintro; exact hfs
  isplitl [Hf]
  · iexact Hf
  · iexact Hr

/-- The slot of head `h`, filled. -/
def filled (v : Bool) (c : Dev nD) (h : Fin 8) (X : Vec F S1x2048x128x128 .f32) : sProp 𝕄 :=
  iprop(∃ f : Buf (Elt F) ((kvB v).view.loc (c : Thread nD τ)), ⌜((kvB v).access (kvR (par h))).read (Elt F) f = headOf c h X⌝
    ∗ ((kvB v).view.loc (c : Thread nD τ) ↦[(kvB v).view.set]{fullShare} f))

theorem castKV : S1x2048x1x128.ShapeCasts S2048x1x128 := by decide

omit [FloatOps F] [Named F] in
theorem fill_eq (v : Bool) (c : Dev nD) (h : Fin 8) (X : Vec F S1x2048x128x128 .f32) (fs : (kvH v).view.ty.Contents (Elt F)) (hfs : (kvH v).view.read (Elt F) fs = X)
    (fd : (kvB v).view.ty.Contents (Elt F)) :
    ((kvB v).access (kvR (par h))).read (Elt F)
      ((kvSlot v (par h)).view.write (Elt F) fd ((kvHead v c h).view.read (Elt F) fs) Finset.univ) = headOf c h X := by
  have e1 := Memref.read_squeeze_slice (kvB v) (kvR (par h)) (fun _ => rfl) squeezes_S1x2048x1x128_S2048x1x128 castKV
    ((kvSlot v (par h)).view.write (Elt F) fd ((kvHead v c h).view.read (Elt F) fs) Finset.univ)
  have e2 := Memref.read_squeeze_slice (kvH v) (hR c h) (fun _ => rfl) squeezes_S1x2048x1x128_S2048x1x128 castKV fs
  have e3 : (kvSlot v (par h)).view.read (Elt F) ((kvSlot v (par h)).view.write (Elt F) fd ((kvHead v c h).view.read (Elt F) fs) Finset.univ)
      = (kvHead v c h).view.read (Elt F) fs := View.read_write_univ _ _
  have e4 := (e1.symm.trans e3).trans e2
  have e5 := congrArg (fun x => shapeCast S1x2048x1x128 x (by decide : S2048x1x128.ShapeCasts S1x2048x1x128)) e4
  simp only [shapeCast_shapeCast] at e5
  rw [View.readAt_rect] at e5
  refine e5.trans ?_
  unfold headOf
  rw [← hfs]
  rfl

theorem spec_await (v : Bool) (c : Dev nD) (h : Fin 8) (X : Vec F S1x2048x128x128 .f32) :
    Spec c (awaitP v c h) iprop(flying v c h X ∗ owing c (O₀ c)) ⟨⟩
      iprop(owns (c : Thread nD τ) (kvH v) fullShare X ∗ filled v c h X ∗ semVal (kvCell c v (par h)) 0 ∗ owing c (O₀ c)) := by
  intro Q
  unfold flying owns filled owing
  iintro ⟨HL, ⟨⟨%fs, %fd, %hfs, Hf, Hr⟩, %W, Ho⟩, HK⟩
  iapply (Transfers.wp_waitLocalO EC 𝒱₀ (c : Thread nD τ) none (sem := kvSem v (par h)) (srcw := kvHead v c h) (dstw := kvSlot v (par h)) ()
    (N := kvN v (par h)) rfl (O := O₀ c) (W := W)) $$ [Hf Ho HL]
  · isplitl [Hf]
    · iexact Hf
    isplitl [Ho]
    · iexact Ho
    · iapply (mayWait_stage c _ (kvSem_lt v (par h)) (O₀ c) (.inl rfl)); iexact HL
  iintro ⟨⟨Hd, Hs⟩, Hv, Ho⟩
  iapply (Wp_ret (c := c) _ Q)
  iapply HK
  isplitl [Hs Hr]
  · iexists fs
    isplitr
    · ipureintro; exact hfs
    · iapply (pointsTo_split_subset (kvHead_set v c h)).2
      isplitl [Hs]
      · iexact Hs
      · iexact Hr
  isplitl [Hd]
  · iexists _
    isplitr [Hd]
    rotate_left
    · iexact Hd
    · ipureintro; exact fill_eq v c h X fs hfs fd
  isplitl [Hv]
  · iexact Hv
  · iexists _; iexact Ho

theorem spec_ldKV (v : Bool) (c : Dev nD) (h : Fin 8) (X : Vec F S1x2048x128x128 .f32) :
    Spec c (ldKV v h) (filled v c h X) (headOf c h X) (anyM c (kvB v)) := by
  intro Q
  unfold filled anyM
  iintro ⟨-, ⟨%f, %hf, Hf⟩, HK⟩
  iapply (wp_load_rect 𝒱₀ (c : Thread nD τ) none Set.univ (m := kvB v) (r := kvR (par h)) (View.set_slice_subset (kvB v).view _)) $$ Hf
  iintro Hf
  iapply (Wp_ret (c := c) _ Q)
  rw [hf]
  iapply HK
  iexists f; iexact Hf

/-! ## Chunks and heads -/

variable (c : Dev nD) (q : FVec F S2048x1024 .f32) (wo : FVec F S1024x1024 .f32) (kv : Bool → Vec F S1x2048x128x128 .f32)

abbrev qBlk (n : Fin 4) (h : Fin 8) : Vec F S512x128 .f32 := fun x => q ((qR n h).toLoadRect.idx x)
abbrev wBlk (h : Fin 8) : FVec F S128x1024 .f32 := asW fun x => wo ((wR h).toLoadRect.idx x)
abbrev hKV (v : Bool) (h : Fin 8) : FVec F S2048x128 .f32 := asKV (headOf c h (kv v))

/-- The blocks after head `h`. -/
def headB (h : Fin 8) (B : Blocks F) : Blocks F := fun n => addOf n (qBlk q n h) (hKV c kv true h) (hKV c kv false h) (wBlk wo h) (B n)

theorem spec_chunk (h : Fin 8) (k v : FVec F S2048x128 .f32) (w : FVec F S128x1024 .f32) (n : Fin 4) (B : Blocks F) :
    Spec c (chunkP h k v w n) iprop(owns (c : Thread nD τ) qM fullShare q ∗ owns (c : Thread nD τ) oM fullShare (glue B)) ⟨⟩
      iprop(owns (c : Thread nD τ) qM fullShare q ∗ owns (c : Thread nD τ) oM fullShare (glue (Function.update B n (addOf n (qBlk q n h) k v w (B n))))) := by
  unfold chunkP
  refine Spec.seq (owns (c : Thread nD τ) oM fullShare (glue B)) (spec_ld c qM (qR n h) _ fullShare q) .rfl ?_
  refine Spec.seq (owns (c : Thread nD τ) qM fullShare q) (spec_ld c oM (oR n) _ fullShare (glue B)) sep_comm.1 ?_
  refine Spec.seq (owns (c : Thread nD τ) qM fullShare q) (spec_ld c oM (oR n) _ fullShare (glue B)) .rfl ?_
  rw [glue_ld]
  exact ((spec_stO c n B _).frame (owns (c : Thread nD τ) qM fullShare q)).mono .rfl sep_comm.1

theorem head_updates (h : Fin 8) (k v : FVec F S2048x128 .f32) (w : FVec F S128x1024 .f32) (B : Blocks F) (g : Fin 4 → FVec F S1x512x1024 .f32 → FVec F S1x512x1024 .f32) :
    Function.update (Function.update (Function.update (Function.update B 0 (g 0 (B 0))) 1 (g 1 (B 1))) 2 (g 2 (B 2))) 3 (g 3 (B 3)) = fun n => g n (B n) := by
  funext n
  fin_cases n <;> rfl

theorem spec_chunks (h : Fin 8) (k v : FVec F S2048x128 .f32) (w : FVec F S128x1024 .f32) (B : Blocks F) :
    Spec c (do chunkP h k v w 0; chunkP h k v w 1; chunkP h k v w 2; chunkP h k v w 3)
      iprop(owns (c : Thread nD τ) qM fullShare q ∗ owns (c : Thread nD τ) oM fullShare (glue B)) ⟨⟩
      iprop(owns (c : Thread nD τ) qM fullShare q ∗ owns (c : Thread nD τ) oM fullShare (glue fun n => addOf n (qBlk q n h) k v w (B n))) := by
  rw [← head_updates h k v w B fun n => addOf n (qBlk q n h) k v w]
  exact (spec_chunk c q h k v w 0 B).bind ((spec_chunk c q h k v w 1 _).bind ((spec_chunk c q h k v w 2 _).bind (spec_chunk c q h k v w 3 _)))

/-- The semaphores of the fetches, at zero. -/
def sems : sProp 𝕄 :=
  iprop((semVal (kvCell c true 0) 0 ∗ semVal (kvCell c false 0) 0) ∗ (semVal (kvCell c true 1) 0 ∗ semVal (kvCell c false 1) 0))
omit [FloatOps F] [Named F] in
theorem sems_take (p : Fin 2) : (sems c : sProp 𝕄) ⊢ iprop((semVal (kvCell c true p) 0 ∗ semVal (kvCell c false p) 0)
    ∗ (semVal (kvCell c true (1 - p)) 0 ∗ semVal (kvCell c false (1 - p)) 0)) := by
  unfold sems
  fin_cases p
  · exact .rfl
  · exact sep_comm.1
omit [FloatOps F] [Named F] in
theorem sems_back (p : Fin 2) : iprop((semVal (kvCell c true p) 0 ∗ semVal (kvCell c false p) 0)
    ∗ (semVal (kvCell c true (1 - p)) 0 ∗ semVal (kvCell c false (1 - p)) 0)) ⊢ (sems c : sProp 𝕄) := by
  unfold sems
  fin_cases p
  · exact .rfl
  · exact sep_comm.1

/-- What a head finds and leaves: the projected queries, the output weights, the result, the keys and values, their slots and semaphores. -/
def state (B : Blocks F) : sProp 𝕄 :=
  iprop(owns (c : Thread nD τ) qM fullShare q ∗ owns (c : Thread nD τ) woM fullShare wo ∗ owns (c : Thread nD τ) oM fullShare (glue B)
    ∗ owns (c : Thread nD τ) (kvH true) fullShare (kv true) ∗ owns (c : Thread nD τ) (kvH false) fullShare (kv false)
    ∗ anyM c (kvB true) ∗ anyM c (kvB false) ∗ sems c ∗ owing c (O₀ c))

theorem spec_head (h : Fin 8) (B : Blocks F) :
    Spec c (headP c h) (state c q wo kv B) ⟨⟩ (state c q wo kv (headB c q wo kv h B)) := by
  intro Q
  unfold state headP
  iintro ⟨#HL, ⟨Hq, Hw, Ho, Hk, Hv, Bk, Bv, Hs, HO⟩, HK⟩
  ihave ⟨⟨S1, S2⟩, Hs⟩ := (sems_take (F := F) c (par h)) $$ Hs
  iapply (Spec.wand (spec_fetch true c h (kv true)) _ Q) $$ [Hk Bk S1]
  · iframe HL Hk Bk S1
  iintro Fk
  iapply (Spec.wand (spec_fetch false c h (kv false)) _ Q) $$ [Hv Bv S2]
  · iframe HL Hv Bv S2
  iintro Fv
  iapply (Spec.wand (spec_await true c h (kv true)) _ Q) $$ [Fk HO]
  · iframe HL Fk HO
  iintro ⟨Hk, Bk, S1, HO⟩
  iapply (Spec.wand (spec_await false c h (kv false)) _ Q) $$ [Fv HO]
  · iframe HL Fv HO
  iintro ⟨Hv, Bv, S2, HO⟩
  iapply (Spec.wand (spec_ldKV true c h (kv true)) _ Q) $$ [Bk]
  · iframe HL Bk
  iintro Bk
  iapply (Spec.wand (spec_ldKV false c h (kv false)) _ Q) $$ [Bv]
  · iframe HL Bv
  iintro Bv
  iapply (Spec.wand (spec_ld c woM (wR h) _ fullShare wo) _ Q) $$ [Hw]
  · iframe HL Hw
  iintro Hw
  iapply (spec_chunks c q h (hKV c kv true h) (hKV c kv false h) (wBlk wo h) B Q)
  iframe HL Hq Ho
  iintro ⟨Hq, Ho⟩
  iapply HK
  iframe Hq Hw Ho Hk Hv Bk Bv HO
  iapply (sems_back (F := F) c (par h))
  iframe S1 S2 Hs

/-- The blocks after the first `n` heads. -/
def blocksV : (n : ℕ) → n ≤ 8 → Blocks F
  | 0, _ => fun _ => broadcast S1x512x1024 (Scalar.ofBits .f32 0x00000000#32 : F .f32)
  | n + 1, hn => headB c q wo kv ⟨n, hn⟩ (blocksV n (Nat.le_of_succ_le hn))

theorem spec_heads : ∀ (n : ℕ) (hn : n ≤ 8),
    Spec c (headsP c n hn) (state c q wo kv (blocksV c q wo kv 0 (Nat.zero_le 8))) ⟨⟩ (state c q wo kv (blocksV c q wo kv n hn))
  | 0, _ => Spec.pure _ _
  | n + 1, hn => (spec_heads n (Nat.le_of_succ_le hn)).bind (spec_head c q wo kv ⟨n, hn⟩ _)

/-! ## The whole body -/

theorem glue_zero : glue (blocksV c q wo kv 0 (Nat.zero_le 8)) = zeroO := rfl
theorem zeros3 : ∀ a : Fin 3, (![0, 0, 0] : Fin 3 → Nat) a = 0 := by decide
theorem zeros2 : ∀ a : Fin 2, (![0, 0] : Fin 2 → Nat) a = 0 := by decide

omit [FloatOps F] [Named F] in
theorem ld_all {s : Shape} {e : EltTy} (off : Fin s.rank → Nat) (h : ∀ a, off a = 0) (inb) (X : Vec F s e) :
    (fun x => X ((Rect.unit (s := s) off s.size inb).toLoadRect.idx x)) = X := by
  funext y
  refine congrArg X (funext fun a => Fin.ext ?_)
  show off a + _ = _
  rw [h a]; simp

variable (x : FVec F S1x2048x1024 .f32) (wq : FVec F S1024x1024 .f32)

/-- The partial product of a device: the blocks after all heads. -/
def coreV : FVec F S1x2048x1024 .f32 := glue (blocksV c (projOf x wq) wo kv 8 (Nat.le_refl 8))

theorem spec_begin :
    Spec c (beginP (F := F)) iprop((owns (c : Thread nD τ) xM fullShare x ∗ owns (c : Thread nD τ) wqM fullShare wq) ∗ anyM c qM ∗ anyM c oM) ⟨⟩
      iprop((owns (c : Thread nD τ) xM fullShare x ∗ owns (c : Thread nD τ) wqM fullShare wq)
        ∗ owns (c : Thread nD τ) qM fullShare (projOf x wq) ∗ owns (c : Thread nD τ) oM fullShare (zeroO (F := F))) := by
  unfold beginP
  refine Spec.seq iprop(owns (c : Thread nD τ) wqM fullShare wq ∗ anyM c qM ∗ anyM c oM) (spec_ld c xM xR _ fullShare x) ?_ ?_
  · iintro ⟨⟨H1, H2⟩, H3, H4⟩; iframe H1 H2 H3 H4
  refine Spec.seq iprop(owns (c : Thread nD τ) xM fullShare x ∗ anyM c qM ∗ anyM c oM) (spec_ld c wqM wqR _ fullShare wq) ?_ ?_
  · iintro ⟨H1, H2, H3, H4⟩; iframe H1 H2 H3 H4
  have ex : (fun y => x (xR.toLoadRect.idx y)) = x := ld_all (F := F) (s := S1x2048x1024) (e := .f32) ![0, 0, 0] zeros3 inb_S1x2048x1024_S1x2048x1024_0_0_0 x
  have ew : (fun y => wq (wqR.toLoadRect.idx y)) = wq := ld_all (F := F) (s := S1024x1024) (e := .f32) ![0, 0] zeros2 inb_S1024x1024_S1024x1024_0_0 wq
  rw [ex, ew]
  have hq := spec_stAll c qM qaR (View.loadsAt_vmem h_S2048x1024) (projOf x wq) (View.stores_vmem_bits_univ h_S2048x1024 rfl) (projOf x wq) (.inl rfl)
    (fun f => read_all qM _ zeros2 _ f _)
  have ho := spec_stAll c oM xR (View.loadsAt_vmem h_S1x2048x1024) (zeroO (F := F)) (View.stores_vmem_bits_univ h_S1x2048x1024 rfl) (zeroO (F := F)) (.inl rfl)
    (fun f => read_all oM _ zeros3 _ f _)
  intro Q
  iintro ⟨#HL, ⟨H2, H1, H3, H4⟩, HK⟩
  have e : (do
      let _ : Vec F S2048x1024 .f32 ← (Prog.lift (.load qM qaR.toLoadRect (View.loadsAt_vmem h_S2048x1024)) : KProg (F := F) _)
      Prog.lift (.store qM qaR (projOf x wq) Finset.univ (View.stores_vmem_bits_univ h_S2048x1024 rfl) (.inl rfl))
      let _ : Vec F S1x2048x1024 .f32 ← Prog.lift (.load oM xR.toLoadRect (View.loadsAt_vmem h_S1x2048x1024))
      Prog.lift (.store oM xR zeroO Finset.univ (View.stores_vmem_bits_univ h_S1x2048x1024 rfl) (.inl rfl)) : KProg (F := F) PUnit)
      = ((do
      let _ : Vec F S2048x1024 .f32 ← (Prog.lift (.load qM qaR.toLoadRect (View.loadsAt_vmem h_S2048x1024)) : KProg (F := F) _)
      Prog.lift (.store qM qaR (projOf x wq) Finset.univ (View.stores_vmem_bits_univ h_S2048x1024 rfl) (.inl rfl))) >>= fun _ => do
      let _ : Vec F S1x2048x1024 .f32 ← Prog.lift (.load oM xR.toLoadRect (View.loadsAt_vmem h_S1x2048x1024))
      Prog.lift (.store oM xR zeroO Finset.univ (View.stores_vmem_bits_univ h_S1x2048x1024 rfl) (.inl rfl))) := rfl
  rw [e]
  iapply (Spec.wand hq _ Q) $$ [H3]
  · iframe HL H3
  iintro H3
  iapply (ho Q)
  iframe HL H4
  iintro H4
  iapply HK
  iframe H1 H2 H3 H4

/-- What the body finds beside the staged operands and the result's buffer. -/
def scratch : sProp 𝕄 := iprop(anyM c qM ∗ anyM c (kvB true) ∗ anyM c (kvB false))

theorem spec_run :
    Spec c (run c)
      iprop((owns (c : Thread nD τ) xM fullShare x ∗ owns (c : Thread nD τ) wqM fullShare wq ∗ owns (c : Thread nD τ) woM fullShare wo ∗ anyM c oM)
        ∗ (owns (c : Thread nD τ) (kvH true) fullShare (kv true) ∗ owns (c : Thread nD τ) (kvH false) fullShare (kv false))
        ∗ scratch c ∗ sems c ∗ owing c (O₀ c)) ⟨⟩
      iprop((owns (c : Thread nD τ) xM fullShare x ∗ owns (c : Thread nD τ) wqM fullShare wq ∗ owns (c : Thread nD τ) woM fullShare wo
          ∗ owns (c : Thread nD τ) oM fullShare (coreV c wo kv x wq))
        ∗ (owns (c : Thread nD τ) (kvH true) fullShare (kv true) ∗ owns (c : Thread nD τ) (kvH false) fullShare (kv false))
        ∗ scratch c ∗ sems c ∗ owing c (O₀ c)) := by
  have hq : ∀ X, owns (c : Thread nD τ) qM fullShare X ⊢ (anyM c qM : sProp 𝕄) := fun X => by
    unfold owns anyM
    iintro ⟨%f, -, H⟩
    iexists f; iexact H
  intro Q
  unfold run scratch
  iintro ⟨#HL, ⟨⟨Hx, Hwq, Hwo, Ho⟩, ⟨Hk, Hv⟩, ⟨Hq, Bk, Bv⟩, Hs, HO⟩, HK⟩
  iapply (Spec.wand (spec_begin c x wq) _ Q) $$ [Hx Hwq Hq Ho]
  · iframe HL Hx Hwq Hq Ho
  iintro ⟨⟨Hx, Hwq⟩, Hq, Ho⟩
  iapply (spec_heads c (projOf x wq) wo kv 8 (Nat.le_refl 8) Q)
  iframe HL
  unfold state
  rw [glue_zero]
  iframe Hq Hwo Ho Hk Hv Bk Bv Hs HO
  iintro ⟨Hq, Hwo, Ho, Hk, Hv, Bk, Bv, Hs, HO⟩
  iapply HK
  unfold coreV
  iframe Hx Hwq Hwo Ho Hk Hv Bk Bv Hs HO
  iapply (hq (projOf x wq))
  iexact Hq

end Cert.KernelIdeal.Core

end
-- ==== Proof.Core.Launch.lean ====
/-
The two calls of the program on the sixteen devices, from the launch to where it ends.
-/
module

public import proofs.«01_k».proof.Proof.Ring.Start
public import proofs.«01_k».proof.Proof.Core.Run
public import proofs.«01_k».proof.Proof.Gen.KernelIdeal.Launch
public import Idealize.ShloMosaic.Lib.Pipeline.RegionTalk
public import Idealize.ShloMosaic.Lib.Pipeline.Regions
public import Idealize.ShloMosaic.Lib.Pipeline.Frame
public import Idealize.ShloMosaic.Lib.Pipeline.ValueKit

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs)
open Cert.KernelIdeal.Ring

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the buffers hold -/

def xV (c : Dev nD) : FVec F S1x2048x1024 .f32 := m ((c : Thread nD τ).loc main_arg0)
def wqV (c : Dev nD) : FVec F S1024x1024 .f32 := m ((c : Thread nD τ).loc main_arg1)
def woV (c : Dev nD) : FVec F S1024x1024 .f32 := m ((c : Thread nD τ).loc main_arg4)
def kvV (c : Dev nD) : Bool → Vec F S1x2048x128x128 .f32
  | true => m ((c : Thread nD τ).loc main_arg2)
  | false => m ((c : Thread nD τ).loc main_arg3)
/-- The partial product of a device. -/
def part (c : Dev nD) : FVec F S1x2048x1024 .f32 := Core.coreV c (woV m c) (kvV m c) (xV m c) (wqV m c)

/-- The buffers at launch, between the calls, and at the end. -/
abbrev V₀ (c : Dev nD) : Valuation τ sig (Elt F) := fun b => m (c, b)
abbrev V₁ (c : Dev nD) : Valuation τ sig (Elt F) := Function.update (V₀ m c) main_v1 (part m c)
abbrev V₂ (c : Dev nD) : Valuation τ sig (Elt F) := Function.update (V₁ m c) main_v2 (outV (part m) c)

/-! ## Each call's data -/

/-- The semaphores of the first call's own. -/
abbrev osem₀ (pv : Fin 2 × Bool) : SemLoc sig := .dma (Core.kvSem pv.2 pv.1)
/-- The arrays the first call reads in place. -/
def inPlace : Finset (DevRef τ sig) := {Proc.devRef .tc main_arg2, Proc.devRef .tc main_arg3}

/-- What the first call holds throughout. -/
def inv₀ (c : Dev nD) : sProp 𝕄 :=
  iprop(Pipeline.scopedRest spec0 c ∗ (∃ r, prngReg c r) ∗ StableHlo.held (c.tc : Thread nD τ) inPlace (V₀ m c) ∗ Core.sems c ∗ levAts L lv)

def dat₀ (c : Dev nD) : Dat τ (Elt F) Unit ℕ UU ℕ cfg0 c where
  A w := m ((cfg0.win w).arr.view.loc (c : Thread nD τ))
  after w _ := match w with
    | ⟨0, _⟩ => xV m c
    | ⟨1, _⟩ => wqV m c
    | ⟨2, _⟩ => woV m c
    | ⟨3, _⟩ => part m c
  Φ _ := inv₀ m c
  q _ := fullShare
  owed _ := O₀ c

def dat₁ (c : Dev nD) : Dat τ (Elt F) Unit ℕ UU ℕ cfg1 c where
  A w := match w with
    | ⟨0, _⟩ => part m c
    | ⟨1, _⟩ => m ((c : Thread nD τ).loc main_v2)
  after w _ := match w with
    | ⟨0, _⟩ => part m c
    | ⟨1, _⟩ => outV (part m) c
  Φ t := match t with
    | ⟨0, _⟩ => iprop(start (part m) c ∗ Pipeline.scopedRest spec1 c ∗ ∃ r, prngReg c r)
    | ⟨_ + 1, _⟩ => iprop(zeros' c ∗ Pipeline.scopedRest spec1 c ∗ ∃ r, prngReg c r)
  q _ := fullShare
  owed t := match t with
    | ⟨0, _⟩ => O₀ c
    | ⟨_ + 1, _⟩ => 0

def pdats : (p : Fin 2) → (c : Dev nD) → Dat τ (Elt F) Unit ℕ UU ℕ (Pipeline.pin (pcfgs (F := F)) (fun p => (cfgs p).toPCfg_adm) p) c
  | ⟨0, _⟩ => dat₀ m
  | ⟨1, _⟩ => dat₁ m

/-! ## A window that is a whole array -/

theorem read_x (c : Dev nD) : (win0_0.blk (0 : Fin 1)).view.read (Elt F) (m ((c : Thread nD τ).loc main_arg0)) = xV m c :=
  funext fun i => congrArg (m ((c : Thread nD τ).loc main_arg0)) (by
    funext a; exact Fin.ext (Pipeline.Window.rect_emb_val_of_index_zero win0_0 (0 : Fin 1) a (by fin_cases a <;> rfl) i))
theorem read_wq (c : Dev nD) : (win0_1.blk (0 : Fin 1)).view.read (Elt F) (m ((c : Thread nD τ).loc main_arg1)) = wqV m c :=
  funext fun i => congrArg (m ((c : Thread nD τ).loc main_arg1)) (by
    funext a; exact Fin.ext (Pipeline.Window.rect_emb_val_of_index_zero win0_1 (0 : Fin 1) a (by fin_cases a <;> rfl) i))
theorem read_wo (c : Dev nD) : (win0_2.blk (0 : Fin 1)).view.read (Elt F) (m ((c : Thread nD τ).loc main_arg4)) = woV m c :=
  funext fun i => congrArg (m ((c : Thread nD τ).loc main_arg4)) (by
    funext a; exact Fin.ext (Pipeline.Window.rect_emb_val_of_index_zero win0_2 (0 : Fin 1) a (by fin_cases a <;> rfl) i))
omit [FloatOps F] [Named F] in
theorem read_part (X : FVec F S1x2048x1024 .f32) : (win1_0.blk (0 : Fin 1)).view.read (Elt F) X = X :=
  funext fun i => congrArg X (by
    funext a; exact Fin.ext (Pipeline.Window.rect_emb_val_of_index_zero win1_0 (0 : Fin 1) a (by fin_cases a <;> rfl) i))

theorem before₀_0 (c : Dev nD) (d) : (dat₀ m c).before (0 : Fin 4) t0_0 d = xV m c := by
  unfold Dat.before; rw [if_pos (fetch0_0 t0_0)]; exact read_x m c
theorem before₀_1 (c : Dev nD) (d) : (dat₀ m c).before (1 : Fin 4) t0_0 d = wqV m c := by
  unfold Dat.before; rw [if_pos (fetch0_1 t0_0)]; exact read_wq m c
theorem before₀_2 (c : Dev nD) (d) : (dat₀ m c).before (2 : Fin 4) t0_0 d = woV m c := by
  unfold Dat.before; rw [if_pos (fetch0_2 t0_0)]; exact read_wo m c
theorem before₁_0 (c : Dev nD) (d) : (dat₁ m c).before (0 : Fin 2) t1_0 d = part m c := by
  unfold Dat.before; rw [if_pos (fetch1_0 t1_0)]; exact read_part (part m c)

theorem after₀_3 (c : Dev nD) : (dat₀ m c).arrAt (3 : Fin 4) cfg0.N = part m c := by
  funext i
  refine ((dat₀ m c).arrAt_emb_eq_after_last (3 : Fin 4) t0_0 (by decide +kernel) i).trans ?_
  rfl
theorem after₁_1 (c : Dev nD) : (dat₁ m c).arrAt (1 : Fin 2) cfg1.N = outV (part m) c := by
  funext i
  refine ((dat₁ m c).arrAt_emb_eq_after_last (1 : Fin 2) t1_0 (by decide +kernel) i).trans ?_
  rfl

/-! ## Buffers named whole -/

omit [FloatOps F] [Named F] in
/-- A window that is a whole buffer owns the buffer. -/
theorem anyM_whole (c : Dev nD) {s : Shape} {e : EltTy} (M : Memref sig .tc .vmem s e) (h : M.view.set = Finset.univ) : (anyM c M : sProp 𝕄)
    = iprop(∃ f : Buf (Elt F) (M.view.loc (c : Thread nD τ)), M.view.loc (c : Thread nD τ) ↦{fullShare} f) := by
  unfold anyM; rw [h]

omit [FloatOps F] [Named F] in
theorem inPlace_eq (c : Dev nD) : (StableHlo.held (c.tc : Thread nD τ) inPlace (V₀ m c) : sProp 𝕄)
    = iprop(owns (c : Thread nD τ) (Core.kvH true) fullShare (kvV m c true) ∗ owns (c : Thread nD τ) (Core.kvH false) fullShare (kvV m c false)) := by
  have e1 := owns_whole (Ix := Unit) (Name := ℕ) (U := UU) (Lvl := ℕ) (Val := Elt F) (c : Thread nD τ) main_arg2 fullShare (m ((c : Thread nD τ).loc main_arg2))
  have e2 := owns_whole (Ix := Unit) (Name := ℕ) (U := UU) (Lvl := ℕ) (Val := Elt F) (c : Thread nD τ) main_arg3 fullShare (m ((c : Thread nD τ).loc main_arg3))
  refine Eq.trans ?_ (congrArg₂ BIBase.sep e1.symm e2.symm)
  unfold StableHlo.held inPlace
  rw [bigSep_eq_bigSepL_of_eq [Proc.devRef .tc main_arg2, Proc.devRef .tc main_arg3] (by decide) (by decide)]
  rfl

omit [FloatOps F] [Named F] in
/-- The first call's scratch buffers, lent. -/
theorem scratch_lent (c : Dev nD) : (Pipeline.scopedRest spec0 c : sProp 𝕄) ⊢ iprop(Core.scratch c ∗ (Core.scratch c -∗ Pipeline.scopedRest spec0 c)) := by
  have e : (Core.scratch c : sProp 𝕄) = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)) :=
    congrArg₂ BIBase.sep (anyM_whole (F := F) c (Memref.whole cc0_scratch0) (View.set_whole _))
      (congrArg₂ BIBase.sep (anyM_whole (F := F) c (Memref.whole cc0_scratch1) (View.set_whole _)) (anyM_whole (F := F) c (Memref.whole cc0_scratch2) (View.set_whole _)))
  rw [scopedRest0_eq, e]
  iintro ⟨H0, H1, H2, HR⟩
  isplitl [H0 H1 H2]
  · iframe H0 H1 H2
  iintro ⟨H0, H1, H2⟩
  iframe H0 H1 H2 HR

omit [FloatOps F] [Named F] in
theorem buffers_of (c : Dev nD) : (buffers c : sProp 𝕄) = iprop(((∃ f : Buf (Elt F) ((c : Thread nD τ).loc cc1_scratch0), ((c : Thread nD τ).loc cc1_scratch0) ↦{fullShare} f) ∗ (∃ f : Buf (Elt F) ((c : Thread nD τ).loc cc1_scratch4), ((c : Thread nD τ).loc cc1_scratch4) ↦{fullShare} f))
    ∗ ((∃ f : Buf (Elt F) ((c : Thread nD τ).loc cc1_scratch1), ((c : Thread nD τ).loc cc1_scratch1) ↦{fullShare} f) ∗ (∃ f : Buf (Elt F) ((c : Thread nD τ).loc cc1_scratch5), ((c : Thread nD τ).loc cc1_scratch5) ↦{fullShare} f))
    ∗ ((∃ f : Buf (Elt F) ((c : Thread nD τ).loc cc1_scratch2), ((c : Thread nD τ).loc cc1_scratch2) ↦{fullShare} f) ∗ (∃ f : Buf (Elt F) ((c : Thread nD τ).loc cc1_scratch6), ((c : Thread nD τ).loc cc1_scratch6) ↦{fullShare} f))
    ∗ ((∃ f : Buf (Elt F) ((c : Thread nD τ).loc cc1_scratch3), ((c : Thread nD τ).loc cc1_scratch3) ↦{fullShare} f) ∗ (∃ f : Buf (Elt F) ((c : Thread nD τ).loc cc1_scratch7), ((c : Thread nD τ).loc cc1_scratch7) ↦{fullShare} f))
    ∗ (∃ f : Buf (Elt F) ((c : Thread nD τ).loc cc1_scratch8), ((c : Thread nD τ).loc cc1_scratch8) ↦{fullShare} f) ∗ (∃ f : Buf (Elt F) ((c : Thread nD τ).loc cc1_scratch9), ((c : Thread nD τ).loc cc1_scratch9) ↦{fullShare} f)) := by
  have p : ∀ {s s' : Shape} {e e' : EltTy} (M : Memref sig .tc .vmem s e) (M' : Memref sig .tc .vmem s' e') (h : M.view.set = Finset.univ) (h' : M'.view.set = Finset.univ),
      (iprop(anyM c M ∗ anyM c M') : sProp 𝕄) = iprop((∃ f : Buf (Elt F) (M.view.loc (c : Thread nD τ)), M.view.loc (c : Thread nD τ) ↦{fullShare} f)
        ∗ ∃ f : Buf (Elt F) (M'.view.loc (c : Thread nD τ)), M'.view.loc (c : Thread nD τ) ↦{fullShare} f) := fun M M' h h' =>
    congrArg₂ BIBase.sep (anyM_whole c M h) (anyM_whole c M' h')
  exact congrArg₂ BIBase.sep (p (Memref.whole cc1_scratch0) (Memref.whole cc1_scratch4) (View.set_whole _) (View.set_whole _))
    (congrArg₂ BIBase.sep (p (Memref.whole cc1_scratch1) (Memref.whole cc1_scratch5) (View.set_whole _) (View.set_whole _))
    (congrArg₂ BIBase.sep (p (Memref.whole cc1_scratch2) (Memref.whole cc1_scratch6) (View.set_whole _) (View.set_whole _))
    (congrArg₂ BIBase.sep (p (Memref.whole cc1_scratch3) (Memref.whole cc1_scratch7) (View.set_whole _) (View.set_whole _))
    (p (Memref.whole cc1_scratch8) (Memref.whole cc1_scratch9) (View.set_whole _) (View.set_whole _)))))
omit [FloatOps F] [Named F] in
/-- The second call's scratch buffers, lent. -/
theorem buffers_lent (c : Dev nD) : (Pipeline.scopedRest spec1 c : sProp 𝕄) ⊢ iprop(buffers c ∗ (buffers c -∗ Pipeline.scopedRest spec1 c)) := by
  rw [scopedRest1_eq, buffers_of]
  iintro ⟨A0, A1, A2, A3, A4, A5, A6, H0, H1, H2, H3, H4, H5, H6, H7, H8, H9⟩
  isplitl [H0 H1 H2 H3 H4 H5 H6 H7 H8 H9]
  · iframe H0 H1 H2 H3 H4 H5 H6 H7 H8 H9
  iintro ⟨⟨H0, H4⟩, ⟨H1, H5⟩, ⟨H2, H6⟩, ⟨H3, H7⟩, H8, H9⟩
  iframe A0 A1 A2 A3 A4 A5 A6 H0 H1 H2 H3 H4 H5 H6 H7 H8 H9

omit [FloatOps F] [Named F] in
theorem ownSems₀_eq (c : Dev nD) : (Pipeline.ownSems0 (Ix := Unit) (Name := ℕ) (U := UU) (Lvl := ℕ) (Val := Elt F) (τ := τ) osem₀ c : sProp 𝕄) = Core.sems c := by
  unfold Pipeline.ownSems0 Core.sems
  rw [bigSep_univ_prod, bigSep_fin_two, bigSep_bool, bigSep_bool]
  rfl

/-! ## The bodies -/

section Bodies
variable [∀ e, Nonempty (Elt F e)]

abbrev bodyPre₀ (c : Dev nD) : sProp 𝕄 :=
  iprop(inv₀ m c ∗ (dat₀ m c).owesAt () t0_0.castSucc
    ∗ (∃ d, owns (c : Thread nD τ) Core.xM fullShare ((dat₀ m c).before (0 : Fin 4) t0_0 d))
    ∗ (∃ d, owns (c : Thread nD τ) Core.wqM fullShare ((dat₀ m c).before (1 : Fin 4) t0_0 d))
    ∗ (∃ d, owns (c : Thread nD τ) Core.woM fullShare ((dat₀ m c).before (2 : Fin 4) t0_0 d))
    ∗ (∃ d, owns (c : Thread nD τ) Core.oM fullShare ((dat₀ m c).before (3 : Fin 4) t0_0 d)))
abbrev bodyPost₀ (c : Dev nD) : sProp 𝕄 :=
  iprop(inv₀ m c ∗ (dat₀ m c).owesAt () t0_0.succ
    ∗ owns (c : Thread nD τ) Core.xM fullShare (xV m c) ∗ owns (c : Thread nD τ) Core.wqM fullShare (wqV m c)
    ∗ owns (c : Thread nD τ) Core.woM fullShare (woV m c) ∗ owns (c : Thread nD τ) Core.oM fullShare (part m c))

omit [FloatOps F] [Named F] [∀ e, Nonempty (Elt F e)] in
theorem any_of_owns (c : Dev nD) {s : Shape} {e : EltTy} (M : Memref sig .tc .vmem s e) (X : Vec F s e) :
    owns (c : Thread nD τ) M fullShare X ⊢ (anyM c M : sProp 𝕄) := by
  unfold owns anyM
  iintro ⟨%f, -, H⟩
  iexists f; iexact H

theorem sound₀ (c : Dev nD) : bodyPre₀ m c ⊢ Wp c (Core.at₀ (F := F)) fun _ => bodyPost₀ m c := by
  rw [Core.body_eq_run, Wp_deviceId]
  unfold bodyPre₀ bodyPost₀ inv₀ Dat.owesAt Pipeline.owesWithin
  rw [inPlace_eq]
  iintro ⟨⟨HS, Hp, Hkv, Hse, #HL⟩, ⟨%W, %hW, HO⟩, ⟨%d0, Hx⟩, ⟨%d1, Hwq⟩, ⟨%d2, Hwo⟩, ⟨%d3, Ho⟩⟩
  ihave Hx := (Entails.of_eq (congrArg (owns (c : Thread nD τ) Core.xM fullShare) (before₀_0 m c d0))) $$ Hx
  ihave Hwq := (Entails.of_eq (congrArg (owns (c : Thread nD τ) Core.wqM fullShare) (before₀_1 m c d1))) $$ Hwq
  ihave Hwo := (Entails.of_eq (congrArg (owns (c : Thread nD τ) Core.woM fullShare) (before₀_2 m c d2))) $$ Hwo
  ihave Ho := (any_of_owns c Core.oM _) $$ Ho
  ihave ⟨Hsc, Hback⟩ := (scratch_lent (F := F) c) $$ HS
  iapply (Core.spec_run c (woV m c) (kvV m c) (xV m c) (wqV m c) _)
  iframe HL
  isplitl [Hx Hwq Hwo Ho Hkv Hsc Hse HO]
  · unfold owing
    iframe Hx Hwq Hwo Ho Hkv Hsc Hse
    iexists W; iexact HO
  unfold owing
  iintro ⟨⟨Hx, Hwq, Hwo, Ho⟩, Hkv, Hsc, Hse, ⟨%W', HO⟩⟩
  ihave HS := Hback $$ Hsc
  isplitl [HS Hp Hkv Hse]
  · isplitl [HS]; · iexact HS
    isplitl [Hp]; · iexact Hp
    isplitl [Hkv]; · iexact Hkv
    iexact Hse
  iframe Hx Hwq Hwo
  isplitl [HO]
  · iexists W'
    isplitr
    · ipureintro; exact fun _ _ => Or.inl trivial
    · iexact HO
  · iexact Ho

set_option maxRecDepth 100000 in
theorem body₀ (c : Dev nD) : BodyObligation (dat₀ m c) (defs₀ (F := F)) 𝒱₀ () Set.univ := fun t => by
  rw [show t = t0_0 from fin_N0 t]
  rw [bigSep_W0, bigSep_W0]
  exact sound₀ m c

abbrev bodyPre₁ (c : Dev nD) : sProp 𝕄 :=
  iprop((start (part m) c ∗ Pipeline.scopedRest spec1 c ∗ ∃ r, prngReg c r) ∗ (dat₁ m c).owesAt () t1_0.castSucc
    ∗ (∃ d, owns (c : Thread nD τ) pM fullShare ((dat₁ m c).before (0 : Fin 2) t1_0 d))
    ∗ (∃ d, owns (c : Thread nD τ) oM fullShare ((dat₁ m c).before (1 : Fin 2) t1_0 d)))
abbrev bodyPost₁ (c : Dev nD) : sProp 𝕄 :=
  iprop((zeros' c ∗ Pipeline.scopedRest spec1 c ∗ ∃ r, prngReg c r) ∗ (dat₁ m c).owesAt () t1_0.succ
    ∗ owns (c : Thread nD τ) pM fullShare (part m c) ∗ owns (c : Thread nD τ) oM fullShare (outV (part m) c))

theorem sound₁ (c : Dev nD) : bodyPre₁ m c ⊢ Wp c (at₂₀ (cc1_ar_body (F := F))) fun _ => bodyPost₁ m c := by
  unfold bodyPre₁ bodyPost₁ Dat.owesAt Pipeline.owesWithin
  iintro ⟨⟨HS, HR, Hr⟩, ⟨%W, %hW, HO⟩, ⟨%d0, Hp⟩, ⟨%d1, Hout⟩⟩
  ihave Hp := (Entails.of_eq (congrArg (owns (c : Thread nD τ) pM fullShare) (before₁_0 m c d0))) $$ Hp
  ihave ⟨Hb, Hback⟩ := (buffers_lent (F := F) c) $$ HR
  iapply (run_start (part m) c _ (fun _ => bodyPost₁ m c)) $$ [HS Hb HO Hp Hout]
  · isplitl [HS Hb]
    · isplitl [HS]
      · iexact HS
      · iexact Hb
    isplitl [HO]; · unfold owing; iexists W; iexact HO
    isplitl [Hp]
    · iexact Hp
    · iexact Hout
  unfold owing
  iintro ⟨⟨Hb, HZ⟩, ⟨%W', HO⟩, Hp, Hout⟩
  ihave HR := Hback $$ Hb
  isplitl [HZ HR Hr]
  · iframe HZ HR Hr
  isplitl [HO]
  · unfold Dat.owesAt Pipeline.owesWithin
    iexists W'
    isplitr
    · ipureintro; exact fun _ _ => Or.inl trivial
    · iexact HO
  isplitl [Hp]
  · iexact Hp
  · iexact Hout

set_option maxRecDepth 100000 in
theorem body₁ (c : Dev nD) : BodyObligation (dat₁ m c) (defs₀ (F := F)) 𝒱₀ () Set.univ := fun t => by
  rw [show t = t1_0 from fin_N1 t]
  rw [bigSep_W1, bigSep_W1]
  exact sound₁ m c

end Bodies

end Cert.KernelIdeal.Whole

end
-- ==== Proof.Core.Main.lean ====
/-
The calls as two segments of the program, the launch that deals to both, and the final memory.
-/
module

public import proofs.«01_k».proof.Proof.Core.Launch

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs)
open Cert.KernelIdeal.Ring

variable {F : FTy → Type} [FloatOps F] [Named F]

local notation "𝕄" => MT nD τ sig Unit (Elt F) ℕ UU ℕ

variable [∀ e, Nonempty (Elt F e)]
variable (m : (ℓ : Loc nD τ sig) → Buf (Elt F) ℓ) (ρ : Dev nD → PrngReg)

/-- No call has a table to admit. -/
abbrev adm : (p : Fin 2) → (pcfgs (F := F) p).Adm := fun p => (cfgs p).toPCfg_adm

/-! ## The first call -/

theorem own₀ : Pipeline.OwnSemFacts spec0 osem₀ := by decide +kernel
theorem own₁ : Pipeline.OwnSemFacts spec1 osem where
  isScoped := by decide +kernel
  inj := fun a b h => by
    obtain ⟨hv, hk⟩ := smK_inj (SemLoc.dma.inj h)
    exact Prod.ext hv hk
  disj := fun k w s h => by
    have h2 := smK_ten_le k.1 k.2
    have h3 : ∀ (w : Fin 2) (s : Fin (spec1 w).nbuf), ((spec1 w).sem s).val < 10 := by decide +kernel
    rw [SemLoc.dma.inj h] at h2
    exact absurd h2 (Nat.not_le.mpr (h3 w s))

/-- The buffers beside a call's arrays. -/
abbrev beside₀ : Finset (DevRef τ sig) := ucRefs τ sig \ Pipeline.arrRefs (τ := τ) spec0
abbrev beside₁ : Finset (DevRef τ sig) := ucRefs τ sig \ Pipeline.arrRefs (τ := τ) spec1
theorem arr_sub₀ : Pipeline.arrRefs (τ := τ) spec0 ⊆ ucRefs τ sig := by decide +kernel
theorem arr_sub₁ : Pipeline.arrRefs (τ := τ) spec1 ⊆ ucRefs τ sig := by decide +kernel
theorem inPlace_sub : inPlace ⊆ beside₀ := by decide +kernel
theorem out_mem₀ : (Proc.devRef .tc main_v1 : DevRef τ sig) ∈ Pipeline.arrRefs (τ := τ) spec0 := by decide +kernel
theorem out_mem₁ : (Proc.devRef .tc main_v2 : DevRef τ sig) ∈ Pipeline.arrRefs (τ := τ) spec1 := by decide +kernel

theorem V₁_of (c : Dev nD) (b : DevRef τ sig) (h : b ≠ Proc.devRef .tc main_v1) : V₁ m c b = V₀ m c b := Function.update_of_ne h _ _
theorem V₁_out (c : Dev nD) : V₁ m c (Proc.devRef .tc main_v1) = part m c := Function.update_self _ _ _
theorem V₂_of (c : Dev nD) (b : DevRef τ sig) (h : b ≠ Proc.devRef .tc main_v2) : V₂ m c b = V₁ m c b := Function.update_of_ne h _ _
theorem V₂_out (c : Dev nD) : V₂ m c (Proc.devRef .tc main_v2) = outV (part m) c := Function.update_self _ _ _

theorem rest₀ (c : Dev nD) : ∀ b ∈ beside₀ \ inPlace, V₁ m c b = V₀ m c b := fun b hb =>
  V₁_of m c b fun h => (Finset.mem_sdiff.mp (Finset.mem_sdiff.mp hb).1).2 (h ▸ out_mem₀)
theorem rest₁ (c : Dev nD) : ∀ b ∈ beside₁ \ ∅, V₂ m c b = V₁ m c b := fun b hb =>
  V₂_of m c b fun h => (Finset.mem_sdiff.mp (Finset.mem_sdiff.mp hb).1).2 (h ▸ out_mem₁)

theorem stage₀ : ∀ (w : Fin 4) (s : Fin (spec0 w).nbuf), ((spec0 w).sem s).val < 10 := by decide +kernel
theorem stage₁ : ∀ (w : Fin 2) (s : Fin (spec1 w).nbuf), ((spec1 w).sem s).val < 10 := by decide +kernel
theorem lv_stage (c : Dev nD) (q : DmaSem sig) (hq : q.val < 10) : lv ((c : Thread nD τ), .dma q) () ≤ 0 :=
  le_of_eq (if_neg fun h => absurd h.1 (by omega))
theorem owed_lv (c : Dev nD) (g : GSem nD τ sig) (u : Unit) (h : 0 < O₀ c g u) : u ∈ L g ∧ 0 < lv g u := by
  rcases O₀_pos h with ⟨k, rfl⟩ | ⟨d, rfl⟩
  · exact ⟨Finset.mem_singleton_self _, by rw [lv_recv]; omega⟩
  · exact ⟨Finset.mem_singleton_self _, Nat.one_pos⟩

theorem share₀ (c : Dev nD) (w : Fin 4) : (dat₀ m c).share w = fullShare := by unfold Dat.share; split <;> rfl
theorem share₁ (c : Dev nD) (w : Fin 2) : (dat₁ m c).share w = fullShare := by unfold Dat.share; split <;> rfl

theorem hW₀ (c : Dev nD) (w : Fin 4) : (dat₀ m c).arrAt w 0 = V₀ m c (Proc.devRef .tc (Pipeline.arrRef spec0 w)) := by
  fin_cases w <;> rfl
theorem hW₀' (c : Dev nD) (w : Fin 4) : (dat₀ m c).arrAt w cfg0.N = V₁ m c (Proc.devRef .tc (Pipeline.arrRef spec0 w)) := by
  fin_cases w
  · exact ((dat₀ m c).arrAt_in (0 : Fin 4) rfl _).trans (V₁_of m c (Proc.devRef .tc main_arg0) (by decide)).symm
  · exact ((dat₀ m c).arrAt_in (1 : Fin 4) rfl _).trans (V₁_of m c (Proc.devRef .tc main_arg1) (by decide)).symm
  · exact ((dat₀ m c).arrAt_in (2 : Fin 4) rfl _).trans (V₁_of m c (Proc.devRef .tc main_arg4) (by decide)).symm
  · exact (after₀_3 m c).trans (V₁_out m c).symm
theorem hW₁ (c : Dev nD) (w : Fin 2) : (dat₁ m c).arrAt w 0 = V₁ m c (Proc.devRef .tc (Pipeline.arrRef spec1 w)) := by
  fin_cases w
  · exact (V₁_out m c).symm
  · exact (V₁_of m c (Proc.devRef .tc main_v2) (by decide)).symm
theorem hW₁' (c : Dev nD) (w : Fin 2) : (dat₁ m c).arrAt w cfg1.N = V₂ m c (Proc.devRef .tc (Pipeline.arrRef spec1 w)) := by
  fin_cases w
  · exact ((dat₁ m c).arrAt_in (0 : Fin 2) rfl _).trans ((V₂_of m c (Proc.devRef .tc main_v1) (by decide)).trans (V₁_out m c)).symm
  · exact (after₁_1 m c).trans (V₂_out m c).symm

abbrev Xk₀ (c : Dev nD) : sProp 𝕄 := iprop(Pipeline.ownSems0 (Ix := Unit) (Name := ℕ) (U := UU) (Lvl := ℕ) (Val := Elt F) (τ := τ) osem₀ c ∗ levAts L lv)
theorem hin₀ (c : Dev nD) : iprop(Pipeline.scopedRest spec0 c ∗ (∃ r, prngReg c r) ∗ StableHlo.held (c.tc : Thread nD τ) inPlace (V₀ m c) ∗ Xk₀ c) ⊢ (inv₀ m c : sProp 𝕄) := by
  unfold inv₀ Xk₀
  rw [ownSems₀_eq]
theorem hout₀ (c : Dev nD) : (inv₀ m c : sProp 𝕄)
    ⊢ iprop(Pipeline.scopedRest spec0 c ∗ (∃ r, prngReg c r) ∗ StableHlo.held (c.tc : Thread nD τ) inPlace (V₁ m c)
      ∗ Pipeline.ownSems0 (Ix := Unit) (Name := ℕ) (U := UU) (Lvl := ℕ) (Val := Elt F) (τ := τ) osem₀ c ∗ emp) := by
  have e : (StableHlo.held (c.tc : Thread nD τ) inPlace (V₁ m c) : sProp 𝕄) = StableHlo.held (c.tc : Thread nD τ) inPlace (V₀ m c) :=
    StableHlo.held_congr (c.tc : Thread nD τ) fun b hb => V₁_of m c b fun h => absurd (h ▸ hb) (by decide)
  unfold inv₀
  rw [ownSems₀_eq, e]
  iintro ⟨H1, H2, H3, H4, -⟩
  iframe H1 H2 H3 H4

/-- What a device keeps for the second call. -/
def kept (c : Dev nD) : sProp 𝕄 :=
  iprop(dormant (part m) c ∗ (cred (tallyAt (barCell c) () 2) ∗ bigSep Finset.univ fun k : Key => cred (tallyAt (xCell true k c) () N)))

set_option backward.isDefEq.respectTransparency.types false in
def reg₀ : Pipeline.RegionSeg (pcfgs (F := F)) adm (pdats m) () defs₀ 𝒱₀ L lv 0 :=
  Pipeline.RegionSeg.ofTalk (pcfgs (F := F)) adm (pdats m) () defs₀ 𝒱₀ L lv 0 osem₀ own₀
    inPlace beside₀ inPlace_sub launch0.toP rfl (fun c => (body₀ m c).loose)
    O₀ (fun _ => 0) (fun c => (add_zero (O₀ c)).symm) (fun _ => rfl) (fun _ => rfl) (share₀ m)
    (V₀ m) (V₁ m) (rest₀ m)
    (fun _ => iprop(emp)) (fun _ => iprop(emp)) Xk₀ (fun _ => iprop(emp))
    (fun c => by iintro ⟨-, H1, H2⟩; imodintro; isplitl [H1]; · iexact H1
                 iexact H2)
    (hin₀ m) (hout₀ m)
    (fun c => by iintro H; imodintro; iexact H)
    (fun _ => 0)
    ⟨fun c w s => Finset.mem_singleton_self _, fun c w s => lv_stage c _ (stage₀ w s), fun c t g i h => owed_lv c g i h⟩
    (kept m)
    (hW₀ m) (hW₀' m)

/-! ## The second call -/

theorem hopen₁ (c : Dev nD) : iprop(kept m c ∗ Pipeline.ownSems0 osem c ∗ levAts L lv) ⊢ |={Set.univ}=> start (part m) c := by
  unfold kept start
  iintro ⟨⟨Hd, Hc⟩, Hs, HL⟩
  imod (opening (part m) c) $$ [Hd Hs] with HG
  · isplitl [Hd]
    · iexact Hd
    · iexact Hs
  imodintro
  isplitl [HG]; · iexact HG
  isplitl [Hc]
  · iexact Hc
  · iexact HL
theorem hin₁ (c : Dev nD) : iprop(Pipeline.scopedRest spec1 c ∗ (∃ r, prngReg c r) ∗ StableHlo.held (c.tc : Thread nD τ) ∅ (V₁ m c) ∗ start (part m) c)
    ⊢ (pdats m 1 c).Φ 0 := by
  rw [show (pdats m 1 c).Φ 0 = iprop(start (part m) c ∗ Pipeline.scopedRest spec1 c ∗ ∃ r, prngReg c r) from rfl]
  iintro ⟨H1, H2, -, H3⟩
  isplitl [H3]; · iexact H3
  isplitl [H1]
  · iexact H1
  · iexact H2
theorem hout₁ (c : Dev nD) : (pdats m 1 c).Φ (Fin.last _)
    ⊢ iprop(Pipeline.scopedRest spec1 c ∗ (∃ r, prngReg c r) ∗ StableHlo.held (c.tc : Thread nD τ) ∅ (V₂ m c) ∗ Pipeline.ownSems0 osem c ∗ semVal (barCell c) 0) := by
  have e : (StableHlo.held (c.tc : Thread nD τ) ∅ (V₂ m c) : sProp 𝕄) = BI.emp := by unfold StableHlo.held; exact BI.bigSep_empty
  rw [show (pdats m 1 c).Φ (Fin.last _) = iprop(zeros' c ∗ Pipeline.scopedRest spec1 c ∗ ∃ r, prngReg c r) from rfl, e, ownSems0_eq]
  unfold zeros'
  iintro ⟨⟨HzR, HzS, HzB⟩, H1, H2⟩
  isplitl [H1]; · iexact H1
  isplitl [H2]; · iexact H2
  isplitr; · iempintro
  isplitl [HzR HzS]
  · isplitl [HzR]
    · iexact HzR
    · iexact HzS
  · iexact HzB

theorem owed₁ (c : Dev nD) (t : Fin ((Pipeline.pin (pcfgs (F := F)) adm 1).N + 1)) (g : GSem nD τ sig) (i : Unit) (h : 0 < (pdats (F := F) m 1 c).owed t g i) :
    i ∈ L g ∧ 0 < lv g i := by
  rcases t with ⟨_ | t, ht⟩
  · exact owed_lv c g i h
  · exact absurd h (Nat.lt_irrefl 0)

set_option backward.isDefEq.respectTransparency.types false in
def reg₁ : Pipeline.RegionSeg (pcfgs (F := F)) adm (pdats m) () defs₀ 𝒱₀ L lv 1 :=
  Pipeline.RegionSeg.ofTalk (pcfgs (F := F)) adm (pdats m) () defs₀ 𝒱₀ L lv 1 osem own₁
    ∅ beside₁ (Finset.empty_subset _) launch1.toP rfl (fun c => (body₁ m c).loose)
    (fun _ => 0) O₀ (fun c => (zero_add (O₀ c)).symm) (fun _ => rfl) (fun _ => rfl) (share₁ m)
    (V₁ m) (V₂ m) (rest₁ m)
    (kept m) (fun c => semVal (barCell c) 0) (start (part m)) (fun c => semVal (barCell c) 0)
    (hopen₁ m) (hin₁ m) (hout₁ m)
    (fun c => by iintro H; imodintro; iexact H)
    (fun _ => 0)
    ⟨fun c w s => Finset.mem_singleton_self _, fun c w s => lv_stage c _ (stage₁ w s), fun c t g i h => owed₁ m c t g i h⟩
    (fun _ => iprop(emp))
    (hW₁ m) (hW₁' m)

/-! ## The program -/

/-- A device at launch, between the calls, and at the end. -/
abbrev T₀ (c : Dev nD) : sProp 𝕄 :=
  iprop(StableHlo.held (c.tc : Thread nD τ) (ucRefs τ sig) (V₀ m c) ∗ kept m c ∗ (∃ r, prngReg c r) ∗ ∃ W, owes (c : Thread nD τ) (O₀ c) W)
abbrev T₁ (c : Dev nD) : sProp 𝕄 :=
  iprop(StableHlo.held (c.tc : Thread nD τ) (ucRefs τ sig) (V₁ m c) ∗ kept m c ∗ (∃ r, prngReg c r) ∗ ∃ W, owes (c : Thread nD τ) (O₀ c) W)
abbrev Tₙ (c : Dev nD) : sProp 𝕄 := iprop(StableHlo.held (c.tc : Thread nD τ) (ucRefs τ sig) (V₂ m c) ∗ semVal (barCell c) 0)

theorem first_in (c : Dev nD) : T₀ m c ⊢ (reg₀ m).pre c := by
  show _ ⊢ iprop(StableHlo.held (c.tc : Thread nD τ) (Pipeline.arrRefs (τ := τ) spec0) (V₀ m c) ∗ (∃ r, prngReg c r)
    ∗ (StableHlo.held (c.tc : Thread nD τ) beside₀ (V₀ m c) ∗ kept m c) ∗ emp ∗ ∃ Wd, owes (c : Thread nD τ) (O₀ c + 0) Wd)
  unfold T₀
  rw [StableHlo.held_sub_split (c.tc : Thread nD τ) arr_sub₀ (V₀ m c), add_zero]
  iintro ⟨⟨Ha, Hb⟩, HK, Hp, HO⟩
  iframe Ha Hb HK Hp HO

theorem first_out (c : Dev nD) : (reg₀ m).post c ⊢ T₁ m c := by
  show iprop(StableHlo.held (c.tc : Thread nD τ) (Pipeline.arrRefs (τ := τ) spec0) (V₁ m c) ∗ (∃ r, prngReg c r)
    ∗ (StableHlo.held (c.tc : Thread nD τ) beside₀ (V₁ m c) ∗ kept m c) ∗ emp ∗ ∃ Wd, owes (c : Thread nD τ) (O₀ c) Wd) ⊢ _
  unfold T₁
  rw [StableHlo.held_sub_split (c.tc : Thread nD τ) arr_sub₀ (V₁ m c)]
  iintro ⟨Ha, Hp, ⟨Hb, HK⟩, -, HO⟩
  iframe Ha Hb HK Hp HO

theorem second_in (c : Dev nD) : T₁ m c ⊢ (reg₁ m).pre c := by
  show _ ⊢ iprop(StableHlo.held (c.tc : Thread nD τ) (Pipeline.arrRefs (τ := τ) spec1) (V₁ m c) ∗ (∃ r, prngReg c r)
    ∗ (StableHlo.held (c.tc : Thread nD τ) beside₁ (V₁ m c) ∗ emp) ∗ kept m c ∗ ∃ Wd, owes (c : Thread nD τ) (0 + O₀ c) Wd)
  unfold T₁
  rw [StableHlo.held_sub_split (c.tc : Thread nD τ) arr_sub₁ (V₁ m c), zero_add]
  iintro ⟨⟨Ha, Hb⟩, HK, Hp, HO⟩
  iframe Ha Hb HK Hp HO

theorem second_out (c : Dev nD) : (reg₁ m).post c ⊢ iprop(Tₙ m c ∗ ∃ W, owes (c.tc : Thread nD τ) (0 : CellTallies nD τ sig Unit) W) := by
  show iprop(StableHlo.held (c.tc : Thread nD τ) (Pipeline.arrRefs (τ := τ) spec1) (V₂ m c) ∗ (∃ r, prngReg c r)
    ∗ (StableHlo.held (c.tc : Thread nD τ) beside₁ (V₂ m c) ∗ emp) ∗ semVal (barCell c) 0 ∗ ∃ Wd, owes (c : Thread nD τ) (0 : CellTallies nD τ sig Unit) Wd) ⊢ _
  unfold Tₙ
  rw [StableHlo.held_sub_split (c.tc : Thread nD τ) arr_sub₁ (V₂ m c)]
  iintro ⟨Ha, -, ⟨Hb, -⟩, Hs, HO⟩
  iframe Ha Hb Hs HO

/-- The program as its two calls. -/
def segs : List (Pipeline.Seg (pcfgs (F := F)) adm (pdats m) () defs₀ 𝒱₀ L lv) := [.region (reg₀ m), .region (reg₁ m)]

/-! ## The launch -/

/-- A resource that one device alone holds. -/
def solely (d : Dev nD) (X : sProp 𝕄) (c : Dev nD) : sProp 𝕄 := if c = d then X else iprop(emp)

theorem bigSep_solely (d : Dev nD) (X : sProp 𝕄) : bigSep Finset.univ (solely d X) = X := by
  have e : bigSep (Finset.univ.erase d) (solely d X) = bigSep (Finset.univ.erase d) fun _ : Dev nD => (iprop(emp) : sProp 𝕄) :=
    bigSep_congr fun c h => if_neg (Finset.ne_of_mem_erase h)
  have e' : bigSep (Finset.univ.erase d) (fun _ : Dev nD => (iprop(emp) : sProp 𝕄)) = BI.emp := BI.bigSep_emp_const _
  rw [bigSep_univ_at _ d, e, e', show solely d X d = X from if_pos rfl]
  exact BI.equiv_iff.mp sep_emp

/-- The tokens and positions of the all-reduce, dealt to one device and shared out from there. -/
abbrev purse : sProp 𝕄 := BI.own (ER (launchOf barCells scCells ringToks))

def u₀ : UU := (initOf (Pipeline.cells cfgs cellOf_inj) (Pipeline.launchToks cfgs cellOf_inj), (launchOf barCells scCells ringToks, 1))

theorem u₀_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- What a device takes from the launch, apart from its share of the all-reduce. -/
abbrev taken (c : Dev nD) : sProp 𝕄 :=
  iprop(StableHlo.held (c.tc : Thread nD τ) (ucRefs τ sig) (V₀ m c)
    ∗ (cred (tallyAt (barCell c) () 2) ∗ bigSep Finset.univ fun k : Key => cred (tallyAt (xCell true k c) () N))
    ∗ (∃ r, prngReg c r) ∗ ∃ W, owes (c : Thread nD τ) (O₀ c) W)

theorem take (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ solely 0 purse c)
    ⊢ (iprop(taken m c ∗ semVal (barCell c) 0 ∗ solely 0 purse c) : sProp 𝕄) := by
  rw [show unscopedBufs c (fun b => m ((c.tc : Thread nD τ).loc b)) = StableHlo.held (c.tc : Thread nD τ) (ucRefs τ sig) (V₀ m c) from
    Pipeline.unscopedBufs_held c (V₀ m c), unscopedSems0_eq]
  unfold taken
  iintro ⟨Hh, Hs, HO, Hc, Hp, HG⟩
  ihave Hc' := (creds (F := F) c) $$ Hc
  iframe Hh Hs HG Hc'
  isplitl [Hp]
  · iexists (ρ c); iexact Hp
  · iexists ∅; iexact HO

theorem init_apart (Φ Ψ : Dev nD → sProp 𝕄) : (bigSep Finset.univ fun c : Dev nD => iprop(Φ c ∗ Ψ c)) = iprop(bigSep Finset.univ Φ ∗ bigSep Finset.univ Ψ) :=
  bigSep_sep' Finset.univ Φ Ψ

theorem init : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ solely 0 purse c)) ∗ levAts L lv)
    ⊢ (|={Set.univ}=> bigSep Finset.univ (T₀ m) : sProp 𝕄) := by
  have h1 : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ solely 0 purse c))
      ⊢ (bigSep Finset.univ fun c : Dev nD => iprop(taken m c ∗ semVal (barCell c) 0 ∗ solely 0 purse c) : sProp 𝕄) := bigSep_mono fun c _ => take m ρ c
  have h2 (c : Dev nD) : iprop(taken m c ∗ dormant (part m) c) ⊢ T₀ m c := by
    unfold taken T₀ kept
    iintro ⟨⟨Hh, Hc, Hp, HO⟩, Hd⟩
    iframe Hh Hc Hp HO Hd
  iintro ⟨H, -⟩
  ihave H := h1 $$ H
  ihave ⟨Ht, H⟩ := (Entails.of_eq (init_apart (F := F) (taken m) fun c => iprop(semVal (barCell c) 0 ∗ solely 0 purse c))) $$ H
  ihave ⟨Hs, HG⟩ := (Entails.of_eq (init_apart (F := F) (fun c => semVal (barCell c) 0) (solely 0 purse))) $$ H
  imod (fund (part m)) $$ [Hs HG] with Hd
  · isplitl [Hs]
    · iexact Hs
    · iapply (Entails.of_eq (bigSep_solely (F := F) 0 purse)) $$ HG
  imodintro
  iapply (show (bigSep Finset.univ fun c : Dev nD => iprop(taken m c ∗ dormant (part m) c)) ⊢ bigSep Finset.univ (T₀ m) from bigSep_mono fun c _ => h2 c)
  iapply (Entails.of_eq (init_apart (F := F) (taken m) (dormant (part m))).symm)
  isplitl [Ht]
  · iexact Ht
  · iexact Hd

/-! ## The final memory -/

theorem held_list (c : Dev nD) (V : Valuation τ sig (Elt F)) : (StableHlo.held (c.tc : Thread nD τ) (ucRefs τ sig) V : sProp 𝕄)
    = iprop(((c : Thread nD τ).loc main_arg0 ↦{fullShare} V (Proc.devRef .tc main_arg0)) ∗ ((c : Thread nD τ).loc main_arg1 ↦{fullShare} V (Proc.devRef .tc main_arg1))
      ∗ ((c : Thread nD τ).loc main_arg2 ↦{fullShare} V (Proc.devRef .tc main_arg2)) ∗ ((c : Thread nD τ).loc main_arg3 ↦{fullShare} V (Proc.devRef .tc main_arg3))
      ∗ ((c : Thread nD τ).loc main_arg4 ↦{fullShare} V (Proc.devRef .tc main_arg4)) ∗ ((c : Thread nD τ).loc main_v1 ↦{fullShare} V (Proc.devRef .tc main_v1))
      ∗ ((c : Thread nD τ).loc main_v2 ↦{fullShare} V (Proc.devRef .tc main_v2))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2] (by decide +kernel) (by decide)]
  rfl

theorem unscoped_eq : ∀ sm : SemLoc sig, sm.isScoped .tc = false → sm = .reg barS := by decide +kernel

set_option backward.isDefEq.respectTransparency.types false in
/-- Every execution ends; each device then holds the sum of all devices' partial products and its five arguments as they were. -/
theorem run_main : θ_run defs (onTc (τ := τ) (main (F := F))) (s₀ m ρ) (fun r =>
    (∀ c : Dev nD, r.2.mem ((c : Thread nD τ).loc main_v2) = outV (part m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (reg₀ m) (reg₁ m) c]; exact .rfl)
    (by simp only [segs, Pipeline.Seg.pipes_region, Pipeline.Seg.pipes_nil]; decide)
    (O₀ := O₀) (hL := L_of_ne) (G := solely 0 purse) (u₀ := u₀)
    (hu₀ := by
      unfold u₀
      iintro Hu
      ihave ⟨HP, HX⟩ := (u₀_split _ _) $$ Hu
      imodintro
      isplitl [HP]; · iexact HP
      iapply (Entails.of_eq (bigSep_solely (F := F) 0 purse).symm)
      iexact HX)
    (T₀ := T₀ m) (Tₙ := Tₙ m)
    (hch := ⟨first_in m, fun c => (first_out m c).trans (second_in m c), second_out m⟩)
    (hinit := init m ρ)
    (QY := fun c s => (s.mem ((c : Thread nD τ).loc main_v2) = outV (part m) c
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)) ∧ s.sem (barCell c) = 0)
    (hfin := fun c s' => by
      have k (b : DevRef τ sig) (h1 : b ≠ Proc.devRef .tc main_v2) (h2 : b ≠ Proc.devRef .tc main_v1) : V₂ m c b = V₀ m c b :=
        (V₂_of m c b h1).trans (V₁_of m c b h2)
      dsimp only [Tₙ]
      rw [held_list]
      iintro ⟨⟨⟨H0, H1, H2, H3, H4, -, HV⟩, Hb⟩, HSI⟩
      icombine HSI H0 gives %h0
      icombine HSI H1 gives %h1
      icombine HSI H2 gives %h2
      icombine HSI H3 gives %h3
      icombine HSI H4 gives %h4
      icombine HSI HV gives %hv
      icombine HSI Hb gives %hb
      imodintro
      isplitr
      · ipureintro
        exact ⟨⟨(Buf.eq_of_forall_mem_univ hv).trans (V₂_out m c), (Buf.eq_of_forall_mem_univ h0).trans (k _ (by decide) (by decide)),
          (Buf.eq_of_forall_mem_univ h1).trans (k _ (by decide) (by decide)), (Buf.eq_of_forall_mem_univ h2).trans (k _ (by decide) (by decide)),
          (Buf.eq_of_forall_mem_univ h3).trans (k _ (by decide) (by decide)), (Buf.eq_of_forall_mem_univ h4).trans (k _ (by decide) (by decide))⟩,
          by simpa using hb⟩
      iexact HSI)
    (hQ := fun s h hs => ⟨fun c => (h c).1, sem_eq_zero hs fun c sm hsm => by
      obtain rfl := unscoped_eq sm hsm
      exact (h c).2⟩)

end Cert.KernelIdeal.Whole

end
-- ==== Proof.Ring.Value.lean ====
/-
What each device ends with over exact numbers: the sum of the sixteen partial products.
-/
module

public import proofs.«01_k».proof.Proof.Ring.Start
public import Idealize.ShloMosaic.Lib.ValueLayout
public import Idealize.ShloMosaic.Lib.IdealHost

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

/-! ## The readings of the casts -/

theorem round_half (v : FVec Ideal S1x2048x512 .f32) (r : Fin 2048) (q : Fin 512) : k1_pay1 (F := Ideal) v (ix2 r q) = v (ix3 0 r q) := by
  unfold k1_pay1
  simp only [shapeCast_self]
  exact shapeCast_1ab_ab_apply (a := 2048) (b := 512) v _ r q
theorem put_slot (v : FVec Ideal S128x512 .bf16) (u : Fin 1) (r : Fin 128) (q : Fin 512) : k1_pay3 (F := Ideal) v (ix3 u r q) = v (ix2 r q) :=
  shapeCast_ab_1ab_apply (a := 128) (b := 512) v _ u r q
theorem add_block (v : FVec Ideal S1x128x512 .bf16) (w : FVec Ideal S1x128x512 .f32) (r : Fin 128) (q : Fin 512) :
    k1_pay40 (F := Ideal) v w (ix2 r q) = v (ix3 0 r q) + w (ix3 0 r q) :=
  congrArg₂ (fun a b : EReal => a + b) (shapeCast_1ab_ab_apply (a := 128) (b := 512) v _ r q) (shapeCast_1ab_ab_apply (a := 128) (b := 512) w _ r q)
theorem round_sum (v : FVec Ideal S1x128x512 .bf16) (w : FVec Ideal S1x128x512 .f32) : k1_pay42 (F := Ideal) v w = k1_pay40 (F := Ideal) v w := by
  unfold k1_pay42
  simp only [shapeCast_self]
  rfl
theorem put_sum (v : FVec Ideal S128x512 .f32) (u : Fin 1) (r : Fin 128) (q : Fin 512) : k1_pay43 (F := Ideal) v (ix3 u r q) = v (ix2 r q) :=
  shapeCast_ab_1ab_apply (a := 128) (b := 512) v _ u r q
theorem put_got (v : FVec Ideal S1x128x512 .bf16) (u : Fin 1) (r : Fin 128) (q : Fin 512) : k1_pay45 (F := Ideal) v (ix3 u r q) = v (ix3 0 r q) := by
  unfold k1_pay45
  refine (shapeCast_ab_1ab_apply (a := 128) (b := 512) (extf (F := Ideal) .f32 (shapeCast S128x512 v shapeCasts_S1x128x512_S128x512) bitsLt_bf16_f32) shapeCasts_S128x512_S1x128x512 u r q).trans ?_
  exact shapeCast_1ab_ab_apply (a := 128) (b := 512) v shapeCasts_S1x128x512_S128x512 r q

/-! ## The sum around the ring -/

variable (P : Dev nD → FVec Ideal S1x2048x1024 .f32)

/-- The entry of the result at row `r` of chunk `k`, column `q` of a half. -/
def at3 (s : Bool) (k : Fin 16) (r : Fin 128) (q : Fin 512) : S1x2048x1024.Idx := (blkR (s, k)).emb (ix3 0 r q)

/-- The device `j` steps back against a direction. -/
def back (s : Bool) (j : ℕ) (c : Dev nD) : Dev nD := (nb (!s))^[j] c
theorem back_succ (s : Bool) (j : ℕ) (c : Dev nD) : back s j (nb (!s) c) = back s (j + 1) c := rfl
theorem back_all : ∀ (s : Bool) (c : Dev nD), Function.Bijective fun j : Fin 16 => back s j.val c := by decide +kernel

theorem chunk_at (s : Bool) (c : Dev nD) (k : Fin 16) (r : Fin 128) (q : Fin 512) : chunk P s c k (ix2 r q) = P c (at3 s k r q) := by
  have hr : r.val < 128 := r.isLt
  have hk : k.val < 16 := k.isLt
  have e : (Rect.unit (s := S2048x512) (rowOff k) S128x512.size (rowOff_inb k)).toLoadRect.idx (ix2 r q)
      = (ix2 (⟨128 * k.val + r.val, by omega⟩ : Fin 2048) q : S2048x512.Idx) := by
    funext a; apply Fin.ext
    match a with
    | ⟨0, _⟩ => show 128 * k.val + 1 * r.val = 128 * k.val + r.val; omega
    | ⟨1, _⟩ => show 0 + 1 * q.val = q.val; omega
  unfold chunk pbV
  rw [e, round_half]
  refine congrArg (P c) ?_
  unfold at3
  funext a; apply Fin.ext
  rw [blkR_val]
  match a with
  | ⟨0, _⟩ => cases s <;> rfl
  | ⟨1, _⟩ => cases s <;> (show 0 + 1 * (128 * k.val + r.val) = 128 * k.val + r.val; omega)
  | ⟨2, _⟩ =>
    cases s
    · show 512 + 1 * q.val = 512 + q.val; omega
    · show 0 + 1 * q.val = 0 + q.val; omega

theorem pBlk_at (s : Bool) (c : Dev nD) (k : Fin 16) (r : Fin 128) (q : Fin 512) : pBlk P s c k (ix3 0 r q) = P c (at3 s k r q) := rfl

theorem sumV_at (s : Bool) (r : Fin 128) (q : Fin 512) : ∀ (h : ℕ) (hh : h < 15) (c : Dev nD),
    sumV P s h hh c (ix2 r q) = ∑ j ∈ Finset.range (h + 1), P (back s j c) (at3 s (chk s ⟨h, by omega⟩ c) r q)
  | 0, _, c => by
    rw [Finset.sum_range_one]
    exact chunk_at P s c (chk s 0 c) r q
  | h + 1, hh, c => by
    rw [Finset.sum_range_succ']
    refine congrArg₂ (fun a b : EReal => a + b) ((sumV_at s r q h (by omega) (nb (!s) c)).trans ?_) (chunk_at P s c _ r q)
    refine Finset.sum_congr rfl fun j _ => ?_
    rw [back_succ]
    exact congrArg (fun k => P (back s (j + 1) c) (at3 s k r q)) (chk_src s ⟨h, by omega⟩ c)

theorem accV_at (s : Bool) (c : Dev nD) (r : Fin 128) (q : Fin 512) : accV P s c (ix2 r q) = ∑ d : Dev nD, P d (at3 s (own s c) r q) := by
  unfold accV
  rw [add_block, put_slot, pBlk_at, sumV_at]
  have e : chk s ⟨14, by decide⟩ (nb (!s) c) = own s c := (chk_src s 14 c).trans (chk_own s c)
  rw [e]
  have h := Finset.sum_range_succ' (fun j => P (back s j c) (at3 s (own s c) r q)) 15
  refine h.symm.trans ?_
  rw [Finset.sum_range (fun j => P (back s j c) (at3 s (own s c) r q))]
  exact (back_all s c).sum_comp fun d => P d (at3 s (own s c) r q)

theorem redV_at (s : Bool) (c : Dev nD) (r : Fin 128) (q : Fin 512) : redV P s c (ix2 r q) = ∑ d : Dev nD, P d (at3 s (own s c) r q) := by
  unfold redV
  rw [round_sum]
  exact accV_at P s c r q

theorem outBlk_at (c : Dev nD) (s : Bool) (k : Fin 16) (u : Fin 1) (r : Fin 128) (q : Fin 512) :
    outBlk P c s k (ix3 u r q) = ∑ d : Dev nD, P d (at3 s k r q) := by
  unfold outBlk
  split
  · rename_i h
    rw [put_sum, accV_at, ← h, own_owner]
  · rw [put_got, put_slot, redV_at, own_owner]

/-- Each device ends with the sum of the partial products of all. -/
theorem outV_at (c : Dev nD) (i : S1x2048x1024.Idx) : outV P c i = ∑ d : Dev nD, P d i := by
  obtain ⟨r, hr⟩ : ∃ r : Fin 128, r = inBlk i 1 := ⟨_, rfl⟩
  obtain ⟨q, hq⟩ : ∃ q : Fin 512, q = inBlk i 2 := ⟨_, rfl⟩
  have e : inBlk i = (ix3 (0 : Fin 1) r q : S1x128x512.Idx) := by
    subst hr hq
    funext a
    match a with
    | ⟨0, _⟩ => rfl
    | ⟨1, _⟩ => rfl
    | ⟨2, _⟩ => rfl
  unfold outV
  rw [e, outBlk_at]
  unfold at3
  rw [← e, blk_emb]

end Cert.KernelIdeal.Ring

end
-- ==== Proof.Value.Attn.lean ====
/-
Attention over exact numbers, for one query.

A row of scores is turned into weights by exponentials divided by their sum; keys whose score is minus infinity weigh
nothing, so a row may be cut after its last seen key.
-/
module

public import Idealize.ShloMosaic.Lib.Pointwise
public import Idealize.ShloMosaic.Lib.IdealHost

@[expose] public section

noncomputable section

namespace Cert.Attn

open Idealize.ShloMosaic
open scoped BigOperators

/-! ## Finite numbers -/

/-- A number that is neither infinity. -/
def IsFin (x : EReal) : Prop := ∃ r : ℝ, x = r

theorem IsFin.mul {x y : EReal} : IsFin x → IsFin y → IsFin (x * y)
  | ⟨r, hr⟩, ⟨s, hs⟩ => ⟨r * s, by rw [hr, hs, EReal.coe_mul]⟩
theorem IsFin.sum {ι : Type} [Fintype ι] {f : ι → EReal} (h : ∀ i, IsFin (f i)) : IsFin (∑ i, f i) := by
  classical
  refine Finset.induction_on (motive := fun S : Finset ι => IsFin (∑ i ∈ S, f i)) Finset.univ ⟨0, by simp⟩ fun i S hi hS => ?_
  obtain ⟨⟨r, hr⟩, s, hs⟩ := h i, hS
  exact ⟨r + s, by rw [Finset.sum_insert hi, hr, hs, EReal.coe_add]⟩
theorem fin_of {x : EReal} (h : max x (-x) < ⊤) : IsFin x := by
  induction x using EReal.rec with
  | bot => simp at h
  | top => simp at h
  | coe r => exact ⟨r, rfl⟩

/-! ## The weights of a row -/

variable {N N' : ℕ}

def top (s : Fin N → EReal) : EReal := Finset.univ.fold max ⊥ s
def raw (s : Fin N → EReal) (j : Fin N) : EReal := Ideal.exp (s j - top s)
/-- A row's scores against its values. -/
def att (s v : Fin N → EReal) : EReal := ∑ j, Ideal.div (raw s j) (∑ k, raw s k) * v j

theorem le_top (s : Fin N → EReal) (j : Fin N) : s j ≤ top s :=
  (Finset.le_fold_max (s j)).2 (.inr ⟨j, Finset.mem_univ j, le_rfl⟩)
theorem top_le {s : Fin N → EReal} {b : EReal} (h : ∀ j, s j ≤ b) : top s ≤ b :=
  (Finset.fold_max_le b).2 ⟨bot_le, fun j _ => h j⟩

theorem raw_bot {s : Fin N → EReal} {j : Fin N} (h : s j = ⊥) : raw s j = 0 := by
  unfold raw
  rw [h, EReal.bot_sub, Ideal.exp_bot]

theorem exp_nonneg (x : EReal) : 0 ≤ Ideal.exp x := by
  induction x using EReal.rec with
  | bot => exact le_rfl
  | top => exact (_root_.le_top : (0 : EReal) ≤ ⊤)
  | coe r => exact EReal.coe_nonneg.2 (Real.exp_pos r).le

/-- A row of finite scores and minus infinities, not all of them minus infinity, has a sum other than zero. -/
theorem sum_ne {s : Fin N → EReal} (h : ∀ j, s j = ⊥ ∨ IsFin (s j)) {i : Fin N} (hi : IsFin (s i)) : (∑ k, raw s k) ≠ 0 := by
  obtain ⟨r, hr⟩ := hi
  have h1 : top s ≠ ⊤ := by
    intro e
    have hl : ∀ j, s j < ⊤ := fun j => by
      rcases h j with h | ⟨x, hx⟩
      · rw [h]; exact (bot_lt_top : (⊥ : EReal) < ⊤)
      · rw [hx]; exact EReal.coe_lt_top x
    exact absurd e (ne_of_lt ((Finset.fold_max_lt ⊤).2 ⟨(bot_lt_top : (⊥ : EReal) < ⊤), fun j _ => hl j⟩))
  have h2 : top s ≠ ⊥ := fun e => by
    have := le_top s i
    rw [e, hr] at this
    exact absurd this (not_le.2 (EReal.bot_lt_coe r))
  obtain ⟨t, ht⟩ : ∃ t : ℝ, top s = t := ⟨_, (EReal.coe_toReal h1 h2).symm⟩
  have h3 : raw s i = ((Real.exp (r - t) : ℝ) : EReal) := by
    unfold raw
    rw [hr, ht, ← EReal.coe_sub, Ideal.exp_coe]
  have h4 : (0 : EReal) < raw s i := by
    rw [h3]
    exact EReal.coe_pos.2 (Real.exp_pos _)
  exact ne_of_gt (lt_of_lt_of_le h4 (Finset.single_le_sum (f := raw s) (fun k _ => exp_nonneg _) (Finset.mem_univ i)))

theorem div_zero_left {z : EReal} (h : z ≠ 0) : Ideal.div 0 z = 0 := by
  unfold Ideal.div
  rw [if_neg h, zero_mul]

/-- Keys past `N` that score minus infinity may be left out. -/
theorem sum_cut {M : Type} [AddCommMonoid M] (hN : N ≤ N') (f : Fin N' → M) (h : ∀ j : Fin N', N ≤ j.val → f j = 0) :
    ∑ j : Fin N, f (Fin.castLE hN j) = ∑ j, f j := by
  refine (Finset.sum_map Finset.univ (Fin.castLEEmb hN) f).symm.trans (Finset.sum_subset (Finset.subset_univ _) fun j _ hj => h j ?_)
  by_contra hlt
  exact hj (Finset.mem_map.2 ⟨⟨j.val, not_le.1 hlt⟩, Finset.mem_univ _, rfl⟩)

theorem att_cut (hN : N ≤ N') (s v : Fin N' → EReal) (hb : ∀ j : Fin N', N ≤ j.val → s j = ⊥) (hz : (∑ k, raw s k) ≠ 0) :
    att (fun j : Fin N => s (Fin.castLE hN j)) (fun j => v (Fin.castLE hN j)) = att s v := by
  have ht : top (fun j : Fin N => s (Fin.castLE hN j)) = top s := by
    refine le_antisymm (top_le fun j => le_top s _) (top_le fun j => ?_)
    by_cases hj : N ≤ j.val
    · rw [hb j hj]; exact bot_le
    · exact le_top (fun j : Fin N => s (Fin.castLE hN j)) ⟨j.val, not_le.1 hj⟩
  have hr : ∀ j : Fin N, raw (fun j : Fin N => s (Fin.castLE hN j)) j = raw s (Fin.castLE hN j) := fun j => by
    unfold raw
    rw [ht]
  unfold att
  simp only [hr]
  rw [sum_cut hN (fun k => raw s k) (fun j hj => raw_bot (hb j hj))]
  exact sum_cut hN (fun j => Ideal.div (raw s j) (∑ k, raw s k) * v j)
    (fun j hj => by rw [raw_bot (hb j hj), div_zero_left hz, zero_mul])

end Cert.Attn

end
-- ==== Proof.Value.Chunk.lean ====
/-
A chunk of the attention body, read over exact numbers at an entry.
-/
module

public import proofs.«01_k».proof.Proof.Core.Run
public import proofs.«01_k».proof.Proof.Value.Attn
public import Idealize.ShloMosaic.Lib.Pointwise
public import Idealize.ShloMosaic.Lib.Pointwise.IndexVar

@[expose] public section

noncomputable section

namespace Cert.KernelIdeal.Value

open Cert.KernelIdeal Cert.KernelIdeal.Gen Cert.KernelIdeal.Core
open Idealize.ShloMosaic
open scoped BigOperators

/-! ## Literals and words -/

/-- The factor of the scores. -/
abbrev SC : EReal := Ideal.ofBits .f32 0x3DB504F3#32

theorem bot_lit : Ideal.ofBits .f32 0xFF800000#32 = ⊥ := by
  simp [Ideal.ofBits, Ideal.ieee]
theorem isFin_SC : Attn.IsFin SC := by
  simp only [SC, Ideal.ofBits, Ideal.ieee]
  exact ⟨_, rfl⟩

/-- The words' quotient by 64 is the quotient. -/
theorem div64_word : ∀ N : Fin 2048, div64 (s := S_) (fun _ => BitVec.ofNat 32 N.val) (fun a => a.elim0) = BitVec.ofNat 32 (N.val / 64) := by
  decide +kernel
theorem div64_at {s : Shape} (v : IVec s 32) (i : s.Idx) (N : ℕ) (hN : N < 2048) (h : v i = BitVec.ofNat 32 N) :
    div64 v i = BitVec.ofNat 32 (N / 64) := by
  have e : div64 v i = div64 (s := S_) (fun _ => v i) (fun a => a.elim0) := rfl
  rw [e, h]
  exact div64_word ⟨N, hN⟩
theorem sle_word : ∀ a b : Fin 32, IntOp.cmpi .sle (BitVec.ofNat 32 a.val) (BitVec.ofNat 32 b.val) = BitVec.ofBool (decide (a.val ≤ b.val)) := by
  decide +kernel

theorem km_le (n : Fin 4) : km n ≤ 2048 := by have := n.isLt; unfold km; omega

/-- A query sees the keys of its own block of 64 and of those before it. -/
theorem sees_at (n : Fin 4) (r : Fin 512) (j : Fin (km n)) :
    sees n (ix2 r j : (sSh n).Idx) = BitVec.ofBool (decide (j.val / 64 ≤ (512 * n.val + r.val) / 64)) := by
  have hj : j.val < 2048 := lt_of_lt_of_le j.isLt (km_le n)
  have hr : 512 * n.val + r.val < 2048 := by have := n.isLt; have := r.isLt; omega
  unfold sees
  show IntOp.cmpi .sle (div64 _ _) (div64 _ _) = _
  have h1 : iota .tc (sSh n) 32 [1] (iota1 n) (ix2 r j : (sSh n).Idx) = BitVec.ofNat 32 j.val :=
    congrArg (BitVec.ofNat 32) (by show 0 * km n + j.val = j.val; rw [Nat.zero_mul, Nat.zero_add])
  have h0 : iota .tc (sSh n) 32 [0] (iota0 n) (ix2 r j : (sSh n).Idx) = BitVec.ofNat 32 r.val :=
    congrArg (BitVec.ofNat 32) (by show 0 * 512 + r.val = r.val; rw [Nat.zero_mul, Nat.zero_add])
  rw [div64_at _ _ j.val hj h1, div64_at _ _ (512 * n.val + r.val) hr (by
    show _ + BitVec.ofNat 32 (512 * n.val) = _
    rw [h0, ← BitVec.ofNat_add, Nat.add_comm])]
  exact sle_word ⟨j.val / 64, by omega⟩ ⟨(512 * n.val + r.val) / 64, by omega⟩

/-! ## The values of a chunk at an entry -/

theorem first_at : ∀ (n : Fin 4) (k : FVec Ideal S2048x128 .f32) (j : Fin (km n)) (e : Fin 128),
    first n k (ix2 j e : (kSh n).Idx) = k (ix2 (Fin.castLE (km_le n) j) e)
  | 0, k, j, e | 1, k, j, e | 2, k, j, e => by
    unfold first
    simp only [pointwise]
    refine congrArg k ?_
    funext a
    match a with
    | ⟨0, _⟩ => exact Fin.ext (Nat.zero_add _)
    | ⟨1, _⟩ => exact Fin.ext (Nat.zero_add _)
  | 3, k, j, e => rfl

theorem qk_at (n : Fin 4) (q : FVec Ideal S512x128 .f32) (k : FVec Ideal (kSh n) .f32) (acc : FVec Ideal (sSh n) .f32) (r : Fin 512) (j : Fin (km n)) :
    matmul (dotQK n) none q k acc (ix2 r j : (sSh n).Idx) = acc (ix2 r j : (sSh n).Idx) + ∑ e : Fin 128, q (ix2 r e) * k (ix2 j e : (kSh n).Idx) := by
  refine Ideal.matmul_apply₁_of (dotQK n) (a := 1) (K := 128) rfl rfl q k acc _ (fun e => ix2 r e) (fun e => ix2 j e) (fun e => ?_) (fun e => ?_)
  · funext a
    match a with
    | ⟨0, _⟩ => rfl
    | ⟨1, _⟩ => rfl
  · funext a
    match a with
    | ⟨0, _⟩ => rfl
    | ⟨1, _⟩ => rfl

theorem wv_at (n : Fin 4) (w : FVec Ideal (sSh n) .f32) (v : FVec Ideal (kSh n) .f32) (acc : FVec Ideal S512x128 .f32) (r : Fin 512) (e : Fin 128) :
    matmul (dotWV n) none w v acc (ix2 r e) = acc (ix2 r e) + ∑ j : Fin (km n), w (ix2 r j : (sSh n).Idx) * v (ix2 j e : (kSh n).Idx) := by
  refine Ideal.matmul_apply₁_of (dotWV n) (a := 1) (K := km n) rfl rfl w v acc _ (fun j => ix2 r j) (fun j => ix2 j e) (fun j => ?_) (fun j => ?_)
  · funext a
    match a with
    | ⟨0, _⟩ => rfl
    | ⟨1, _⟩ => rfl
  · funext a
    match a with
    | ⟨0, _⟩ => rfl
    | ⟨1, _⟩ => rfl

theorem exps_at (n : Fin 4) (s : FVec Ideal (sSh n) .f32) (r : Fin 512) (j : Fin (km n)) :
    exps n s (ix2 r j : (sSh n).Idx) = Attn.raw (fun k : Fin (km n) => s (ix2 r k : (sSh n).Idx)) j := by
  unfold exps Attn.raw Attn.top
  simp only [pointwise]
  rw [bot_lit]
  rfl

theorem normed_at (n : Fin 4) (s : FVec Ideal (sSh n) .f32) (r : Fin 512) (j : Fin (km n)) :
    normed n s (ix2 r j : (sSh n).Idx) = Ideal.div (s (ix2 r j : (sSh n).Idx)) (∑ k : Fin (km n), s (ix2 r k : (sSh n).Idx)) := by
  unfold normed
  simp only [pointwise]
  rfl

/-- A masked score. -/
def score (q k : Fin 128 → EReal) (see : Bool) : EReal := if see then (∑ e, q e * k e) * SC else ⊥

theorem scores_at (n : Fin 4) (q : FVec Ideal S512x128 .f32) (k : FVec Ideal S2048x128 .f32) (r : Fin 512) (j : Fin (km n)) :
    scores n q k (ix2 r j : (sSh n).Idx)
      = score (fun e => q (ix2 r e)) (fun e => k (ix2 (Fin.castLE (km_le n) j) e)) (decide (j.val / 64 ≤ (512 * n.val + r.val) / 64)) := by
  unfold scores score
  show Scalar.select (sees n (ix2 r j : (sSh n).Idx)) (matmul (dotQK n) none q (first n k) _ (ix2 r j : (sSh n).Idx) * SC) ⊥ = _
  rw [sees_at, qk_at]
  simp only [first_at]
  have z : (constant (F := Ideal) (sSh n) .f32 0x00000000#32 : FVec Ideal (sSh n) .f32) (ix2 r j : (sSh n).Idx) = 0 := Ideal.ofBits_zero_f32
  rw [z, zero_add]
  by_cases h : j.val / 64 ≤ (512 * n.val + r.val) / 64
  · simp only [h, decide_true]; rfl
  · simp only [h, decide_false]; rfl

/-- What a chunk computes is the attention of its queries, cut after the keys it may look at. -/
theorem ctxOf_at (n : Fin 4) (q : FVec Ideal S512x128 .f32) (k v : FVec Ideal S2048x128 .f32) (r : Fin 512) (e : Fin 128) :
    ctxOf n q k v (ix2 r e)
      = Attn.att (fun j : Fin (km n) => score (fun e => q (ix2 r e)) (fun e => k (ix2 (Fin.castLE (km_le n) j) e)) (decide ((Fin.castLE (km_le n) j).val / 64 ≤ (512 * n.val + r.val) / 64)))
          (fun j => v (ix2 (Fin.castLE (km_le n) j) e)) := by
  unfold ctxOf
  rw [wv_at]
  refine (congrArg₂ (· + ·) Ideal.ofBits_zero_f32 rfl).trans ((zero_add _).trans ?_)
  unfold Attn.att
  refine Finset.sum_congr rfl fun j _ => ?_
  rw [normed_at, first_at]
  simp only [exps_at, scores_at]
  rfl

theorem addOf_at (n : Fin 4) (q : FVec Ideal S512x128 .f32) (k v : FVec Ideal S2048x128 .f32) (w : FVec Ideal S128x1024 .f32)
    (o : FVec Ideal S1x512x1024 .f32) (r : Fin 512) (p : Fin 1024) :
    addOf n q k v w o (ix3 0 r p) = o (ix3 0 r p) + ∑ e : Fin 128, ctxOf n q k v (ix2 r e) * w (ix2 e p) := by
  unfold addOf
  simp only [pointwise]
  rw [zero_add]

theorem projOf_at (x : Vec Ideal S1x2048x1024 .f32) (w : Vec Ideal S1024x1024 .f32) (i : Fin 2048) (p : Fin 1024) :
    projOf x w (ix2 i p) = ∑ t : Fin 1024, x (ix3 0 i t) * w (ix2 t p) := by
  unfold projOf
  simp only [pointwise]
  rw [zero_add]

end Cert.KernelIdeal.Value

end
-- ==== Proof.Value.Device.lean ====
/-
The partial product of a device, read over exact numbers at an entry: the sum over its eight heads of the attention
of each query times the device's rows of the output projection.
-/
module

public import proofs.«01_k».proof.Proof.Value.Chunk
public import proofs.«01_k».proof.Proof.Core.Launch

@[expose] public section

noncomputable section

namespace Cert.KernelIdeal.Value

open Cert.KernelIdeal Cert.KernelIdeal.Gen Cert.KernelIdeal.Core
open Idealize.ShloMosaic
open Idealize.ShloMosaic.TcCoe
open Cert.Attn (IsFin)
open scoped BigOperators

/-! ## Places -/

/-- Lane `e` of head `h` among a device's eight heads, and head `h` of device `c` among all. -/
def lane (h : Fin 8) (e : Fin 128) : Fin 1024 := ⟨128 * h.val + e.val, by have := h.isLt; have := e.isLt; omega⟩
def headNo (c : Fin 16) (h : Fin 8) : Fin 128 := ⟨8 * c.val + h.val, by have := h.isLt; have := c.isLt; omega⟩
/-- Row `r` of chunk `n`. -/
def rowNo (n : Fin 4) (r : Fin 512) : Fin 2048 := ⟨512 * n.val + r.val, by have := n.isLt; have := r.isLt; omega⟩

theorem off_head : ∀ (c : Dev nD) (h : Fin 8) (a : Fin 4), k0_off1 c (BitVec.ofNat 32 h.val) a = (![0, 0, 8 * c.val + h.val, 0] : Fin 4 → ℕ) a := by
  decide +kernel

variable (c : Dev nD) (q : FVec Ideal S2048x1024 .f32) (wo : FVec Ideal S1024x1024 .f32) (kv : Bool → Vec Ideal S1x2048x128x128 .f32)

theorem qBlk_at (n : Fin 4) (h : Fin 8) (r : Fin 512) (e : Fin 128) : qBlk q n h (ix2 r e) = q (ix2 (rowNo n r) (lane h e)) := by
  refine congrArg q ?_
  funext a
  match a with
  | ⟨0, _⟩ => exact Fin.ext (by show 512 * n.val + 1 * r.val = 512 * n.val + r.val; omega)
  | ⟨1, _⟩ => exact Fin.ext (by show 128 * h.val + 1 * e.val = 128 * h.val + e.val; omega)

theorem wBlk_at (h : Fin 8) (e : Fin 128) (p : Fin 1024) : wBlk wo h (ix2 e p) = wo (ix2 (lane h e) p) := by
  unfold wBlk asW
  simp only [pointwise]
  refine congrArg wo ?_
  funext a
  match a with
  | ⟨0, _⟩ => exact Fin.ext (by show 128 * h.val + 1 * e.val = 128 * h.val + e.val; omega)
  | ⟨1, _⟩ => exact Fin.ext (by show 0 + 1 * p.val = p.val; omega)

theorem hKV_at (v : Bool) (h : Fin 8) (j : Fin 2048) (e : Fin 128) : hKV c kv v h (ix2 j e) = kv v (ix4 0 j (headNo c h) e) := by
  have e1 : hKV c kv v h (ix2 j e) = headOf c h (kv v) (ix4 0 j 0 e) := by
    unfold hKV asKV
    simp only [pointwise]
  rw [e1]
  unfold headOf
  refine congrArg (kv v) ?_
  funext a
  apply Fin.ext
  show k0_off1 c (BitVec.ofNat 32 h.val) a + 1 * ((ix4 0 j 0 e : S1x2048x1x128.Idx) a).val = _
  rw [off_head]
  match a with
  | ⟨0, _⟩ => rfl
  | ⟨1, _⟩ => show 0 + 1 * j.val = j.val; omega
  | ⟨2, _⟩ => show 8 * c.val + h.val + 1 * 0 = 8 * c.val + h.val; omega
  | ⟨3, _⟩ => show 0 + 1 * e.val = e.val; omega

/-! ## The attention of a query -/

/-- The scores of query `i` of head `h` against all keys, and its attention. -/
def rowS (h : Fin 8) (i : Fin 2048) (j : Fin 2048) : EReal :=
  score (fun e => q (ix2 i (lane h e))) (fun e => kv true (ix4 0 j (headNo c h) e)) (decide (j.val / 64 ≤ i.val / 64))
def ctxD (h : Fin 8) (i : Fin 2048) (e : Fin 128) : EReal := Attn.att (rowS c q kv h i) (fun j => kv false (ix4 0 j (headNo c h) e))

theorem sum_rowS (hq : ∀ i p, IsFin (q (ix2 i p))) (hk : ∀ j H e, IsFin (kv true (ix4 0 j H e))) (h : Fin 8) (i : Fin 2048) :
    (∑ j, Attn.raw (rowS c q kv h i) j) ≠ 0 := by
  have hf : ∀ j, IsFin ((∑ e, q (ix2 i (lane h e)) * kv true (ix4 0 j (headNo c h) e)) * SC) := fun j =>
    (IsFin.sum fun e => (hq _ _).mul (hk _ _ _)).mul isFin_SC
  refine Attn.sum_ne (i := i) (fun j => ?_) ?_
  · unfold rowS score
    split
    · exact .inr (hf j)
    · exact .inl rfl
  · unfold rowS score
    rw [if_pos (by simp)]
    exact hf i

theorem ctx_cut (hq : ∀ i p, IsFin (q (ix2 i p))) (hk : ∀ j H e, IsFin (kv true (ix4 0 j H e))) (n : Fin 4) (h : Fin 8) (r : Fin 512) (e : Fin 128) :
    ctxOf n (qBlk q n h) (hKV c kv true h) (hKV c kv false h) (ix2 r e) = ctxD c q kv h (rowNo n r) e := by
  rw [ctxOf_at]
  have es : ∀ j : Fin (km n), score (fun e => qBlk q n h (ix2 r e)) (fun e => hKV c kv true h (ix2 (Fin.castLE (km_le n) j) e))
      (decide ((Fin.castLE (km_le n) j).val / 64 ≤ (512 * n.val + r.val) / 64)) = rowS c q kv h (rowNo n r) (Fin.castLE (km_le n) j) := fun j =>
    congrArg₂ (fun a b => score a b (decide ((Fin.castLE (km_le n) j).val / 64 ≤ (512 * n.val + r.val) / 64)))
      (funext fun e => qBlk_at q n h r e) (funext fun e => hKV_at c kv true h _ e)
  have ev : ∀ j : Fin (km n), hKV c kv false h (ix2 (Fin.castLE (km_le n) j) e) = kv false (ix4 0 (Fin.castLE (km_le n) j) (headNo c h) e) :=
    fun j => hKV_at c kv false h _ e
  refine (congrArg₂ Attn.att (funext es) (funext ev)).trans ?_
  refine Attn.att_cut (km_le n) (rowS c q kv h (rowNo n r)) (fun j => kv false (ix4 0 j (headNo c h) e)) (fun j hj => ?_) (sum_rowS c q kv hq hk h _)
  have hr := r.isLt
  have hlt : ¬ j.val / 64 ≤ (rowNo n r).val / 64 := by
    unfold km at hj
    show ¬ j.val / 64 ≤ (512 * n.val + r.val) / 64
    omega
  unfold rowS score
  rw [if_neg (by simpa using hlt)]

/-! ## The heads added up -/

/-- What head `h` adds at an entry. -/
def headT (h : Fin 8) (i : Fin 2048) (p : Fin 1024) : EReal := ∑ e : Fin 128, ctxD c q kv h i e * wo (ix2 (lane h e) p)

theorem blocksV_at (hq : ∀ i p, IsFin (q (ix2 i p))) (hk : ∀ j H e, IsFin (kv true (ix4 0 j H e))) (n : Fin 4) (r : Fin 512) (p : Fin 1024) :
    ∀ (N : ℕ) (hN : N ≤ 8), blocksV c q wo kv N hN n (ix3 0 r p) = ∑ h : Fin N, headT c q wo kv (Fin.castLE hN h) (rowNo n r) p
  | 0, _ => Ideal.ofBits_zero_f32
  | N + 1, hN => by
    show addOf n (qBlk q n ⟨N, hN⟩) (hKV c kv true ⟨N, hN⟩) (hKV c kv false ⟨N, hN⟩) (wBlk wo ⟨N, hN⟩) (blocksV c q wo kv N _ n) (ix3 0 r p) = _
    rw [addOf_at, blocksV_at hq hk n r p N (Nat.le_of_succ_le hN)]
    refine Eq.trans ?_ (Fin.sum_univ_castSucc _).symm
    refine congrArg (fun z : EReal => (∑ h : Fin N, headT c q wo kv (Fin.castLE (Nat.le_of_succ_le hN) h) (rowNo n r) p) + z) ?_
    unfold headT
    refine Finset.sum_congr rfl fun e _ => ?_
    rw [ctx_cut c q kv hq hk, wBlk_at]
    rfl

theorem coreV_at (x : FVec Ideal S1x2048x1024 .f32) (wq : FVec Ideal S1024x1024 .f32) (hx : ∀ i t, IsFin (x (ix3 0 i t))) (hw : ∀ t p, IsFin (wq (ix2 t p)))
    (hk : ∀ j H e, IsFin (kv true (ix4 0 j H e))) (i : Fin 2048) (p : Fin 1024) :
    coreV c wo kv x wq (ix3 0 i p) = ∑ h : Fin 8, headT c (projOf x wq) wo kv h i p := by
  have hq : ∀ i p, IsFin (projOf (F := Ideal) x wq (ix2 i p)) := fun i p => by
    rw [projOf_at]
    exact IsFin.sum fun t => (hx i t).mul (hw t p)
  have hi := i.isLt
  have e : inRows (ix3 0 i p : S1x2048x1024.Idx) = (ix3 0 (⟨i.val % 512, Nat.mod_lt _ (by decide)⟩ : Fin 512) p : S1x512x1024.Idx) := by
    funext a
    match a with
    | ⟨0, _⟩ => rfl
    | ⟨1, _⟩ => rfl
    | ⟨2, _⟩ => rfl
  unfold coreV glue
  rw [e, blocksV_at c (projOf x wq) wo kv hq hk _ _ p 8 (Nat.le_refl 8)]
  refine Finset.sum_congr rfl fun h _ => ?_
  have er : rowNo (rowsOf (ix3 0 i p : S1x2048x1024.Idx)) ⟨i.val % 512, Nat.mod_lt _ (by decide)⟩ = i :=
    Fin.ext (by show 512 * (i.val / 512) + i.val % 512 = i.val; omega)
  rw [er]
  rfl

end Cert.KernelIdeal.Value

end
-- ==== Proof.Value.Host.lean ====
/-
The reference, read over exact numbers at an entry.

Its result is one long term; here it is written in steps, which are then read one by one.
-/
module

public import proofs.«01_k».proof.Proof.Gen.ReferenceIdeal
public import proofs.«01_k».proof.Proof.Gen.ReferenceIdeal.Run
public import proofs.«01_k».proof.Proof.Value.Chunk
public import Idealize.ShloMosaic.Lib.Routing.OpsOrder

@[expose] public section

noncomputable section

namespace Cert.ReferenceIdeal.Host

open Cert.ReferenceIdeal Cert.ReferenceIdeal.Gen
open Idealize.ShloMosaic
open Cert.KernelIdeal.Value (SC score bot_lit isFin_SC sle_word)
open Cert.Attn (IsFin)
open scoped BigOperators

/-! ## The steps -/

/-- The places' quotients by 64. -/
def blk : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))
/-- Which keys a query sees, and whether it sees any. -/
def mask : IVec S2048x2048 1 :=
  cmpi .sle (broadcastInDim S2048x2048 ![0, 1] bcast_S1x2048_S2048x2048_0_1 (broadcastInDim S1x2048 ![1] bcast_S2048_S1x2048_1 blk))
    (broadcastInDim S2048x2048 ![0, 1] bcast_S2048x1_S2048x2048_0_1 (broadcastInDim S2048x1 ![0] bcast_S2048_S2048x1_0 blk))
def keep : IVec S1x1x2048x1 1 :=
  broadcastInDim S1x1x2048x1 ![2] bcast_S2048_S1x1x2048x1_2 (Host.reduce IntOp.ori mask (constantI S_ 1 0#1) reducesTo_S2048x2048_S2048_d1 h_S_)

variable (X : FVec Ideal S1x2048x1024 .f32) (WQ : FVec Ideal S1024x16384 .f32) (K V : FVec Ideal S1x2048x128x128 .f32) (WO : FVec Ideal S16384x1024 .f32)

def proj : FVec Ideal S1x2048x128x128 .f32 :=
  shapeCast S1x2048x128x128 (Host.dotGeneral dot_S1x2048x1024_S1024x16384_S1x2048x16384_2_0_01_1_n_n none X WQ) shapeCasts_S1x2048x16384_S1x2048x128x128
def scoresH : FVec Ideal S1x128x2048x2048 .f32 :=
  select (broadcastInDim S1x128x2048x2048 ![0, 1, 2, 3] bcast_S1x1x2048x2048_S1x128x2048x2048_0_1_2_3 (broadcastInDim S1x1x2048x2048 ![2, 3] bcast_S2048x2048_S1x1x2048x2048_2_3 mask))
    (mulf (Host.dotGeneral dot_S1x2048x128x128_S1x2048x128x128_S1x128x2048x2048_3_3_1_1_02_02 none (proj X WQ) K) (broadcastInDim S1x128x2048x2048 ![] bcast_S_S1x128x2048x2048 (constant S_ .f32 0x3DB504F3#32)))
    (broadcastInDim S1x128x2048x2048 ![] bcast_S_S1x128x2048x2048 (id (constant S_ .f32 0xFF800000#32)))
def expsH (S : FVec Ideal S1x128x2048x2048 .f32) : FVec Ideal S1x128x2048x2048 .f32 :=
  Host.exp (subf S (broadcastInDim S1x128x2048x2048 ![0, 1, 2, 3] bcast_S1x128x2048x1_S1x128x2048x2048_0_1_2_3 (broadcastInDim S1x128x2048x1 ![0, 1, 2] bcast_S1x128x2048_S1x128x2048x1_0_1_2
    (Host.reduce FloatOps.maximumf S (constant S_ .f32 0xFF800000#32) reducesTo_S1x128x2048x2048_S1x128x2048_d3 h_S_))))
def sumsH (E : FVec Ideal S1x128x2048x2048 .f32) : FVec Ideal S1x128x2048x1 .f32 :=
  select (broadcastInDim S1x128x2048x1 ![0, 1, 2, 3] bcast_S1x1x2048x1_S1x128x2048x1_0_1_2_3 keep)
    (broadcastInDim S1x128x2048x1 ![0, 1, 2] bcast_S1x128x2048_S1x128x2048x1_0_1_2 (Host.reduceAdd E (constant S_ .f32 0x00000000#32) reducesTo_S1x128x2048x2048_S1x128x2048_d3 h_S_))
    (broadcastInDim S1x128x2048x1 ![] bcast_S_S1x128x2048x1 (id (constant S_ .f32 0x3F800000#32)))
def weights (E : FVec Ideal S1x128x2048x2048 .f32) : FVec Ideal S1x128x2048x2048 .f32 :=
  select (broadcastInDim S1x128x2048x2048 ![0, 1, 2, 3] bcast_S1x1x2048x1_S1x128x2048x2048_0_1_2_3 keep)
    (Host.divf E (broadcastInDim S1x128x2048x2048 ![0, 1, 2, 3] bcast_S1x128x2048x1_S1x128x2048x2048_0_1_2_3 (sumsH E)))
    (broadcastInDim S1x128x2048x2048 ![] bcast_S_S1x128x2048x2048 (id (constant S_ .f32 0x00000000#32)))
def ctxH (W : FVec Ideal S1x128x2048x2048 .f32) : FVec Ideal S1x2048x16384 .f32 :=
  shapeCast S1x2048x16384 (transpose S1x2048x128x128 [0, 3, 1, 2] (Host.dotGeneral dot_S1x2048x128x128_S1x128x2048x2048_S1x128x128x2048_1_3_3_2_02_01 none V W) transposes_S1x128x128x2048_S1x2048x128x128_0_3_1_2)
    shapeCasts_S1x2048x128x128_S1x2048x16384
def outH : FVec Ideal S1x2048x1024 .f32 :=
  Host.dotGeneral dot_S1x2048x16384_S16384x1024_S1x2048x1024_2_0_01_1_n_n none (ctxH V (weights (expsH (scoresH X WQ K)))) WO

set_option maxRecDepth 100000 in
theorem res_eq (m : (ℓ : Loc nD τ sig) → Buf (Elt Ideal) ℓ) (c : Dev nD) :
    Cert.ReferenceIdeal.Value.res_main_v33 m c
      = outH (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-! ## The mask -/

/-- A word's quotient by 64, as the reference computes it. -/
def quot (x : BitVec 32) : BitVec 32 :=
  Scalar.select (IntOp.andi (IntOp.cmpi .ne (signi (s := S_) (fun _ => x) (fun a => a.elim0)) (signi (s := S_) (fun _ => 64#32) (fun a => a.elim0)))
      (IntOp.cmpi .ne (Host.remsi (s := S_) (fun _ => x) (fun _ => 64#32) (fun a => a.elim0)) 0#32))
    (Host.divsi (s := S_) (fun _ => x) (fun _ => 64#32) (fun a => a.elim0) - 1#32)
    (Host.divsi (s := S_) (fun _ => x) (fun _ => 64#32) (fun a => a.elim0))
theorem quot_word : ∀ N : Fin 2048, quot (BitVec.ofNat 32 N.val) = BitVec.ofNat 32 (N.val / 64) := by
  decide +kernel
theorem blk_at (N : Fin 2048) : blk (ix1 N) = BitVec.ofNat 32 (N.val / 64) := by
  have e : blk (ix1 N) = quot (BitVec.ofNat 32 N.val) := rfl
  rw [e, quot_word]

/-! ## Broadcasts at an entry -/

section Broadcast
variable {α : Type} (H : Fin 128) (i j : Fin 2048)

theorem bc_key (v : S2048.Idx → α) :
    broadcastInDim S2048x2048 ![0, 1] bcast_S1x2048_S2048x2048_0_1 (broadcastInDim S1x2048 ![1] bcast_S2048_S1x2048_1 v) (ix2 i j) = v (ix1 j) :=
  (broadcastInDim_apply _ _ _ _ (ix2 0 j : S1x2048.Idx) (by intro a; fin_cases a <;> rfl)).trans
    (broadcastInDim_apply _ _ _ _ (ix1 j : S2048.Idx) (by intro a; fin_cases a; rfl))
theorem bc_query (v : S2048.Idx → α) :
    broadcastInDim S2048x2048 ![0, 1] bcast_S2048x1_S2048x2048_0_1 (broadcastInDim S2048x1 ![0] bcast_S2048_S2048x1_0 v) (ix2 i j) = v (ix1 i) :=
  (broadcastInDim_apply _ _ _ _ (ix2 i 0 : S2048x1.Idx) (by intro a; fin_cases a <;> rfl)).trans
    (broadcastInDim_apply _ _ _ _ (ix1 i : S2048.Idx) (by intro a; fin_cases a; rfl))
theorem bc_pair (v : S2048x2048.Idx → α) :
    broadcastInDim S1x128x2048x2048 ![0, 1, 2, 3] bcast_S1x1x2048x2048_S1x128x2048x2048_0_1_2_3 (broadcastInDim S1x1x2048x2048 ![2, 3] bcast_S2048x2048_S1x1x2048x2048_2_3 v) (ix4 0 H i j)
      = v (ix2 i j) :=
  (broadcastInDim_apply _ _ _ _ (ix4 0 0 i j : S1x1x2048x2048.Idx) (by intro a; fin_cases a <;> rfl)).trans
    (broadcastInDim_apply _ _ _ _ (ix2 i j : S2048x2048.Idx) (by intro a; fin_cases a <;> rfl))
theorem bc_row (v : S1x128x2048x1.Idx → α) :
    broadcastInDim S1x128x2048x2048 ![0, 1, 2, 3] bcast_S1x128x2048x1_S1x128x2048x2048_0_1_2_3 v (ix4 0 H i j) = v (ix4 0 H i 0) :=
  broadcastInDim_apply _ _ _ _ (ix4 0 H i 0 : S1x128x2048x1.Idx) (by intro a; fin_cases a <;> rfl)
theorem bc_one (v : S1x128x2048.Idx → α) :
    broadcastInDim S1x128x2048x1 ![0, 1, 2] bcast_S1x128x2048_S1x128x2048x1_0_1_2 v (ix4 0 H i 0) = v (ix3 0 H i) :=
  broadcastInDim_apply _ _ _ _ (ix3 0 H i : S1x128x2048.Idx) (by intro a; fin_cases a <;> rfl)
theorem bc_heads (v : S1x1x2048x1.Idx → α) :
    broadcastInDim S1x128x2048x1 ![0, 1, 2, 3] bcast_S1x1x2048x1_S1x128x2048x1_0_1_2_3 v (ix4 0 H i 0) = v (ix4 0 0 i 0) :=
  broadcastInDim_apply _ _ _ _ (ix4 0 0 i 0 : S1x1x2048x1.Idx) (by intro a; fin_cases a <;> rfl)
theorem bc_all (v : S1x1x2048x1.Idx → α) :
    broadcastInDim S1x128x2048x2048 ![0, 1, 2, 3] bcast_S1x1x2048x1_S1x128x2048x2048_0_1_2_3 v (ix4 0 H i j) = v (ix4 0 0 i 0) :=
  broadcastInDim_apply _ _ _ _ (ix4 0 0 i 0 : S1x1x2048x1.Idx) (by intro a; fin_cases a <;> rfl)
theorem bc_keep (v : S2048.Idx → α) : broadcastInDim S1x1x2048x1 ![2] bcast_S2048_S1x1x2048x1_2 v (ix4 0 0 i 0) = v (ix1 i) :=
  broadcastInDim_apply _ _ _ _ (ix1 i : S2048.Idx) (by intro a; fin_cases a; rfl)

end Broadcast

theorem mask_at (i j : Fin 2048) : mask (ix2 i j) = BitVec.ofBool (decide (j.val / 64 ≤ i.val / 64)) := by
  unfold mask
  refine (congrArg₂ (IntOp.cmpi .sle) (bc_key i j blk) (bc_query i j blk)).trans ?_
  rw [blk_at, blk_at]
  have hi := i.isLt
  have hj := j.isLt
  exact sle_word ⟨j.val / 64, by omega⟩ ⟨i.val / 64, by omega⟩

/-- Every query sees a key. -/
theorem keep_at (i : Fin 2048) : keep (ix4 0 0 i 0) = 1#1 := by
  unfold keep
  rw [bc_keep]
  simp only [pointwise]
  exact (Routing.fold_ori _ _).2 ⟨i, Finset.mem_univ i, by rw [mask_at]; simp⟩

/-! ## The values at an entry -/

/-- Lane `e` of head `H` among all. -/
def lane (H e : Fin 128) : Fin 16384 := ⟨H.val * 128 + e.val, by have := H.isLt; have := e.isLt; omega⟩

theorem proj_at (i : Fin 2048) (H e : Fin 128) : proj X WQ (ix4 0 i H e) = ∑ t : Fin 1024, X (ix3 0 i t) * WQ (ix2 t (lane H e)) := by
  unfold proj
  simp only [pointwise]
  rw [zero_add]
  rfl

theorem scoresH_at (H : Fin 128) (i j : Fin 2048) :
    scoresH X WQ K (ix4 0 H i j) = score (fun e => proj X WQ (ix4 0 i H e)) (fun e => K (ix4 0 j H e)) (decide (j.val / 64 ≤ i.val / 64)) := by
  have e : Host.dotGeneral dot_S1x2048x128x128_S1x2048x128x128_S1x128x2048x2048_3_3_1_1_02_02 none (proj X WQ) K (ix4 0 H i j)
      = ∑ e : Fin 128, proj X WQ (ix4 0 i H e) * K (ix4 0 j H e) := by
    simp only [pointwise]
    rw [zero_add]
  unfold scoresH score
  show Scalar.select (broadcastInDim _ _ _ _ (ix4 0 H i j)) (Host.dotGeneral (F := Ideal) _ none _ K (ix4 0 H i j) * SC) (Ideal.ofBits .f32 0xFF800000#32) = _
  rw [bc_pair, mask_at, e, bot_lit]
  by_cases h : j.val / 64 ≤ i.val / 64
  · simp only [h, decide_true]; rfl
  · simp only [h, decide_false]; rfl

theorem expsH_at (S : FVec Ideal S1x128x2048x2048 .f32) (H : Fin 128) (i j : Fin 2048) :
    expsH S (ix4 0 H i j) = Attn.raw (fun k : Fin 2048 => S (ix4 0 H i k)) j := by
  unfold expsH Attn.raw Attn.top
  show Ideal.exp (S (ix4 0 H i j) - broadcastInDim _ _ _ _ (ix4 0 H i j)) = _
  rw [bc_row, bc_one]
  simp only [pointwise]
  rw [bot_lit]

theorem sumsH_at (E : FVec Ideal S1x128x2048x2048 .f32) (H : Fin 128) (i : Fin 2048) :
    sumsH E (ix4 0 H i 0) = ∑ k : Fin 2048, E (ix4 0 H i k) := by
  have e : Host.reduceAdd (F := Ideal) E (constant S_ .f32 0x00000000#32) reducesTo_S1x128x2048x2048_S1x128x2048_d3 h_S_ (ix3 0 H i) = ∑ k : Fin 2048, E (ix4 0 H i k) := by
    simp only [pointwise]
    rw [zero_add]
  unfold sumsH
  show Scalar.select (broadcastInDim _ _ _ _ (ix4 0 H i 0)) (broadcastInDim _ _ _ _ (ix4 0 H i 0)) _ = _
  rw [bc_heads, keep_at, bc_one, e]
  rfl

theorem select_at {s : Shape} {α : Type} (c : IVec s 1) (a b : s.Idx → α) (i : s.Idx) : select c a b i = Scalar.select (c i) (a i) (b i) := rfl
theorem divf_at {s : Shape} (a b : FVec Ideal s .f32) (i : s.Idx) : Host.divf a b i = Ideal.div (a i) (b i) := rfl

theorem weights_at (E : FVec Ideal S1x128x2048x2048 .f32) (H : Fin 128) (i j : Fin 2048) :
    weights E (ix4 0 H i j) = Ideal.div (E (ix4 0 H i j)) (∑ k : Fin 2048, E (ix4 0 H i k)) := by
  unfold weights
  rw [select_at, divf_at, bc_all, keep_at, bc_row, sumsH_at]
  rfl

theorem ctxH_at (W : FVec Ideal S1x128x2048x2048 .f32) (i : Fin 2048) (H e : Fin 128) :
    ctxH V W (ix3 0 i (lane H e)) = ∑ j : Fin 2048, V (ix4 0 j H e) * W (ix4 0 H i j) := by
  unfold ctxH
  simp only [pointwise]
  rw [zero_add]
  have h1 : (⟨(lane H e).val / 128, by have := (lane H e).isLt; omega⟩ : Fin 128) = H := Fin.ext (by
    show (H.val * 128 + e.val) / 128 = H.val
    have := e.isLt
    omega)
  have h2 : (⟨(lane H e).val % 128, Nat.mod_lt _ (by decide)⟩ : Fin 128) = e := Fin.ext (by
    show (H.val * 128 + e.val) % 128 = e.val
    have := e.isLt
    omega)
  rw [h1, h2]

theorem outH_at (i : Fin 2048) (p : Fin 1024) :
    outH X WQ K V WO (ix3 0 i p) = ∑ f : Fin 16384, ctxH V (weights (expsH (scoresH X WQ K))) (ix3 0 i f) * WO (ix2 f p) := by
  unfold outH
  simp only [pointwise]
  rw [zero_add]

/-- The attention of a query of a head, as the reference computes it. -/
def att (H : Fin 128) (i : Fin 2048) (e : Fin 128) : EReal :=
  Attn.att (fun j => score (fun e => ∑ t : Fin 1024, X (ix3 0 i t) * WQ (ix2 t (lane H e))) (fun e => K (ix4 0 j H e)) (decide (j.val / 64 ≤ i.val / 64)))
    (fun j => V (ix4 0 j H e))

theorem ctx_eq (H : Fin 128) (i : Fin 2048) (e : Fin 128) :
    ctxH V (weights (expsH (scoresH X WQ K))) (ix3 0 i (lane H e)) = att X WQ K V H i e := by
  rw [ctxH_at]
  unfold att Attn.att
  refine Finset.sum_congr rfl fun j _ => ?_
  rw [mul_comm, weights_at]
  simp only [expsH_at, scoresH_at, proj_at]

end Cert.ReferenceIdeal.Host

end
-- ==== Proof.Value.Meet.lean ====
/-
The two programs meet over exact numbers: the reference's output projection, a sum over all heads' lanes, is the sum
over the devices of their partial products, when every device holds its columns and rows of the two weights. The
precondition, read back, makes the entries that decide the scores finite.
-/
module

public import proofs.«01_k».proof.Proof.Value.Device
public import proofs.«01_k».proof.Proof.Value.Host
public import proofs.«01_k».proof.Proof.Gen.Pre_finite_KernelIdeal
public import proofs.«01_k».proof.Proof.Ring.Value
public import Idealize.ShloMosaic.Lib.ReduceAll
public import Idealize.ShloMosaic.Lib.Layout

@[expose] public section

noncomputable section

namespace Cert.Meet

open Idealize.ShloMosaic
open Cert.KernelIdeal.Value (headNo headT ctxD rowS)
open Cert.KernelIdeal.Core (projOf)
open Cert.Attn (IsFin)
open scoped BigOperators

/-! ## A sum over all lanes -/

/-- A sum over `k * n` places, block after block. -/
theorem sum_blocks {k n N : ℕ} (hN : k * n = N) (f : Fin N → EReal) (g : Fin k → Fin n → Fin N) (hg : ∀ a b, (g a b).val = b.val + n * a.val) :
    ∑ p, f p = ∑ a : Fin k, ∑ b : Fin n, f (g a b) := by
  subst hN
  rw [← Fintype.sum_prod_type' (fun a b => f (g a b))]
  exact (Fintype.sum_equiv finProdFinEquiv (fun x : Fin k × Fin n => f (g x.1 x.2)) f (fun x => congrArg f (Fin.ext (hg x.1 x.2)))).symm

/-- Device after device, head after head. -/
theorem sum_lanes (f : Fin 16384 → EReal) :
    ∑ p, f p = ∑ c : Fin 16, ∑ h : Fin 8, ∑ e : Fin 128, f (Cert.ReferenceIdeal.Host.lane (headNo c h) e) :=
  (sum_blocks (k := 128) (n := 128) (by norm_num) f Cert.ReferenceIdeal.Host.lane (fun H e => by
      show H.val * 128 + e.val = e.val + 128 * H.val
      omega)).trans
    (sum_blocks (k := 16) (n := 8) (by norm_num) (fun H : Fin 128 => ∑ e : Fin 128, f (Cert.ReferenceIdeal.Host.lane H e)) headNo (fun c h => by
      show 8 * c.val + h.val = h.val + 8 * c.val
      omega))

/-! ## The devices' blocks -/

section Blocks
variable (X : FVec Ideal ⟨3, ![1, 2048, 1024]⟩ .f32) (WQ : FVec Ideal ⟨2, ![1024, 16384]⟩ .f32) (WO : FVec Ideal ⟨2, ![16384, 1024]⟩ .f32)
variable (K V : FVec Ideal ⟨4, ![1, 2048, 128, 128]⟩ .f32) (c : Fin 16)

theorem wq_at (t : Fin 1024) (h : Fin 8) (e : Fin 128) :
    Layout.block ⟨2, ![1024, 1024]⟩ ⟨2, ![1024, 16384]⟩ 1 16 c WQ (by decide) (ix2 t (Cert.KernelIdeal.Value.lane h e)) = WQ (ix2 t (Cert.ReferenceIdeal.Host.lane (headNo c h) e)) := by
  refine congrArg WQ ?_
  funext a
  apply Fin.ext
  rw [Layout.Tiles.idx_val]
  match a with
  | ⟨0, _⟩ => rfl
  | ⟨1, _⟩ => show c.val * 1024 + (128 * h.val + e.val) = (8 * c.val + h.val) * 128 + e.val; omega

theorem wo_at (h : Fin 8) (e : Fin 128) (p : Fin 1024) :
    Layout.block ⟨2, ![1024, 1024]⟩ ⟨2, ![16384, 1024]⟩ 0 16 c WO (by decide) (ix2 (Cert.KernelIdeal.Value.lane h e) p) = WO (ix2 (Cert.ReferenceIdeal.Host.lane (headNo c h) e) p) := by
  refine congrArg WO ?_
  funext a
  apply Fin.ext
  rw [Layout.Tiles.idx_val]
  match a with
  | ⟨0, _⟩ => show c.val * 1024 + (128 * h.val + e.val) = (8 * c.val + h.val) * 128 + e.val; omega
  | ⟨1, _⟩ => rfl

/-- A head's summand on its device is the reference's. -/
theorem head_eq (wq wo : FVec Ideal ⟨2, ![1024, 1024]⟩ .f32) (kv : Bool → FVec Ideal ⟨4, ![1, 2048, 128, 128]⟩ .f32)
    (hwq : wq = Layout.block ⟨2, ![1024, 1024]⟩ ⟨2, ![1024, 16384]⟩ 1 16 c WQ (by decide))
    (hwo : wo = Layout.block ⟨2, ![1024, 1024]⟩ ⟨2, ![16384, 1024]⟩ 0 16 c WO (by decide))
    (hK : kv true = K) (hV : kv false = V) (h : Fin 8) (i : Fin 2048) (p : Fin 1024) :
    headT c (projOf X wq) wo kv h i p
      = ∑ e : Fin 128, Cert.ReferenceIdeal.Host.att X WQ K V (headNo c h) i e * WO (ix2 (Cert.ReferenceIdeal.Host.lane (headNo c h) e) p) := by
  subst hwq hwo hK hV
  unfold headT
  refine Finset.sum_congr rfl fun e _ => ?_
  rw [wo_at]
  refine congrArg (· * _) ?_
  unfold ctxD Cert.ReferenceIdeal.Host.att
  refine congrArg (fun s => Attn.att s _) ?_
  funext j
  unfold rowS
  refine congrArg (fun q => Cert.KernelIdeal.Value.score q _ _) ?_
  funext e'
  rw [Cert.KernelIdeal.Value.projOf_at]
  refine Finset.sum_congr rfl fun t _ => ?_
  rw [wq_at]

end Blocks

/-- The reference's result at an entry, device after device. -/
theorem outH_eq (X : FVec Ideal ⟨3, ![1, 2048, 1024]⟩ .f32) (WQ : FVec Ideal ⟨2, ![1024, 16384]⟩ .f32) (K V : FVec Ideal ⟨4, ![1, 2048, 128, 128]⟩ .f32)
    (WO : FVec Ideal ⟨2, ![16384, 1024]⟩ .f32) (i : Fin 2048) (p : Fin 1024) :
    Cert.ReferenceIdeal.Host.outH X WQ K V WO (ix3 0 i p)
      = ∑ c : Fin 16, ∑ h : Fin 8, ∑ e : Fin 128, Cert.ReferenceIdeal.Host.att X WQ K V (headNo c h) i e * WO (ix2 (Cert.ReferenceIdeal.Host.lane (headNo c h) e) p) := by
  rw [Cert.ReferenceIdeal.Host.outH_at, sum_lanes]
  simp only [Cert.ReferenceIdeal.Host.ctx_eq]

/-! ## The precondition -/

/-- An entry whose absolute value compares below infinity is finite. -/
theorem fin_of_cmp (x : EReal) (h : FloatOps.cmpf (F := Ideal) (φ := .f32) .olt (max x (-x)) (Ideal.ofBits .f32 0x7F800000#32) = 1#1) : IsFin x := by
  refine Attn.fin_of ?_
  have e : Ideal.ofBits .f32 0x7F800000#32 = ⊤ := by simp [Ideal.ofBits, Ideal.ieee]
  rw [e] at h
  by_contra hn
  have h' : BitVec.ofBool (decide (max x (-x) < ⊤)) = 1#1 := h
  rw [decide_eq_false hn] at h'
  exact absurd h' (by decide)

theorem finite_of_pre (x : FVec Ideal ⟨3, ![1, 2048, 1024]⟩ .f32) (wq : FVec Ideal ⟨2, ![1024, 1024]⟩ .f32) (K V : FVec Ideal ⟨4, ![1, 2048, 128, 128]⟩ .f32)
    (wo : FVec Ideal ⟨2, ![1024, 1024]⟩ .f32) (h : Cert.Pre_finite_KernelIdeal.fn (F := Ideal) x wq K V wo = fun _ => 1#1) :
    (∀ i, IsFin (x i)) ∧ (∀ i, IsFin (wq i)) ∧ ∀ i, IsFin (K i) := by
  have h0 := congrFun h (fun a => a.elim0)
  obtain ⟨h12, h3⟩ := IntOp.andi_eq_one.1 h0
  obtain ⟨h1, h2⟩ := IntOp.andi_eq_one.1 h12
  haveI : Subsingleton Cert.Pre_finite_KernelIdeal.S_.Idx := ⟨fun a b => funext fun k => k.elim0⟩
  exact ⟨fun i => fin_of_cmp _ (Host.reduce_andi_all _ _ _ _ _ h1 i), fun i => fin_of_cmp _ (Host.reduce_andi_all _ _ _ _ _ h2 i),
    fun i => fin_of_cmp _ (Host.reduce_andi_all _ _ _ _ _ h3 i)⟩

end Cert.Meet

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Core.Main
public import proofs.«01_k».proof.Proof.Ring.Value
public import proofs.«01_k».proof.Proof.Value.Meet
public import Idealize.ShloMosaic.Lib.Pipeline.Regions
public import Idealize.ShloMosaic.Adequacy
public import Idealize.ShloMosaic.Init

@[expose] public section

noncomputable section

namespace Cert.Proof

open Idealize.ShloMosaic Idealize.SL.Sem
open scoped BigOperators

/-- Every execution of the kernel over any float values ends, with the arguments unchanged and every counter at zero. -/
theorem run_frame {F : FTy → Type} [FloatOps F] [Named F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.Whole.run_main m ρ)

/-- On the machine's numbers a named constant is its word. -/
abbrev words : Named Bits := ⟨fun _ _ {φ} bits => FloatOps.ofBits φ bits⟩

/-- The kernel on the machine's numbers: the text is the one proved over any float values. -/
theorem same_defs : Cert.Kernel.defs (F := Bits) = @Cert.KernelIdeal.defs Bits _ words _ := by chain_rfl

theorem frame_kernel : Cert.quiescent_Kernel := fun m ρ _ => by
  have h := @run_frame Bits _ words _ m ρ
  rw [← same_defs] at h
  exact h

theorem frame_kernelIdeal : Cert.quiescent_KernelIdeal := fun m ρ _ => run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_kernelIdeal_pre : Cert.quiescent_KernelIdeal_pre_finite_KernelIdeal := fun m ρ _ => run_frame (F := Ideal) m ρ

theorem frame_reference_pre : Cert.quiescent_ReferenceIdeal_pre_finite_ReferenceIdeal := fun m ρ _ => frame_reference m ρ trivial

/-- The one rewrite: the mask's literal is a named constant that stands for minus infinity. -/
theorem preserves : Cert.preserves_Kernel_KernelIdeal :=
  IdealRules.named_const.statement Cert.KernelIdeal.κ "mask" .f32 0xCE6E6B28#32 ⊥ rfl

/-- Over exact numbers, from finite `x`, `Wq` and keys, every device ends with the reference's result. -/
theorem algebraic : Cert.algebraic_KernelIdeal_ReferenceIdeal_pre_finite_KernelIdeal := by
  intro m ρ m' ρ' hpre hag
  refine ⟨_, (θ_run Cert.KernelIdeal.defs _ _).mono (fun _ h c => ⟨(h.1 c).1.trans ?_, (h.1 c).2⟩) (Cert.KernelIdeal.Whole.run_main (F := Ideal) m ρ),
    (θ_run Cert.ReferenceIdeal.defs _ _).mono (fun _ h => h 0) (Cert.ReferenceIdeal.Value.run (F := Ideal) m' ρ')⟩
  rw [Cert.ReferenceIdeal.Host.res_eq]
  funext j
  obtain ⟨a, i, p, rfl⟩ : ∃ (a : Fin 1) (i : Fin 2048) (p : Fin 1024), j = ix3 a i p := ⟨j 0, j 1, j 2, (ix3_eta j).symm⟩
  obtain rfl : a = 0 := Subsingleton.elim _ _
  rw [Cert.Meet.outH_eq]
  refine (Cert.KernelIdeal.Ring.outV_at _ c _).trans (Finset.sum_congr rfl fun d _ => ?_)
  obtain ⟨h0, h1, h2, h3, h4⟩ := hag d
  obtain ⟨fx, fw, fk⟩ := Cert.Meet.finite_of_pre _ _ _ _ _ (hpre d)
  refine (Cert.KernelIdeal.Value.coreV_at d _ _ _ _ (fun i t => fx (ix3 0 i t)) (fun t p => fw (ix2 t p)) (fun j H e => fk (ix4 0 j H e)) i p).trans
    (Finset.sum_congr rfl fun h _ => ?_)
  refine (congrArg (fun x => Cert.KernelIdeal.Value.headT d (Cert.KernelIdeal.Core.projOf x _) _ _ h i p) h0).trans ?_
  exact Cert.Meet.head_eq _ _ _ _ _ d _ _ _ h1 h4 h2 h3 h i p

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, frame_kernelIdeal_pre, frame_reference, frame_reference_pre, preserves, algebraic⟩

end Cert.Proof

end
